-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v17) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v14_0)) (v1 : (c : Dev Cert.MixIdeal.nD) → Buf (Elt Ideal) ((c.tc : Thread Cert.MixIdeal.nD Cert.MixIdeal.τ).loc Cert.MixIdeal.main_v14_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14_0) = v0 c
          ∧ r.2.mem ((c.tc : Thread Cert.MixIdeal.nD Cert.MixIdeal.τ).loc Cert.MixIdeal.main_v14_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v53) = v0 c
          ∧ r.2.mem ((c.tc : Thread Cert.MixReferenceIdeal.nD Cert.MixReferenceIdeal.τ).loc Cert.MixReferenceIdeal.main_v55) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v42) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v9)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v9) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v16) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hMix : Cert.Mix.Facts) (hMixIdeal : Cert.MixIdeal.Facts) (hMixReferenceIdeal : Cert.MixReferenceIdeal.Facts) (hUp : Cert.Up.Facts) (hUpIdeal : Cert.UpIdeal.Facts) (hUpReferenceIdeal : Cert.UpReferenceIdeal.Facts) (hIn : Cert.In.Facts) (hInIdeal : Cert.InIdeal.Facts) (hInReferenceIdeal : Cert.InReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Down (hDown := hDown)
    ∧ quiescent_DownIdeal (hDownIdeal := hDownIdeal)
    ∧ quiescent_DownReferenceIdeal (hDownReferenceIdeal := hDownReferenceIdeal)
    ∧ quiescent_Mix (hMix := hMix)
    ∧ quiescent_MixIdeal (hMixIdeal := hMixIdeal)
    ∧ quiescent_MixReferenceIdeal (hMixReferenceIdeal := hMixReferenceIdeal)
    ∧ quiescent_Up (hUp := hUp)
    ∧ quiescent_UpIdeal (hUpIdeal := hUpIdeal)
    ∧ quiescent_UpReferenceIdeal (hUpReferenceIdeal := hUpReferenceIdeal)
    ∧ quiescent_In (hIn := hIn)
    ∧ quiescent_InIdeal (hInIdeal := hInIdeal)
    ∧ quiescent_InReferenceIdeal (hInReferenceIdeal := hInReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Down_DownIdeal
    ∧ algebraic_DownIdeal_DownReferenceIdeal (hDownIdeal := hDownIdeal) (hDownReferenceIdeal := hDownReferenceIdeal)
    ∧ preserves_Mix_MixIdeal
    ∧ algebraic_MixIdeal_MixReferenceIdeal (hMixIdeal := hMixIdeal) (hMixReferenceIdeal := hMixReferenceIdeal)
    ∧ preserves_Up_UpIdeal
    ∧ algebraic_UpIdeal_UpReferenceIdeal (hUpIdeal := hUpIdeal) (hUpReferenceIdeal := hUpReferenceIdeal)
    ∧ preserves_In_InIdeal
    ∧ algebraic_InIdeal_InReferenceIdeal (hInIdeal := hInIdeal) (hInReferenceIdeal := hInReferenceIdeal)
-- ==== Pre_finite_scores.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S1024x2048 : Shape := ⟨2, ![1024, 2048]⟩
abbrev S2048x2048 : Shape := ⟨2, ![2048, 2048]⟩
abbrev S_ : Shape := ⟨0, ![]⟩

class Facts : Prop where
  bcast_S_S2x4096x8x128 : S_.BroadcastsInDim S2x4096x8x128 (![] : Fin 0 → Fin S2x4096x8x128.rank)
  bcast_S_S2x4096x8x64 : S_.BroadcastsInDim S2x4096x8x64 (![] : Fin 0 → Fin S2x4096x8x64.rank)
  bcast_S_S2x4096x64 : S_.BroadcastsInDim S2x4096x64 (![] : Fin 0 → Fin S2x4096x64.rank)

variable [Facts]

def fn {F : FTy → Type} [FloatOps F] (main_arg0 : FVec F S2x4096x8x128 .f32) (main_arg1 : FVec F S2x4096x8x64 .f32) (main_arg2 : FVec F S2x4096x8x128 .f32) (main_arg3 : FVec F S2x4096x64 .f32) (main_arg4 : FVec F S2x4096x8x128 .f32) (main_arg5 : FVec F S1024x2048 .f32) (main_arg6 : FVec F S2048x2048 .f32) : IVec S2x4096x8x128 1 × IVec S2x4096x8x64 1 × IVec S2x4096x8x128 1 × IVec S2x4096x64 1 :=
  let main_v0 : FVec F S2x4096x8x128 .f32 := Host.absf main_arg0
  let main_cst : FVec F S_ .f32 := constant S_ .f32 0x7F800000#32
  let main_v1 : FVec F S2x4096x8x128 .f32 := broadcastInDim S2x4096x8x128 ![] bcast_S_S2x4096x8x128 main_cst
  let main_v2 : IVec S2x4096x8x128 1 := cmpf .olt main_v0 main_v1
  let main_v3 : FVec F S2x4096x8x64 .f32 := Host.absf main_arg1
  let main_cst_0 : FVec F S_ .f32 := constant S_ .f32 0x7F800000#32
  let main_v4 : FVec F S2x4096x8x64 .f32 := broadcastInDim S2x4096x8x64 ![] bcast_S_S2x4096x8x64 main_cst_0
  let main_v5 : IVec S2x4096x8x64 1 := cmpf .olt main_v3 main_v4
  let main_v6 : FVec F S2x4096x8x128 .f32 := Host.absf main_arg2
  let main_cst_1 : FVec F S_ .f32 := constant S_ .f32 0x7F800000#32
  let main_v7 : FVec F S2x4096x8x128 .f32 := broadcastInDim S2x4096x8x128 ![] bcast_S_S2x4096x8x128 main_cst_1
  let main_v8 : IVec S2x4096x8x128 1 := cmpf .olt main_v6 main_v7
  let main_v9 : FVec F S2x4096x64 .f32 := Host.absf main_arg3
  let main_cst_2 : FVec F S_ .f32 := constant S_ .f32 0x7F800000#32
  let main_v10 : FVec F S2x4096x64 .f32 := broadcastInDim S2x4096x64 ![] bcast_S_S2x4096x64 main_cst_2
  let main_v11 : IVec S2x4096x64 1 := cmpf .olt main_v9 main_v10
  (main_v2, main_v5, main_v8, main_v11)
-- ==== Kernel.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S1024x2048 : Shape := ⟨2, ![1024, 2048]⟩
abbrev S2048x2048 : Shape := ⟨2, ![2048, 2048]⟩
abbrev S_ : Shape := ⟨0, ![]⟩
abbrev S2x4096x1x64 : Shape := ⟨4, ![2, 4096, 1, 64]⟩
abbrev S2x4096x8x256 : Shape := ⟨4, ![2, 4096, 8, 256]⟩
abbrev S2x8x4096x256 : Shape := ⟨4, ![2, 8, 4096, 256]⟩
abbrev S8192x1024 : Shape := ⟨2, ![8192, 1024]⟩
abbrev S1x1x4096x256 : Shape := ⟨4, ![1, 1, 4096, 256]⟩
abbrev S256x2048 : Shape := ⟨2, ![256, 2048]⟩
abbrev S4096x128 : Shape := ⟨2, ![4096, 128]⟩
abbrev S4096x256 : Shape := ⟨2, ![4096, 256]⟩
abbrev S1x1x1024x256 : Shape := ⟨4, ![1, 1, 1024, 256]⟩
abbrev S1024x256 : Shape := ⟨2, ![1024, 256]⟩
abbrev S4096x1024 : Shape := ⟨2, ![4096, 1024]⟩
abbrev S4096 : Shape := ⟨1, ![4096]⟩
abbrev S4096x1 : Shape := ⟨2, ![4096, 1]⟩
abbrev S1x1x512x256 : Shape := ⟨4, ![1, 1, 512, 256]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 34
  | .vmem => 18
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x64, .f32⟩
  | .hbm, ⟨2, _⟩ => ⟨S2x4096x8x128, .f32⟩
  | .hbm, ⟨3, _⟩ => ⟨S2x4096x64, .f32⟩
  | .hbm, ⟨4, _⟩ => ⟨S2x4096x8x128, .f32⟩
  | .hbm, ⟨5, _⟩ => ⟨S1024x2048, .f32⟩
  | .hbm, ⟨6, _⟩ => ⟨S2048x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x4096x1x64, .f32⟩
  | .hbm, ⟨15, _⟩ => ⟨S2x4096x8x64, .f32⟩
  | .hbm, ⟨16, _⟩ => ⟨S_, .f32⟩
  | .hbm, ⟨17, _⟩ => ⟨S2x4096x8x64, .f32⟩
  | .hbm, ⟨18, _⟩ => ⟨S_, .f32⟩
  | .hbm, ⟨19, _⟩ => ⟨S2x4096x8x128, .f32⟩
  | .hbm, ⟨20, _⟩ => ⟨S2x4096x8x256, .f32⟩
  | .hbm, ⟨21, _⟩ => ⟨S2x4096x8x256, .f32⟩
  | .hbm, ⟨22, _⟩ => ⟨S2x4096x8x256, .f32⟩
  | .hbm, ⟨23, _⟩ => ⟨S2x8x4096x256, .f32⟩
  | .hbm, ⟨24, _⟩ => ⟨S2x8x4096x256, .bf16⟩
  | .hbm, ⟨25, _⟩ => ⟨S2x4096x8x256, .f32⟩
  | .hbm, ⟨26, _⟩ => ⟨S2x8x4096x256, .f32⟩
  | .hbm, ⟨27, _⟩ => ⟨S2x8x4096x256, .bf16⟩
  | .hbm, ⟨28, _⟩ => ⟨S2x4096x8x256, .f32⟩
  | .hbm, ⟨29, _⟩ => ⟨S2x8x4096x256, .f32⟩
  | .hbm, ⟨30, _⟩ => ⟨S2x8x4096x256, .bf16⟩
  | .hbm, ⟨31, _⟩ => ⟨S8192x1024, .bf16⟩
  | .hbm, ⟨32, _⟩ => ⟨S1024x2048, .bf16⟩
  | .hbm, ⟨33, _⟩ => ⟨S2048x2048, .bf16⟩
  | .local _ .vmem, ⟨0, _⟩ => ⟨S1x1x4096x256, .bf16⟩
  | .local _ .vmem, ⟨1, _⟩ => ⟨S1x1x4096x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S4096x128, .bf16⟩
  | .local _ .vmem, ⟨11, _⟩ => ⟨S4096x128, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S4096x128, .f32⟩
  | .local _ .vmem, ⟨17, _⟩ => ⟨S4096x256, .f32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 1], ![false, false, false]⟩

@[reducible] def k0_t1_loop (i : grid0.Coords) : Scf.Loop 32 :=
  let c0_i32_9 : BitVec 32 := 0#32
  let arg2 : BitVec 32 := BitVec.ofNat 32 (i 2).val
  let c4_i32_7 : BitVec 32 := 4#32
  let v22 : BitVec 32 := Scalar.muli arg2 c4_i32_7
  let v23 : BitVec 32 := Scalar.subi v22 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let c1_i32_11 : BitVec 32 := 1#32
  ⟨c0_i32_9, v27, c1_i32_11⟩
def k0_mult1 (i : grid0.Coords) (k0_t1 : Fin (k0_t1_loop i).trips) : BitVec 32 :=
  let c0_i32_9 : BitVec 32 := 0#32
  let c1_i32_11 : BitVec 32 := 1#32
  let arg13 : BitVec 32 := Scf.iv c0_i32_9 c1_i32_11 k0_t1
  let c1024_i32_329 : BitVec 32 := 1024#32
  let v805 : BitVec 32 := Scalar.muli arg13 c1024_i32_329
  v805
def k0_off1 (i : grid0.Coords) (k0_t1 : Fin (k0_t1_loop i).trips) : Fin 4 → Nat :=
  let c0_330 : Index := 0#32
  let c0_331 : Index := 0#32
  let c0_i32_9 : BitVec 32 := 0#32
  let c1_i32_11 : BitVec 32 := 1#32
  let arg13 : BitVec 32 := Scf.iv c0_i32_9 c1_i32_11 k0_t1
  let c1024_i32_329 : BitVec 32 := 1024#32
  let v805 : BitVec 32 := Scalar.muli arg13 c1024_i32_329
  let v806 : BitVec 32 := v805
  let v807 : Index := Scalar.indexCast v806
  let c0_332 : Index := 0#32
  ![0, 0, v807.toNat, 0]
@[reducible] def k0_t2_loop (i : grid0.Coords) : Scf.Loop 32 :=
  let c0_i32_9 : BitVec 32 := 0#32
  let arg2 : BitVec 32 := BitVec.ofNat 32 (i 2).val
  let c4_i32_7 : BitVec 32 := 4#32
  let v22 : BitVec 32 := Scalar.muli arg2 c4_i32_7
  let v23 : BitVec 32 := Scalar.subi v22 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let v24 : BitVec 32 := Scalar.addi c0_i32_9 v23
  let c1_i32_12 : BitVec 32 := 1#32
  ⟨v27, v24, c1_i32_12⟩
def k0_mult2 (i : grid0.Coords) (k0_t2 : Fin (k0_t2_loop i).trips) : BitVec 32 :=
  let c0_i32_9 : BitVec 32 := 0#32
  let arg2 : BitVec 32 := BitVec.ofNat 32 (i 2).val
  let c4_i32_7 : BitVec 32 := 4#32
  let v22 : BitVec 32 := Scalar.muli arg2 c4_i32_7
  let v23 : BitVec 32 := Scalar.subi v22 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let c1_i32_12 : BitVec 32 := 1#32
  let arg13 : BitVec 32 := Scf.iv v27 c1_i32_12 k0_t2
  let c1024_i32_329 : BitVec 32 := 1024#32
  let v805 : BitVec 32 := Scalar.muli arg13 c1024_i32_329
  v805
def k0_off2 (i : grid0.Coords) (k0_t2 : Fin (k0_t2_loop i).trips) : Fin 4 → Nat :=
  let c0_330 : Index := 0#32
  let c0_331 : Index := 0#32
  let c0_i32_9 : BitVec 32 := 0#32
  let arg2 : BitVec 32 := BitVec.ofNat 32 (i 2).val
  let c4_i32_7 : BitVec 32 := 4#32
  let v22 : BitVec 32 := Scalar.muli arg2 c4_i32_7
  let v23 : BitVec 32 := Scalar.subi v22 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let c1_i32_12 : BitVec 32 := 1#32
  let arg13 : BitVec 32 := Scf.iv v27 c1_i32_12 k0_t2
  let c1024_i32_329 : BitVec 32 := 1024#32
  let v805 : BitVec 32 := Scalar.muli arg13 c1024_i32_329
  let v806 : BitVec 32 := v805
  let v807 : Index := Scalar.indexCast v806
  let c0_332 : Index := 0#32
  ![0, 0, v807.toNat, 0]
def k0_mult3 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c0_i32_14 : BitVec 32 := 0#32
  let v30 : BitVec 32 := Scalar.addi v29 c0_i32_14
  v30
def k0_off3 (i : grid0.Coords) (c0_i32_14 : BitVec 32) : Fin 4 → Nat :=
  let c0_15 : Index := 0#32
  let c0_16 : Index := 0#32
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let v30 : BitVec 32 := Scalar.addi v29 c0_i32_14
  let v31 : BitVec 32 := v30
  let v32 : Index := Scalar.indexCast v31
  let c0_17 : Index := 0#32
  ![0, 0, v32.toNat, 0]
def k0_off4 (i : grid0.Coords) (c0_i32_14 : BitVec 32) : Fin 4 → Nat :=
  let c0_38 : Index := 0#32
  let c0_39 : Index := 0#32
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let v30 : BitVec 32 := Scalar.addi v29 c0_i32_14
  let v31 : BitVec 32 := v30
  let v80 : Index := Scalar.indexCast v31
  let c0_40 : Index := 0#32
  ![0, 0, v80.toNat, 0]
def k0_mult4 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c0_i32_59 : BitVec 32 := 0#32
  let v140 : BitVec 32 := Scalar.addi v29 c0_i32_59
  v140
def k0_mult5 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c1024_i32_80 : BitVec 32 := 1024#32
  let v195 : BitVec 32 := Scalar.addi v29 c1024_i32_80
  v195
def k0_mult6 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c0_i32_126 : BitVec 32 := 0#32
  let v305 : BitVec 32 := Scalar.addi v29 c0_i32_126
  v305
def k0_mult7 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c1024_i32_147 : BitVec 32 := 1024#32
  let v360 : BitVec 32 := Scalar.addi v29 c1024_i32_147
  v360
def k0_mult8 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c2048_i32 : BitVec 32 := 2048#32
  let v415 : BitVec 32 := Scalar.addi v29 c2048_i32
  v415
def k0_mult9 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c0_i32_214 : BitVec 32 := 0#32
  let v525 : BitVec 32 := Scalar.addi v29 c0_i32_214
  v525
def k0_mult10 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c1024_i32_235 : BitVec 32 := 1024#32
  let v580 : BitVec 32 := Scalar.addi v29 c1024_i32_235
  v580
def k0_mult11 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c2048_i32_257 : BitVec 32 := 2048#32
  let v635 : BitVec 32 := Scalar.addi v29 c2048_i32_257
  v635
def k0_mult12 (i : grid0.Coords) : BitVec 32 :=
  let arg2 : BitVec 32 := BitVec.ofNat 32 (i 2).val
  let c4_i32_13 : BitVec 32 := 4#32
  let v28 : BitVec 32 := Scalar.muli arg2 c4_i32_13
  let c1024_i32 : BitVec 32 := 1024#32
  let v29 : BitVec 32 := Scalar.muli v28 c1024_i32
  let c3072_i32 : BitVec 32 := 3072#32
  let v690 : BitVec 32 := Scalar.addi v29 c3072_i32
  v690
def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32 : BitVec 32 := 1#32
  let v2 : BitVec 32 := Scalar.muli v1 c1_i32
  let arg2 : BitVec 32 := BitVec.ofNat 32 (i 2).val
  let v3 : BitVec 32 := Scalar.addi v2 arg2
  let c0_i32 : BitVec 32 := 0#32
  let v4 : BitVec 1 := Scalar.cmpi .sge v3 c0_i32
  let c4_i32 : BitVec 32 := 4#32
  let v5 : BitVec 1 := Scalar.cmpi .slt v3 c4_i32
  let v6 : BitVec 1 := Scalar.andi v4 v5
  let v7 : BitVec 32 := Scalar.extui v6
  let c0_i32_0 : BitVec 32 := 0#32
  let v8 : BitVec 1 := Scalar.cmpi .ne v7 c0_i32_0
  v8

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32 : BitVec 32 := 1#32
  let v2 : BitVec 32 := Scalar.muli v1 c1_i32
  let arg2 : BitVec 32 := BitVec.ofNat 32 (i 2).val
  let v3 : BitVec 32 := Scalar.addi v2 arg2
  let c4_i32_1 : BitVec 32 := 4#32
  let v9 : BitVec 1 := Scalar.cmpi .sge v3 c4_i32_1
  let c12_i32 : BitVec 32 := 12#32
  let v10 : BitVec 1 := Scalar.cmpi .slt v3 c12_i32
  let v11 : BitVec 1 := Scalar.andi v9 v10
  let v12 : BitVec 32 := Scalar.extui v11
  let c0_i32_2 : BitVec 32 := 0#32
  let v13 : BitVec 1 := Scalar.cmpi .ne v12 c0_i32_2
  v13

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let v4 : BitVec 32 := Scalar.subi v3 c0_i32
  let c0_i32_0 : BitVec 32 := 0#32
  let c3_i32 : BitVec 32 := 3#32
  let v5 : BitVec 32 := Scalar.maxsi c0_i32_0 v4
  let v6 : BitVec 32 := Scalar.minsi c3_i32 v5
  let c0_i32_1 : BitVec 32 := 0#32
  let c0_i32_2 : BitVec 32 := 0#32
  ![v6.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c4_i32 : BitVec 32 := 4#32
  let v4 : BitVec 32 := Scalar.subi v3 c4_i32
  let c0_i32 : BitVec 32 := 0#32
  let c7_i32 : BitVec 32 := 7#32
  let v5 : BitVec 32 := Scalar.maxsi c0_i32 v4
  let v6 : BitVec 32 := Scalar.minsi c7_i32 v5
  let c0_i32_0 : BitVec 32 := 0#32
  let c0_i32_1 : BitVec 32 := 0#32
  ![v6.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let v4 : BitVec 32 := Scalar.subi v3 c0_i32
  let c0_i32_0 : BitVec 32 := 0#32
  let c3_i32 : BitVec 32 := 3#32
  let v5 : BitVec 32 := Scalar.maxsi c0_i32_0 v4
  let v6 : BitVec 32 := Scalar.minsi c3_i32 v5
  let c0_i32_1 : BitVec 32 := 0#32
  let c0_i32_2 : BitVec 32 := 0#32
  ![v6.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c4_i32 : BitVec 32 := 4#32
  let v4 : BitVec 32 := Scalar.subi v3 c4_i32
  let c0_i32 : BitVec 32 := 0#32
  let c7_i32 : BitVec 32 := 7#32
  let v5 : BitVec 32 := Scalar.maxsi c0_i32 v4
  let v6 : BitVec 32 := Scalar.minsi c7_i32 v5
  let c0_i32_0 : BitVec 32 := 0#32
  let c0_i32_1 : BitVec 32 := 0#32
  ![v6.toNat, c0_i32_0.toNat]

abbrev stage0_0 : Fin 2 → Memref sig .tc .vmem S1x1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S1024x2048 : Shape := ⟨2, ![1024, 2048]⟩
abbrev S2048x2048 : Shape := ⟨2, ![2048, 2048]⟩
abbrev S_ : Shape := ⟨0, ![]⟩
abbrev S4096 : Shape := ⟨1, ![4096]⟩
abbrev S2x8x4096x4096 : Shape := ⟨4, ![2, 8, 4096, 4096]⟩
abbrev S2x4096x4096x8 : Shape := ⟨4, ![2, 4096, 4096, 8]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S8192x1024 : Shape := ⟨2, ![8192, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x64, .f32⟩
  | .hbm, ⟨2, _⟩ => ⟨S2x4096x8x128, .f32⟩
  | .hbm, ⟨3, _⟩ => ⟨S2x4096x64, .f32⟩
  | .hbm, ⟨4, _⟩ => ⟨S2x4096x8x128, .f32⟩
  | .hbm, ⟨5, _⟩ => ⟨S1024x2048, .f32⟩
  | .hbm, ⟨6, _⟩ => ⟨S2048x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096, .i32⟩
  | .hbm, ⟨12, _⟩ => ⟨S2x8x4096x4096, .f32⟩
  | .hbm, ⟨13, _⟩ => ⟨S2x4096x4096x8, .f32⟩
  | .hbm, ⟨14, _⟩ => ⟨S2x8x4096x4096, .f32⟩
  | .hbm, ⟨15, _⟩ => ⟨S2x8x4096x4096, .f32⟩
  | .hbm, ⟨16, _⟩ => ⟨S2x8x4096x4096, .f32⟩
  | .hbm, ⟨17, _⟩ => ⟨S2x8x4096x4096, .f32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S2x8x4096x4096, .i1⟩
  | .hbm, ⟨26, _⟩ => ⟨S2x8x4096x4096, .f32⟩
  | .hbm, ⟨27, _⟩ => ⟨S2x8x4096x4096, .f32⟩
  | .hbm, ⟨28, _⟩ => ⟨S_, .f32⟩
  | .hbm, ⟨29, _⟩ => ⟨S2x8x4096, .f32⟩
  | .hbm, ⟨30, _⟩ => ⟨S_, .f32⟩
  | .hbm, ⟨31, _⟩ => ⟨S2x8x4096, .f32⟩
  | .hbm, ⟨32, _⟩ => ⟨S2x8x4096, .f32⟩
  | .hbm, ⟨33, _⟩ => ⟨S2x8x4096x1, .f32⟩
  | .hbm, ⟨34, _⟩ => ⟨S2x8x4096x4096, .f32⟩
  | .hbm, ⟨35, _⟩ => ⟨S2x8x4096x4096, .f32⟩
  | .hbm, ⟨36, _⟩ => ⟨S2x8x4096x4096, .f32⟩
  | .hbm, ⟨37, _⟩ => ⟨S_, .f32⟩
  | .hbm, ⟨38, _⟩ => ⟨S2x8x4096, .f32⟩
  | .hbm, ⟨39, _⟩ => ⟨S2x8x4096x1, .f32⟩
  | .hbm, ⟨40, _⟩ => ⟨S2x8x4096x4096, .f32⟩
  | .hbm, ⟨41, _⟩ => ⟨S2x8x4096x4096, .f32⟩
  | .hbm, ⟨42, _⟩ => ⟨S2x8x128x4096, .f32⟩
  | .hbm, ⟨43, _⟩ => ⟨S2x4096x8x128, .f32⟩
  | .hbm, ⟨44, _⟩ => ⟨S8192x1024, .f32⟩
  | .hbm, ⟨45, _⟩ => ⟨S8192x1024, .bf16⟩
  | .hbm, ⟨46, _⟩ => ⟨S1024x2048, .bf16⟩
  | .hbm, ⟨47, _⟩ => ⟨S2048x2048, .bf16⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Down.lean ====
abbrev S2x4096x5632 : Shape := ⟨3, ![2, 4096, 5632]⟩
abbrev S5632x2048 : Shape := ⟨2, ![5632, 2048]⟩
abbrev S2x4096x2048 : Shape := ⟨3, ![2, 4096, 2048]⟩
abbrev S2x1x2048 : Shape := ⟨3, ![2, 1, 2048]⟩
abbrev S2048 : Shape := ⟨1, ![2048]⟩
abbrev S8192x5632 : Shape := ⟨2, ![8192, 5632]⟩
abbrev S8192x2048 : Shape := ⟨2, ![8192, 2048]⟩
abbrev S1x2048 : Shape := ⟨2, ![1, 2048]⟩
abbrev S256x5632 : Shape := ⟨2, ![256, 5632]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x5632, .f32⟩
  | .hbm, ⟨1, _⟩ => ⟨S5632x2048, .f32⟩
  | .hbm, ⟨2, _⟩ => ⟨S2x4096x2048, .f32⟩
  | .hbm, ⟨3, _⟩ => ⟨S2x1x2048, .f32⟩
  | .hbm, ⟨4, _⟩ => ⟨S2048, .f32⟩
  | .hbm, ⟨5, _⟩ => ⟨S8192x5632, .f32⟩
  | .hbm, ⟨6, _⟩ => ⟨S8192x5632, .bf16⟩
  | .hbm, ⟨7, _⟩ => ⟨S5632x2048, .bf16⟩
  | .hbm, ⟨8, _⟩ => ⟨S8192x2048, .f32⟩
  | .hbm, ⟨9, _⟩ => ⟨S1x2048, .f32⟩
  | .hbm, ⟨10, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S2x4096x5632 : Shape := ⟨3, ![2, 4096, 5632]⟩
abbrev S5632x2048 : Shape := ⟨2, ![5632, 2048]⟩
abbrev S2x4096x2048 : Shape := ⟨3, ![2, 4096, 2048]⟩
abbrev S2x1x2048 : Shape := ⟨3, ![2, 1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S5632x2048, .f32⟩
  | .hbm, ⟨2, _⟩ => ⟨S2x4096x2048, .f32⟩
  | .hbm, ⟨3, _⟩ => ⟨S2x1x2048, .f32⟩
  | .hbm, ⟨4, _⟩ => ⟨S2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S8192x2048, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Mix.lean ====
abbrev S2x4096x1024 : Shape := ⟨3, ![2, 4096, 1024]⟩
abbrev S2x4096x2048 : Shape := ⟨3, ![2, 4096, 2048]⟩
abbrev S8192x6144 : Shape := ⟨2, ![8192, 6144]⟩
abbrev S1024x2048 : Shape := ⟨2, ![1024, 2048]⟩
abbrev S2048x2048 : Shape := ⟨2, ![2048, 2048]⟩
abbrev S2x1x2048 : Shape := ⟨3, ![2, 1, 2048]⟩
abbrev S2048 : Shape := ⟨1, ![2048]⟩
abbrev S8192x2048 : Shape := ⟨2, ![8192, 2048]⟩
abbrev S8192x10240 : Shape := ⟨2, ![8192, 10240]⟩
abbrev S8192x1024 : Shape := ⟨2, ![8192, 1024]⟩
abbrev S1x2048 : Shape := ⟨2, ![1, 2048]⟩
abbrev S256x1024 : Shape := ⟨2, ![256, 1024]⟩
abbrev S256x2048 : Shape := ⟨2, ![256, 2048]⟩
abbrev S1x1x2048 : Shape := ⟨3, ![1, 1, 2048]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 30
  | .vmem => 25
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2048, .f32⟩
  | .hbm, ⟨2, _⟩ => ⟨S8192x6144, .f32⟩
  | .hbm, ⟨3, _⟩ => ⟨S2x4096x2048, .f32⟩
  | .hbm, ⟨4, _⟩ => ⟨S2x4096x2048, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2x4096x2048, .f32⟩
  | .hbm, ⟨9, _⟩ => ⟨S2x1x2048, .f32⟩
  | .hbm, ⟨10, _⟩ => ⟨S2048, .f32⟩
  | .hbm, ⟨11, _⟩ => ⟨S2048, .f32⟩
  | .hbm, ⟨12, _⟩ => ⟨S2x1x2048, .f32⟩
  | .hbm, ⟨13, _⟩ => ⟨S2x1x2048, .f32⟩
  | .hbm, ⟨14, _⟩ => ⟨S8192x2048, .f32⟩
  | .hbm, ⟨15, _⟩ => ⟨S8192x2048, .f32⟩
  | .hbm, ⟨16, _⟩ => ⟨S8192x10240, .f32⟩
  | .hbm, ⟨17, _⟩ => ⟨S8192x10240, .bf16⟩
  | .hbm, ⟨18, _⟩ => ⟨S8192x1024, .f32⟩
  | .hbm, ⟨19, _⟩ => ⟨S8192x1024, .bf16⟩
  | .hbm, ⟨20, _⟩ => ⟨S8192x2048, .f32⟩
  | .hbm, ⟨21, _⟩ => ⟨S8192x2048, .bf16⟩
  | .hbm, ⟨22, _⟩ => ⟨S1024x2048, .bf16⟩
  | .hbm, ⟨23, _⟩ => ⟨S2048x2048, .bf16⟩
  | .hbm, ⟨24, _⟩ => ⟨S2048x2048, .bf16⟩
  | .hbm, ⟨25, _⟩ => ⟨S8192x2048, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1024x2048, .bf16⟩
  | .local _ .vmem, ⟨9, _⟩ => ⟨S2048x2048, .bf16⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x2048, .f32⟩
  | .local _ .vmem, ⟨16, _⟩ => ⟨S1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixReferenceIdeal.lean ====
abbrev S2x4096x1024 : Shape := ⟨3, ![2, 4096, 1024]⟩
abbrev S2x4096x2048 : Shape := ⟨3, ![2, 4096, 2048]⟩
abbrev S8192x6144 : Shape := ⟨2, ![8192, 6144]⟩
abbrev S1024x2048 : Shape := ⟨2, ![1024, 2048]⟩
abbrev S2048x2048 : Shape := ⟨2, ![2048, 2048]⟩
abbrev S2x1x2048 : Shape := ⟨3, ![2, 1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 81
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2048, .f32⟩
  | .hbm, ⟨2, _⟩ => ⟨S8192x6144, .f32⟩
  | .hbm, ⟨3, _⟩ => ⟨S2x4096x2048, .f32⟩
  | .hbm, ⟨4, _⟩ => ⟨S2x4096x2048, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2x4096x2048, .f32⟩
  | .hbm, ⟨9, _⟩ => ⟨S2x1x2048, .f32⟩
  | .hbm, ⟨10, _⟩ => ⟨S2048, .f32⟩
  | .hbm, ⟨11, _⟩ => ⟨S2048, .f32⟩
  | .hbm, ⟨12, _⟩ => ⟨S2x1x2048, .f32⟩
  | .hbm, ⟨13, _⟩ => ⟨S2x1x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x4096x2048, .f32⟩
  | .hbm, ⟨29, _⟩ => ⟨S2x4096x2048, .f32⟩
  | .hbm, ⟨30, _⟩ => ⟨S_, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x2048, .f32⟩
  | .hbm, ⟨48, _⟩ => ⟨S2x4096x2048, .f32⟩
  | .hbm, ⟨49, _⟩ => ⟨S1x1x2048, .f32⟩
  | .hbm, ⟨50, _⟩ => ⟨S2x4096x2048, .f32⟩
  | .hbm, ⟨51, _⟩ => ⟨S2x4096x2048, .f32⟩
  | .hbm, ⟨52, _⟩ => ⟨S2x4096x2048, .f32⟩
  | .hbm, ⟨53, _⟩ => ⟨S2x4096x2048, .f32⟩
  | .hbm, ⟨54, _⟩ => ⟨S2x4096x2048, .f32⟩
  | .hbm, ⟨55, _⟩ => ⟨S2x4096x2048, .f32⟩
  | .hbm, ⟨56, _⟩ => ⟨S_, .f32⟩
  | .hbm, ⟨57, _⟩ => ⟨S2x4096, .f32⟩
  | .hbm, ⟨58, _⟩ => ⟨S2x4096x1, .f32⟩
  | .hbm, ⟨59, _⟩ => ⟨S_, .f32⟩
  | .hbm, ⟨60, _⟩ => ⟨S2x4096x1, .f32⟩
  | .hbm, ⟨61, _⟩ => ⟨S2x4096x1, .f32⟩
  | .hbm, ⟨62, _⟩ => ⟨S_, .f32⟩
  | .hbm, ⟨63, _⟩ => ⟨S2x4096x1, .f32⟩
  | .hbm, ⟨64, _⟩ => ⟨S2x4096x1, .f32⟩
  | .hbm, ⟨65, _⟩ => ⟨S2x4096x1, .f32⟩
  | .hbm, ⟨66, _⟩ => ⟨S2x4096x2048, .f32⟩
  | .hbm, ⟨67, _⟩ => ⟨S2x4096x2048, .f32⟩
  | .hbm, ⟨68, _⟩ => ⟨S1x1x2048, .f32⟩
  | .hbm, ⟨69, _⟩ => ⟨S2x4096x2048, .f32⟩
  | .hbm, ⟨70, _⟩ => ⟨S2x4096x2048, .f32⟩
  | .hbm, ⟨71, _⟩ => ⟨S_, .f32⟩
  | .hbm, ⟨72, _⟩ => ⟨S2x1x2048, .f32⟩
  | .hbm, ⟨73, _⟩ => ⟨S2x1x2048, .f32⟩
  | .hbm, ⟨74, _⟩ => ⟨S2x4096x2048, .f32⟩
  | .hbm, ⟨75, _⟩ => ⟨S2x4096x2048, .f32⟩
  | .hbm, ⟨76, _⟩ => ⟨S2x4096x2048, .f32⟩
  | .hbm, ⟨77, _⟩ => ⟨S2x4096x2048, .f32⟩
  | .hbm, ⟨78, _⟩ => ⟨S8192x2048, .f32⟩
  | .hbm, ⟨79, _⟩ => ⟨S8192x2048, .f32⟩
  | .hbm, ⟨80, _⟩ => ⟨S8192x2048, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== Up.lean ====
abbrev S2x4096x2048 : Shape := ⟨3, ![2, 4096, 2048]⟩
abbrev S2048x11264 : Shape := ⟨2, ![2048, 11264]⟩
abbrev S3x11264 : Shape := ⟨2, ![3, 11264]⟩
abbrev S11264 : Shape := ⟨1, ![11264]⟩
abbrev S8192x2048 : Shape := ⟨2, ![8192, 2048]⟩
abbrev S1x11264 : Shape := ⟨2, ![1, 11264]⟩
abbrev S8192x5632 : Shape := ⟨2, ![8192, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S2048x1024 : Shape := ⟨2, ![2048, 1024]⟩
abbrev S1032x1024 : Shape := ⟨2, ![1032, 1024]⟩
abbrev S8x1024 : Shape := ⟨2, ![8, 1024]⟩
abbrev S1024x1024 : Shape := ⟨2, ![1024, 1024]⟩

abbrev nBuf : Space → Nat
  | .hbm => 8
  | .vmem => 18
  | .smem => 0
  | _ => 0

abbrev bufTy : (tb : Table) → Fin (tcTables nBuf tb) → BufTy
  | .hbm, ⟨0, _⟩ => ⟨S2x4096x2048, .f32⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S8192x2048, .f32⟩
  | .hbm, ⟨5, _⟩ => ⟨S8192x2048, .bf16⟩
  | .hbm, ⟨6, _⟩ => ⟨S1x11264, .f32⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S2048x1024, .bf16⟩
  | .local _ .vmem, ⟨17, _⟩ => ⟨S1032x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpReferenceIdeal.lean ====
abbrev S2x4096x2048 : Shape := ⟨3, ![2, 4096, 2048]⟩
abbrev S2048x11264 : Shape := ⟨2, ![2048, 11264]⟩
abbrev S3x11264 : Shape := ⟨2, ![3, 11264]⟩
abbrev S11264 : Shape := ⟨1, ![11264]⟩
abbrev S2x4096x11264 : Shape := ⟨3, ![2, 4096, 11264]⟩
abbrev S_ : Shape := ⟨0, ![]⟩
abbrev S2x4098x11264 : Shape := ⟨3, ![2, 4098, 11264]⟩
abbrev S1x11264 : Shape := ⟨2, ![1, 11264]⟩
abbrev S1x1x11264 : Shape := ⟨3, ![1, 1, 11264]⟩
abbrev S2x4096x5632 : Shape := ⟨3, ![2, 4096, 5632]⟩
abbrev S8192x5632 : Shape := ⟨2, ![8192, 5632]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S2x4096x11264, .f32⟩
  | .hbm, ⟨5, _⟩ => ⟨S_, .i32⟩
  | .hbm, ⟨6, _⟩ => ⟨S_, .f32⟩
  | .hbm, ⟨7, _⟩ => ⟨S2x4098x11264, .f32⟩
  | .hbm, ⟨8, _⟩ => ⟨S2x4096x11264, .f32⟩
  | .hbm, ⟨9, _⟩ => ⟨S1x11264, .f32⟩
  | .hbm, ⟨10, _⟩ => ⟨S11264, .f32⟩
  | .hbm, ⟨11, _⟩ => ⟨S1x1x11264, .f32⟩
  | .hbm, ⟨12, _⟩ => ⟨S2x4096x11264, .f32⟩
  | .hbm, ⟨13, _⟩ => ⟨S2x4096x11264, .f32⟩
  | .hbm, ⟨14, _⟩ => ⟨S2x4096x11264, .f32⟩
  | .hbm, ⟨15, _⟩ => ⟨S1x11264, .f32⟩
  | .hbm, ⟨16, _⟩ => ⟨S11264, .f32⟩
  | .hbm, ⟨17, _⟩ => ⟨S1x1x11264, .f32⟩
  | .hbm, ⟨18, _⟩ => ⟨S2x4096x11264, .f32⟩
  | .hbm, ⟨19, _⟩ => ⟨S2x4096x11264, .f32⟩
  | .hbm, ⟨20, _⟩ => ⟨S2x4096x11264, .f32⟩
  | .hbm, ⟨21, _⟩ => ⟨S2x4096x11264, .f32⟩
  | .hbm, ⟨22, _⟩ => ⟨S1x11264, .f32⟩
  | .hbm, ⟨23, _⟩ => ⟨S11264, .f32⟩
  | .hbm, ⟨24, _⟩ => ⟨S1x1x11264, .f32⟩
  | .hbm, ⟨25, _⟩ => ⟨S2x4096x11264, .f32⟩
  | .hbm, ⟨26, _⟩ => ⟨S2x4096x11264, .f32⟩
  | .hbm, ⟨27, _⟩ => ⟨S2x4096x11264, .f32⟩
  | .hbm, ⟨28, _⟩ => ⟨S1x1x11264, .f32⟩
  | .hbm, ⟨29, _⟩ => ⟨S2x4096x11264, .f32⟩
  | .hbm, ⟨30, _⟩ => ⟨S2x4096x11264, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2x4096x5632, .f32⟩
  | .hbm, ⟨35, _⟩ => ⟨S_, .f32⟩
  | .hbm, ⟨36, _⟩ => ⟨S2x4096x5632, .f32⟩
  | .hbm, ⟨37, _⟩ => ⟨S2x4096x5632, .f32⟩
  | .hbm, ⟨38, _⟩ => ⟨S2x4096x5632, .f32⟩
  | .hbm, ⟨39, _⟩ => ⟨S_, .f32⟩
  | .hbm, ⟨40, _⟩ => ⟨S2x4096x5632, .f32⟩
  | .hbm, ⟨41, _⟩ => ⟨S2x4096x5632, .f32⟩
  | .hbm, ⟨42, _⟩ => ⟨S2x4096x5632, .f32⟩
  | .hbm, ⟨43, _⟩ => ⟨S_, .f32⟩
  | .hbm, ⟨44, _⟩ => ⟨S2x4096x5632, .f32⟩
  | .hbm, ⟨45, _⟩ => ⟨S2x4096x5632, .f32⟩
  | .hbm, ⟨46, _⟩ => ⟨S_, .f32⟩
  | .hbm, ⟨47, _⟩ => ⟨S2x4096x5632, .f32⟩
  | .hbm, ⟨48, _⟩ => ⟨S2x4096x5632, .f32⟩
  | .hbm, ⟨49, _⟩ => ⟨S2x4096x5632, .f32⟩
  | .hbm, ⟨50, _⟩ => ⟨S2x4096x5632, .f32⟩
  | .hbm, ⟨51, _⟩ => ⟨S8192x5632, .f32⟩
  | .hbm, ⟨52, _⟩ => ⟨S8192x5632, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== In.lean ====
abbrev S2x4096x2048 : Shape := ⟨3, ![2, 4096, 2048]⟩
abbrev S2048x11088 : Shape := ⟨2, ![2048, 11088]⟩
abbrev S11 : Shape := ⟨1, ![11]⟩
abbrev S11088x2048 : Shape := ⟨2, ![11088, 2048]⟩
abbrev S8192x2048 : Shape := ⟨2, ![8192, 2048]⟩
abbrev S64x2048 : Shape := ⟨2, ![64, 2048]⟩
abbrev S16x2048 : Shape := ⟨2, ![16, 2048]⟩
abbrev S_ : Shape := ⟨0, ![]⟩
abbrev S96x2048 : Shape := ⟨2, ![96, 2048]⟩
abbrev S32x2048 : Shape := ⟨2, ![32, 2048]⟩
abbrev S256x2048 : Shape := ⟨2, ![256, 2048]⟩
abbrev S8192x11264 : Shape := ⟨2, ![8192, 11264]⟩
abbrev S2048x2048 : Shape := ⟨2, ![2048, 2048]⟩
abbrev S1024x2048 : Shape := ⟨2, ![1024, 2048]⟩
abbrev S1 : Shape := ⟨1, ![1]⟩
abbrev S2048x1024 : Shape := ⟨2, ![2048, 1024]⟩
abbrev S1024x1024 : Shape := ⟨2, ![1024, 1024]⟩

abbrev nBuf : Space → Nat
  | .hbm => 13
  | .vmem => 8
  | .smem => 1
  | _ => 0

abbrev bufTy : (tb : Table) → Fin (tcTables nBuf tb) → BufTy
  | .hbm, ⟨0, _⟩ => ⟨S2x4096x2048, .f32⟩
  | .hbm, ⟨1, _⟩ => ⟨S2048x11088, .f32⟩
  | .hbm, ⟨2, _⟩ => ⟨S11088x2048, .f32⟩
  | .hbm, ⟨3, _⟩ => ⟨S8192x2048, .f32⟩
  | .hbm, ⟨4, _⟩ => ⟨S8192x2048, .bf16⟩
  | .hbm, ⟨5, _⟩ => ⟨S64x2048, .f32⟩
  | .hbm, ⟨6, _⟩ => ⟨S16x2048, .f32⟩
  | .hbm, ⟨7, _⟩ => ⟨S_, .f32⟩
  | .hbm, ⟨8, _⟩ => ⟨S96x2048, .f32⟩
  | .hbm, ⟨9, _⟩ => ⟨S32x2048, .f32⟩
  | .hbm, ⟨10, _⟩ => ⟨S32x2048, .f32⟩
  | .hbm, ⟨11, _⟩ => ⟨S256x2048, .f32⟩
  | .hbm, ⟨12, _⟩ => ⟨S8192x11264, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S256x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .smem, ⟨0, _⟩ => ⟨S11, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c16_i32 : BitVec 32 := 16#32
  let v2 : BitVec 32 := Scalar.muli v1 c16_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S11.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S11) ![v0.toNat] S1.size (k0_off1_inb i)) numel1_S1
  let c16_i32 : BitVec 32 := 16#32
  let v2 : BitVec 32 := Scalar.muli v1 c16_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InReferenceIdeal.lean ====
abbrev S2x4096x2048 : Shape := ⟨3, ![2, 4096, 2048]⟩
abbrev S2048x11088 : Shape := ⟨2, ![2048, 11088]⟩
abbrev S2x4096x11088 : Shape := ⟨3, ![2, 4096, 11088]⟩
abbrev S8192x11088 : Shape := ⟨2, ![8192, 11088]⟩
abbrev S8192x512 : Shape := ⟨2, ![8192, 512]⟩
abbrev S8192x256 : Shape := ⟨2, ![8192, 256]⟩
abbrev S8192x64 : Shape := ⟨2, ![8192, 64]⟩
abbrev S8192x1024 : Shape := ⟨2, ![8192, 1024]⟩
abbrev S8192x2048 : Shape := ⟨2, ![8192, 2048]⟩
abbrev S8192x16 : Shape := ⟨2, ![8192, 16]⟩
abbrev S_ : Shape := ⟨0, ![]⟩
abbrev S8192x96 : Shape := ⟨2, ![8192, 96]⟩
abbrev S8192x32 : Shape := ⟨2, ![8192, 32]⟩
abbrev S8192x11264 : Shape := ⟨2, ![8192, 11264]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x11088, .f32⟩
  | .hbm, ⟨2, _⟩ => ⟨S2x4096x11088, .f32⟩
  | .hbm, ⟨3, _⟩ => ⟨S8192x11088, .f32⟩
  | .hbm, ⟨4, _⟩ => ⟨S8192x512, .f32⟩
  | .hbm, ⟨5, _⟩ => ⟨S8192x256, .f32⟩
  | .hbm, ⟨6, _⟩ => ⟨S8192x64, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x16, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x96, .f32⟩
  | .hbm, ⟨16, _⟩ => ⟨S8192x32, .f32⟩
  | .hbm, ⟨17, _⟩ => ⟨S8192x32, .f32⟩
  | .hbm, ⟨18, _⟩ => ⟨S8192x11264, .f32⟩
  | .hbm, ⟨19, _⟩ => ⟨S8192x11264, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Proof.DownValue.lean ====
module

public import proofs.«01_k».proof.Proof.Gen.DownIdeal.Value
public import proofs.«01_k».proof.Proof.Gen.DownReferenceIdeal.Read
public import Idealize.ShloMosaic.Lib.Pipeline.ValueKit
public import Idealize.ShloMosaic.Lib.Pointwise
public import Idealize.ShloMosaic.Lib.StableHlo.RunRead

/-! The down projection: the array its call leaves, as the reference's function of its arguments. -/

@[expose] public section

set_option maxRecDepth 16384

noncomputable section

namespace Cert.DownValue

open Cert.DownIdeal Cert.DownIdeal.Gen
open Idealize.ShloMosaic Idealize.ShloMosaic.TcCoe Idealize.ShloMosaic.Tactic
open Idealize.ShloMosaic.Pipeline (Dat Cfg Window)
open scoped BigOperators

/-- The root mean square factor of a row. -/
def factor (f : Fin 2048 → EReal) : EReal :=
  Ideal.rsqrt (Ideal.div (∑ k, f k * f k) (Ideal.ofBits .f32 0x45000000#32) + Ideal.ofBits .f32 0x358637BD#32)

/-- What the call stores at row `r` and column `d` of a block. -/
theorem block_apply (g : FVec Ideal S256x5632 .bf16) (w : FVec Ideal S5632x2048 .bf16) (x : FVec Ideal S256x2048 .f32) (a : FVec Ideal S1x1x2048 .f32)
    (p : FVec Ideal S1x2048 .f32) (r : Fin 256) (d : Fin 2048) :
    k0_pay1 (F := Ideal) g w x a p (ix2 r d)
      = x (ix2 r d) + (∑ k, g (ix2 r k) * w (ix2 k d)) * factor (fun d => ∑ k, g (ix2 r k) * w (ix2 k d)) * (a (ix3 0 0 d) * p (ix2 0 d)) := by
  pointwise [k0_pay1]
  rfl

/-- The reference at row `r` of batch entry `b`. -/
theorem reference_apply (g : FVec Ideal S2x4096x5632 .f32) (w : FVec Ideal S5632x2048 .f32) (x : FVec Ideal S2x4096x2048 .f32) (a : FVec Ideal S2x1x2048 .f32)
    (p : FVec Ideal S2048 .f32) (b : Fin 2) (r : Fin 4096) (d : Fin 2048) :
    Cert.DownReferenceIdeal.Read.val_main_v16 (F := Ideal) g w x a p (ix3 b r d)
      = x (ix3 b r d) + a (ix3 b 0 d) * ((∑ k, g (ix3 b r k) * w (ix2 k d)) * factor (fun d => ∑ k, g (ix3 b r k) * w (ix2 k d)) * p (ix1 d)) := by
  open Cert.DownReferenceIdeal.Read in
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The batch entry of a row of the flattened arrays. -/
abbrev batch (r : Fin 8192) : Fin 2 := ⟨r.val / 4096, by omega⟩
/-- The row within its batch entry. -/
abbrev inner (r : Fin 8192) : Fin 4096 := ⟨r.val % 4096, by omega⟩

variable (m : (ℓ : Loc nD τ sig) → Buf (Elt Ideal) ℓ) (c : Dev nD)

theorem hidden_eq (g : FVec Ideal S2x4096x5632 .f32) (h : m (c.tc.loc main_arg0) = g) (r : Fin 8192) (k : Fin 5632) :
    V m c main_v1 (ix2 r k) = g (ix3 (batch r) (inner r) k) := by
  entry_read
  rw [h]
  pointwise []

theorem weights_eq (w : FVec Ideal S5632x2048 .f32) (h : m (c.tc.loc main_arg1) = w) (k : Fin 5632) (d : Fin 2048) :
    V m c main_v2 (ix2 k d) = w (ix2 k d) := by
  entry_read
  rw [h]
  pointwise []

theorem residual_eq (x : FVec Ideal S2x4096x2048 .f32) (h : m (c.tc.loc main_arg2) = x) (r : Fin 8192) (d : Fin 2048) :
    V m c main_v3 (ix2 r d) = x (ix3 (batch r) (inner r) d) := by
  entry_read
  rw [h]
  pointwise []

theorem post_eq (p : FVec Ideal S2048 .f32) (h : m (c.tc.loc main_arg4) = p) (d : Fin 2048) :
    V m c main_v4 (ix2 0 d) = p (ix1 d) := by
  entry_read
  rw [h]
  pointwise []

theorem idx_0 (t : Fin cfg0.N) : win0_0.index t = ![t.val, 0] :=
  (by decide +kernel : ∀ t : Fin grid0.N, win0_0.index t = ![t.val, 0]) t
theorem idx_1 (t : Fin cfg0.N) : win0_1.index t = ![0, 0] :=
  (by decide +kernel : ∀ t : Fin grid0.N, win0_1.index t = ![0, 0]) t
theorem idx_2 (t : Fin cfg0.N) : win0_2.index t = ![t.val, 0] :=
  (by decide +kernel : ∀ t : Fin grid0.N, win0_2.index t = ![t.val, 0]) t
theorem idx_3 (t : Fin cfg0.N) : win0_3.index t = ![t.val / 16, 0, 0] :=
  (by decide +kernel : ∀ t : Fin grid0.N, win0_3.index t = ![t.val / 16, 0, 0]) t
theorem idx_4 (t : Fin cfg0.N) : win0_4.index t = ![0, 0] :=
  (by decide +kernel : ∀ t : Fin grid0.N, win0_4.index t = ![0, 0]) t
theorem idx_5 (t : Fin cfg0.N) : win0_5.index t = ![t.val, 0] :=
  (by decide +kernel : ∀ t : Fin grid0.N, win0_5.index t = ![t.val, 0]) t

/-- Row `r` of the block of a point, as a row of the array. -/
abbrev row (t : Fin cfg0.N) (r : Fin 256) : Fin 8192 := ⟨t.val * 256 + r.val, by have := t.isLt; have h : cfg0.N = 32 := rfl; omega⟩

theorem block_0 (t : Fin cfg0.N) (r : Fin 256) (k : Fin 5632) : iblk m c 0 t (ix2 r k) = V m c main_v1 (ix2 (row t r) k) := by
  blk_ext [iblk, idx_0 t]
theorem block_1 (t : Fin cfg0.N) (k : Fin 5632) (d : Fin 2048) : iblk m c 1 t (ix2 k d) = V m c main_v2 (ix2 k d) := by
  blk_ext [iblk, idx_1 t]
theorem block_2 (t : Fin cfg0.N) (r : Fin 256) (k : Fin 2048) : iblk m c 2 t (ix2 r k) = V m c main_v3 (ix2 (row t r) k) := by
  blk_ext [iblk, idx_2 t]
theorem block_3 (t : Fin cfg0.N) (d : Fin 2048) (b : Fin 2) (hb : b.val = t.val / 16) : iblk m c 3 t (ix3 0 0 d) = V m c main_arg3 (ix3 b 0 d) := by
  blk_ext [iblk, idx_3 t, hb]
theorem block_4 (t : Fin cfg0.N) (d : Fin 2048) : iblk m c 4 t (ix2 0 d) = V m c main_v4 (ix2 0 d) := by
  blk_ext [iblk, idx_4 t]

/-- The array the call leaves is the reference's. -/
theorem arr_5 (g : FVec Ideal S2x4096x5632 .f32) (w : FVec Ideal S5632x2048 .f32) (x : FVec Ideal S2x4096x2048 .f32) (a : FVec Ideal S2x1x2048 .f32)
    (p : FVec Ideal S2048 .f32) (e0 : m (c.tc.loc main_arg0) = g) (e1 : m (c.tc.loc main_arg1) = w) (e2 : m (c.tc.loc main_arg2) = x)
    (e3 : m (c.tc.loc main_arg3) = a) (e4 : m (c.tc.loc main_arg4) = p) :
    (dats m 0 c).arrAt 5 cfg0.N = Cert.DownReferenceIdeal.Read.val_main_v17 (F := Ideal) g w x a p := by
  refine (dats m 0 c).arrAt_eq_of_covers 5 _ (by decide +kernel) fun t hf y => ?_
  blk_simp
  rw [after0_5]
  frame_out
  rw [Cert.DownReferenceIdeal.Read.val_main_v17_apply]
  obtain ⟨r, d, rfl⟩ : ∃ (r : Fin 256) (d : Fin 2048), y = ix2 r d := ⟨y 0, y 1, by funext a; fin_cases a <;> rfl⟩
  generalize hi : ((View.whole main_v5).slice (win0_5.rect t)).emb (ix2 r d) = i
  have h0 : (i 0).val = t.val * 256 + r.val := by rw [← hi]; blk_simp [idx_5 t]
  have h1 : (i 1).val = d.val := by rw [← hi]; blk_simp [idx_5 t]
  have hr := r.isLt
  have hd := d.isLt
  have ei : Cert.DownReferenceIdeal.Read.idx_main_v17 i = ix3 (batch (row t r)) (inner (row t r)) d := by
    funext a; fin_cases a <;> refine Fin.ext ?_
    · show ((i 0).val * 2048 + (i 1).val) / 8388608 = (t.val * 256 + r.val) / 4096; omega
    · show ((i 0).val * 2048 + (i 1).val) / 2048 % 4096 = (t.val * 256 + r.val) % 4096; omega
    · show ((i 0).val * 2048 + (i 1).val) % 2048 = d.val; omega
  have hb : (batch (row t r)).val = t.val / 16 := by show (t.val * 256 + r.val) / 4096 = t.val / 16; omega
  rw [ei, reference_apply, block_apply]
  simp only [block_0, block_1, block_2, block_4, block_3 m c t d _ hb, hidden_eq m c g e0, weights_eq m c w e1, residual_eq m c x e2, post_eq m c p e4,
    V_main_arg3, e3]
  refine congrArg _ ?_
  rw [mul_left_comm, V_main_arg3, e3]

end Cert.DownValue

end
-- ==== Proof.MixBlock.lean ====
module

public import proofs.«01_k».proof.Proof.Gen.MixIdeal.Value
public import Idealize.ShloMosaic.Lib.Pipeline.ValueKit
public import Idealize.ShloMosaic.Lib.Pointwise

/-! What the merge stores in its two output blocks, row by row. -/

@[expose] public section

set_option maxRecDepth 16384

noncomputable section

namespace Cert.MixValue

open Cert.MixIdeal Cert.MixIdeal.Gen
open Idealize.ShloMosaic Idealize.ShloMosaic.TcCoe Idealize.ShloMosaic.Tactic Idealize.ShloMosaic.Pipeline
open scoped BigOperators

/-- The root mean square factor of a row. -/
def factor (f : Fin 2048 → EReal) : EReal :=
  Ideal.rsqrt (Ideal.div (∑ k, f k * f k) (Ideal.ofBits .f32 0x45000000#32) + Ideal.ofBits .f32 0x358637BD#32)

/-- A row times a matrix. -/
def lin {n : ℕ} (u : Fin n → EReal) (w : Fin n → Fin 2048 → EReal) (d : Fin 2048) : EReal := ∑ k, u k * w k d

/-- The two branches merged under their gates. -/
def merged (oa : Fin 1024 → EReal) (ob ga gb : Fin 2048 → EReal) (wa : Fin 1024 → Fin 2048 → EReal) (wb : Fin 2048 → Fin 2048 → EReal) (k : Fin 2048) : EReal :=
  Ideal.logistic (ga k) * lin oa wa k + Ideal.logistic (gb k) * lin ob wb k

/-- The residual with the normalised row `y`, scaled by `q`, added. -/
def added (y x q : Fin 2048 → EReal) (d : Fin 2048) : EReal := x d + y d * factor y * q d

/-- The normalised row `x`, scaled by `p` and shifted by `s`. -/
def modulated (x p s : Fin 2048 → EReal) (d : Fin 2048) : EReal := x d * factor x * p d + s d

theorem merged_lo (oa : FVec Ideal S128x1024 .bf16) (wa : FVec Ideal S1024x2048 .bf16) (ob : FVec Ideal S128x2048 .bf16) (wb : FVec Ideal S2048x2048 .bf16)
    (ga gb : FVec Ideal S128x2048 .bf16) (r : Fin 128) (k : Fin 2048) :
    k0_pay4 (F := Ideal) oa wa ob wb ga gb (ix2 r k)
      = merged (fun j => oa (ix2 r j)) (fun j => ob (ix2 r j)) (fun j => ga (ix2 r j)) (fun j => gb (ix2 r j)) (fun j d => wa (ix2 j d)) (fun j d => wb (ix2 j d)) k := by
  pointwise [k0_pay4]
  rfl

theorem merged_hi (oa : FVec Ideal S128x1024 .bf16) (wa : FVec Ideal S1024x2048 .bf16) (ob : FVec Ideal S128x2048 .bf16) (wb : FVec Ideal S2048x2048 .bf16)
    (ga gb : FVec Ideal S128x2048 .bf16) (r : Fin 128) (k : Fin 2048) :
    k0_pay5 (F := Ideal) oa wa ob wb ga gb (ix2 r k)
      = merged (fun j => oa (ix2 r j)) (fun j => ob (ix2 r j)) (fun j => ga (ix2 r j)) (fun j => gb (ix2 r j)) (fun j d => wa (ix2 j d)) (fun j d => wb (ix2 j d)) k := by
  pointwise [k0_pay5]
  rfl

theorem scale_apply (a : FVec Ideal S1x1x2048 .f32) (p : FVec Ideal S1x2048 .f32) (d : Fin 2048) :
    k0_pay2 (F := Ideal) a p (ix2 0 d) = a (ix3 0 0 d) * p (ix2 0 d) := by
  pointwise [k0_pay2]

theorem scale'_apply (p : FVec Ideal S1x2048 .f32) (a : FVec Ideal S1x1x2048 .f32) (d : Fin 2048) :
    k0_pay3 (F := Ideal) p a (ix2 0 d) = p (ix2 0 d) * (1 + a (ix3 0 0 d)) := by
  pointwise [k0_pay3]

theorem added_lo (u : FVec Ideal S128x2048 .bf16) (w : FVec Ideal S2048x2048 .bf16) (x : FVec Ideal S128x2048 .f32) (q : FVec Ideal S1x2048 .f32) (r : Fin 128) (d : Fin 2048) :
    k0_pay9 (F := Ideal) (k0_pay6 x) (k0_pay7 u w) (k0_pay8 q) (ix2 r d)
      = added (lin (fun k => u (ix2 r k)) fun k d => w (ix2 k d)) (fun d => x (ix2 r d)) (fun d => q (ix2 0 d)) d := by
  pointwise [k0_pay6, k0_pay7, k0_pay8, k0_pay9]
  rfl

theorem added_hi (u : FVec Ideal S128x2048 .bf16) (w : FVec Ideal S2048x2048 .bf16) (x : FVec Ideal S128x2048 .f32) (q : FVec Ideal S1x2048 .f32) (r : Fin 128) (d : Fin 2048) :
    k0_pay11 (F := Ideal) q u w x (ix2 r d)
      = added (lin (fun k => u (ix2 r k)) fun k d => w (ix2 k d)) (fun d => x (ix2 r d)) (fun d => q (ix2 0 d)) d := by
  pointwise [k0_pay11]
  rfl

theorem modulated_lo (p : FVec Ideal S1x2048 .f32) (x y q : FVec Ideal S128x2048 .f32) (s : FVec Ideal S1x1x2048 .f32) (r : Fin 128) (d : Fin 2048) :
    k0_pay10 (F := Ideal) p x y q s (ix2 r d)
      = modulated (fun d => k0_pay9 (F := Ideal) x y q (ix2 r d)) (fun d => p (ix2 0 d)) (fun d => s (ix3 0 0 d)) d := by
  pointwise [k0_pay10, k0_pay9]
  rfl

theorem modulated_hi (p : FVec Ideal S1x2048 .f32) (x : FVec Ideal S128x2048 .f32) (s : FVec Ideal S1x1x2048 .f32) (r : Fin 128) (d : Fin 2048) :
    k0_pay1 (F := Ideal) p x s (ix2 r d)
      = modulated (fun d => x (ix2 r d)) (fun d => p (ix2 0 d)) (fun d => s (ix3 0 0 d)) d := by
  pointwise [k0_pay1]
  rfl

theorem ld_0 (x : FVec Ideal S1x1x2048 .f32) (d : Fin 2048) : View.ld (Val := Elt Ideal) (e' := .f32) x r0_0 (ix3 0 0 d) = x (ix3 0 0 d) :=
  congrArg x (by funext a; fin_cases a <;> refine Fin.ext ?_ <;> simp [Rect.emb, ix3])
theorem ld_1 (x : FVec Ideal S1x2048 .f32) (d : Fin 2048) : View.ld (Val := Elt Ideal) (e' := .f32) x r0_1 (ix2 0 d) = x (ix2 0 d) :=
  congrArg x (by funext a; fin_cases a <;> refine Fin.ext ?_ <;> simp [Rect.emb, ix2])
theorem ld_2 (x : FVec Ideal S256x1024 .bf16) (r : Fin 128) (d : Fin 1024) : View.ld (Val := Elt Ideal) (e' := .bf16) x r0_2 (ix2 r d) = x (ix2 ⟨r.val, by omega⟩ d) :=
  congrArg x (by funext a; fin_cases a <;> refine Fin.ext ?_ <;> simp [Rect.emb, ix2])
theorem ld_3 (x : FVec Ideal S1024x2048 .bf16) (r : Fin 1024) (d : Fin 2048) : View.ld (Val := Elt Ideal) (e' := .bf16) x r0_3 (ix2 r d) = x (ix2 r d) :=
  congrArg x (by funext a; fin_cases a <;> refine Fin.ext ?_ <;> simp [Rect.emb, ix2])
theorem ld_4 (x : FVec Ideal S256x2048 .bf16) (r : Fin 128) (d : Fin 2048) : View.ld (Val := Elt Ideal) (e' := .bf16) x r0_4 (ix2 r d) = x (ix2 ⟨r.val, by omega⟩ d) :=
  congrArg x (by funext a; fin_cases a <;> refine Fin.ext ?_ <;> simp [Rect.emb, ix2])
theorem ld_4' (x : FVec Ideal S256x2048 .f32) (r : Fin 128) (d : Fin 2048) : View.ld (Val := Elt Ideal) (e' := .f32) x r0_4 (ix2 r d) = x (ix2 ⟨r.val, by omega⟩ d) :=
  congrArg x (by funext a; fin_cases a <;> refine Fin.ext ?_ <;> simp [Rect.emb, ix2])
theorem ld_5 (x : FVec Ideal S2048x2048 .bf16) (r : Fin 2048) (d : Fin 2048) : View.ld (Val := Elt Ideal) (e' := .bf16) x r0_5 (ix2 r d) = x (ix2 r d) :=
  congrArg x (by funext a; fin_cases a <;> refine Fin.ext ?_ <;> simp [Rect.emb, ix2])
theorem ld_6 (x : FVec Ideal S256x1024 .bf16) (r : Fin 128) (d : Fin 1024) : View.ld (Val := Elt Ideal) (e' := .bf16) x r0_6 (ix2 r d) = x (ix2 ⟨128 + r.val, by omega⟩ d) :=
  congrArg x (by funext a; fin_cases a <;> refine Fin.ext ?_ <;> simp [Rect.emb, ix2])
theorem ld_7 (x : FVec Ideal S256x2048 .bf16) (r : Fin 128) (d : Fin 2048) : View.ld (Val := Elt Ideal) (e' := .bf16) x r0_7 (ix2 r d) = x (ix2 ⟨128 + r.val, by omega⟩ d) :=
  congrArg x (by funext a; fin_cases a <;> refine Fin.ext ?_ <;> simp [Rect.emb, ix2])
theorem ld_7' (x : FVec Ideal S256x2048 .f32) (r : Fin 128) (d : Fin 2048) : View.ld (Val := Elt Ideal) (e' := .f32) x r0_7 (ix2 r d) = x (ix2 ⟨128 + r.val, by omega⟩ d) :=
  congrArg x (by funext a; fin_cases a <;> refine Fin.ext ?_ <;> simp [Rect.emb, ix2])

section

variable (x0 : FVec Ideal S256x1024 .bf16) (x1 x2 x3 : FVec Ideal S256x2048 .bf16) (x4 : FVec Ideal S1024x2048 .bf16) (x5 x6 : FVec Ideal S2048x2048 .bf16)
  (x7 : FVec Ideal S256x2048 .f32) (x8 : FVec Ideal S1x1x2048 .f32) (x9 x10 : FVec Ideal S1x2048 .f32) (x11 x12 : FVec Ideal S1x1x2048 .f32)

/-- Row `r` of the first output block. -/
def rowA (r : Fin 256) : Fin 2048 → EReal :=
  added (lin (merged (fun j => x0 (ix2 r j)) (fun j => x1 (ix2 r j)) (fun j => x2 (ix2 r j)) (fun j => x3 (ix2 r j)) (fun j d => x4 (ix2 j d)) (fun j d => x5 (ix2 j d)))
    fun k d => x6 (ix2 k d)) (fun d => x7 (ix2 r d)) (fun d => x8 (ix3 0 0 d) * x9 (ix2 0 d))

/-- Row `r` of the second output block. -/
def rowB (r : Fin 256) : Fin 2048 → EReal :=
  modulated (rowA x0 x1 x2 x3 x4 x5 x6 x7 x8 x9 r) (fun d => x10 (ix2 0 d) * (1 + x11 (ix3 0 0 d))) (fun d => x12 (ix3 0 0 d))

theorem rowA_of {oa : Fin 1024 → EReal} {ob ga gb : Fin 2048 → EReal} {wa : Fin 1024 → Fin 2048 → EReal} {wb wm : Fin 2048 → Fin 2048 → EReal} {x a p : Fin 2048 → EReal} (r : Fin 256)
    (h0 : ∀ j, oa j = x0 (ix2 r j)) (h1 : ∀ j, ob j = x1 (ix2 r j)) (h2 : ∀ j, ga j = x2 (ix2 r j)) (h3 : ∀ j, gb j = x3 (ix2 r j))
    (h4 : ∀ j d, wa j d = x4 (ix2 j d)) (h5 : ∀ j d, wb j d = x5 (ix2 j d)) (h6 : ∀ j d, wm j d = x6 (ix2 j d)) (h7 : ∀ d, x d = x7 (ix2 r d))
    (h8 : ∀ d, a d = x8 (ix3 0 0 d)) (h9 : ∀ d, p d = x9 (ix2 0 d)) (d : Fin 2048) :
    added (lin (merged oa ob ga gb wa wb) wm) x (fun d => a d * p d) d = rowA x0 x1 x2 x3 x4 x5 x6 x7 x8 x9 r d := by
  obtain rfl := funext h0; obtain rfl := funext h1; obtain rfl := funext h2; obtain rfl := funext h3; obtain rfl := funext h7; obtain rfl := funext h8; obtain rfl := funext h9
  obtain rfl := funext fun j => funext (h4 j); obtain rfl := funext fun j => funext (h5 j); obtain rfl := funext fun j => funext (h6 j)
  rfl

theorem rowB_of {f p a s : Fin 2048 → EReal} (r : Fin 256) (h : ∀ d, f d = rowA x0 x1 x2 x3 x4 x5 x6 x7 x8 x9 r d)
    (h10 : ∀ d, p d = x10 (ix2 0 d)) (h11 : ∀ d, a d = x11 (ix3 0 0 d)) (h12 : ∀ d, s d = x12 (ix3 0 0 d)) (d : Fin 2048) :
    modulated f (fun d => p d * (1 + a d)) s d = rowB x0 x1 x2 x3 x4 x5 x6 x7 x8 x9 x10 x11 x12 r d := by
  obtain rfl := funext h; obtain rfl := funext h10; obtain rfl := funext h11; obtain rfl := funext h12
  rfl

theorem lo_apply (r : Fin 128) (d : Fin 2048) :
    k0_pay9 (F := Ideal) (k0_pay14 x0 x1 x2 x3 x4 x5 x6 x7 x8 x9 x10 x11 x12) (k0_pay15 x0 x1 x2 x3 x4 x5 x6 x7 x8 x9 x10 x11 x12)
      (k0_pay16 x0 x1 x2 x3 x4 x5 x6 x7 x8 x9 x10 x11 x12) (ix2 r d) = rowA x0 x1 x2 x3 x4 x5 x6 x7 x8 x9 ⟨r.val, by omega⟩ d := by
  rw [k0_pay14, k0_pay15, k0_pay16, added_lo, k0_pay12]
  simp only [merged_lo, scale_apply]
  exact rowA_of x0 x1 x2 x3 x4 x5 x6 x7 x8 x9 _ (ld_2 x0 r) (ld_4 x1 r) (ld_4 x2 r) (ld_4 x3 r) (ld_3 x4) (ld_5 x5) (ld_5 x6) (ld_4' x7 r) (ld_0 x8) (ld_1 x9) d

theorem hi_apply (r : Fin 128) (d : Fin 2048) :
    k0_pay17 (F := Ideal) x0 x1 x2 x3 x4 x5 x6 x7 x8 x9 x10 x11 x12 (ix2 r d) = rowA x0 x1 x2 x3 x4 x5 x6 x7 x8 x9 ⟨128 + r.val, by omega⟩ d := by
  rw [k0_pay17, added_hi, k0_pay12]
  simp only [merged_hi, scale_apply]
  exact rowA_of x0 x1 x2 x3 x4 x5 x6 x7 x8 x9 _ (ld_6 x0 r) (ld_7 x1 r) (ld_7 x2 r) (ld_7 x3 r) (ld_3 x4) (ld_5 x5) (ld_5 x6) (ld_7' x7 r) (ld_0 x8) (ld_1 x9) d

theorem idx_row {n : ℕ} (y : (⟨2, ![n, 2048]⟩ : Shape).Idx) : ∃ (r : Fin n) (d : Fin 2048), y = ix2 r d := ⟨y 0, y 1, by funext a; fin_cases a <;> rfl⟩

theorem emb_4 (r : Fin 128) (d : Fin 2048) : r0_4.emb (ix2 r d) = ix2 (⟨r.val, by omega⟩ : Fin 256) d :=
  funext fun a => Fin.ext ((ValueKit.rect_emb_unit_val _ _ _ _ a).trans (by fin_cases a <;> simp [ix2]))
theorem emb_7 (r : Fin 128) (d : Fin 2048) : r0_7.emb (ix2 r d) = ix2 (⟨128 + r.val, by omega⟩ : Fin 256) d :=
  funext fun a => Fin.ext ((ValueKit.rect_emb_unit_val _ _ _ _ a).trans (by fin_cases a <;> simp [ix2]))

/-- The array with the given rows. -/
def block (f : Fin 256 → Fin 2048 → EReal) : S256x2048.Idx → EReal := fun y => f (y 0) (y 1)

theorem block_apply (f : Fin 256 → Fin 2048 → EReal) (r : Fin 256) (d : Fin 2048) : block f (ix2 r d) = f r d := rfl

/-- The first output block. -/
theorem out_13 (y : S256x2048.Idx) : out0_13 (F := Ideal) x0 x1 x2 x3 x4 x5 x6 x7 x8 x9 x10 x11 x12 y = block (rowA x0 x1 x2 x3 x4 x5 x6 x7 x8 x9) y := by
  unfold out0_13
  refine View.canon_apply_of_pieces (Val := Elt Ideal) (S := S256x2048) (e := .f32) (block (rowA x0 x1 x2 x3 x4 x5 x6 x7 x8 x9)) _ ?_ y ?_
  swap
  · exact cover0_13 _ _ y
  intro p hp j
  simp only [List.mem_cons, List.not_mem_nil, or_false] at hp
  rcases hp with rfl | rfl
  · obtain ⟨r, d, rfl⟩ := idx_row j
    dsimp only
    rw [hi_apply, emb_7, block_apply]
  · obtain ⟨r, d, rfl⟩ := idx_row j
    dsimp only
    rw [lo_apply, emb_4, block_apply]

/-- The second output block. -/
theorem out_14 (y : S256x2048.Idx) : out0_14 (F := Ideal) x0 x1 x2 x3 x4 x5 x6 x7 x8 x9 x10 x11 x12 y = block (rowB x0 x1 x2 x3 x4 x5 x6 x7 x8 x9 x10 x11 x12) y := by
  unfold out0_14
  refine View.canon_apply_of_pieces (Val := Elt Ideal) (S := S256x2048) (e := .bf16) (block (rowB x0 x1 x2 x3 x4 x5 x6 x7 x8 x9 x10 x11 x12)) _ ?_ y ?_
  swap
  · exact cover0_14 _ _ y
  intro p hp j
  simp only [List.mem_cons, List.not_mem_nil, or_false] at hp
  rcases hp with rfl | rfl
  · obtain ⟨r, d, rfl⟩ := idx_row j
    dsimp only
    rw [modulated_hi, emb_7, block_apply, k0_pay13]
    simp only [hi_apply, scale'_apply]
    exact rowB_of x0 x1 x2 x3 x4 x5 x6 x7 x8 x9 x10 x11 x12 _ (fun _ => rfl) (ld_1 x10) (ld_0 x11) (ld_0 x12) d
  · obtain ⟨r, d, rfl⟩ := idx_row j
    dsimp only
    rw [modulated_lo, emb_4, block_apply, k0_pay13]
    simp only [lo_apply, scale'_apply]
    exact rowB_of x0 x1 x2 x3 x4 x5 x6 x7 x8 x9 x10 x11 x12 _ (fun _ => rfl) (ld_1 x10) (ld_0 x11) (ld_0 x12) d

end

end Cert.MixValue

end
-- ==== Proof.MixRef.lean ====
module

public import proofs.«01_k».proof.Proof.MixBlock
public import proofs.«01_k».proof.Proof.Gen.MixReferenceIdeal.Read
public import Idealize.ShloMosaic.Lib.Pointwise

/-! The reference's merge, row by row, in the words of the rows the call stores. -/

@[expose] public section

set_option maxRecDepth 16384

noncomputable section

namespace Cert.MixValue

open Cert.MixReferenceIdeal Cert.MixReferenceIdeal.Gen Cert.MixReferenceIdeal.Read
open Idealize.ShloMosaic
open scoped BigOperators

variable (x0 : FVec Ideal S2x4096x1024 .f32) (x1 x3 x4 : FVec Ideal S2x4096x2048 .f32) (x5 : FVec Ideal S1024x2048 .f32) (x6 x7 : FVec Ideal S2048x2048 .f32)
  (x8 : FVec Ideal S2x4096x2048 .f32) (x9 : FVec Ideal S2x1x2048 .f32) (x10 x11 : FVec Ideal S2048 .f32) (x12 x13 : FVec Ideal S2x1x2048 .f32)

/-- The merged branches of a row of the reference. -/
def refMerged (b : Fin 2) (r : Fin 4096) : Fin 2048 → EReal :=
  merged (fun j => x0 (ix3 b r j)) (fun j => x1 (ix3 b r j)) (fun j => x3 (ix3 b r j)) (fun j => x4 (ix3 b r j)) (fun j d => x5 (ix2 j d)) (fun j d => x6 (ix2 j d))

theorem refMerged_apply (b : Fin 2) (r : Fin 4096) (k : Fin 2048) :
    val_main_v16 (F := Ideal) x0 x1 x3 x4 x5 x6 (ix3 b r k) = refMerged x0 x1 x3 x4 x5 x6 b r k := by
  pointwise [val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]
  rfl

/-- The projected row of the reference. -/
def refProj (b : Fin 2) (r : Fin 4096) : Fin 2048 → EReal := lin (refMerged x0 x1 x3 x4 x5 x6 b r) fun k d => x7 (ix2 k d)

theorem refProj_apply (b : Fin 2) (r : Fin 4096) (d : Fin 2048) :
    val_main_v17 (F := Ideal) x0 x1 x3 x4 x5 x6 x7 (ix3 b r d) = refProj x0 x1 x3 x4 x5 x6 x7 b r d := by
  rw [val_main_v17]
  pointwise []
  simp only [refMerged_apply]
  rfl

/-- The reference's first result at an index. -/
theorem added_apply (b : Fin 2) (r : Fin 4096) (d : Fin 2048) :
    val_main_v33 (F := Ideal) x0 x1 x3 x4 x5 x6 x7 x8 x9 x10 (ix3 b r d)
      = added (refProj x0 x1 x3 x4 x5 x6 x7 b r) (fun d => x8 (ix3 b r d)) (fun d => x9 (ix3 b 0 d) * x10 (ix1 d)) d := by
  pointwise [val_main_v33, val_main_v32, val_main_v31, val_main_v30, val_main_v29, val_main_v28, val_main_v27, val_main_v26, val_main_v25, val_main_v24, val_main_v23, val_main_v22, val_main_v21,
    val_main_v20, val_main_v19, val_main_v18, val_main_cst_3, val_main_cst_4, val_main_cst_5]
  simp only [refProj_apply]
  rw [mul_left_comm]
  rfl

/-- The reference's second result at an index. -/
theorem modulated_apply (b : Fin 2) (r : Fin 4096) (d : Fin 2048) :
    val_main_v52 (F := Ideal) x0 x1 x3 x4 x5 x6 x7 x8 x9 x10 x11 x12 x13 (ix3 b r d)
      = modulated (added (refProj x0 x1 x3 x4 x5 x6 x7 b r) (fun d => x8 (ix3 b r d)) (fun d => x9 (ix3 b 0 d) * x10 (ix1 d)))
        (fun d => x11 (ix1 d) * (1 + x12 (ix3 b 0 d))) (fun d => x13 (ix3 b 0 d)) d := by
  pointwise [val_main_v52, val_main_v51, val_main_v50, val_main_v49, val_main_v48, val_main_v47, val_main_v46, val_main_v45, val_main_v44, val_main_v43, val_main_v42, val_main_v41, val_main_v40, val_main_v39,
    val_main_v38, val_main_v37, val_main_v36, val_main_v35, val_main_v34, val_main_cst_6, val_main_cst_7, val_main_cst_8, val_main_cst_9]
  simp only [added_apply]
  rw [mul_assoc]
  rfl

end Cert.MixValue

end
-- ==== Proof.MixValue.lean ====
module

public import proofs.«01_k».proof.Proof.MixRef
public import Idealize.ShloMosaic.Lib.Claim
public import Idealize.ShloMosaic.Lib.StableHlo.RunRead

/-! The arrays the merge leaves are the reference's. -/

@[expose] public section

set_option maxRecDepth 16384

noncomputable section

namespace Cert.MixValue

open Cert.MixIdeal Cert.MixIdeal.Gen
open Idealize.ShloMosaic Idealize.ShloMosaic.TcCoe Idealize.ShloMosaic.Tactic Idealize.ShloMosaic.Pipeline
open scoped BigOperators

/-- The batch of a row of the flattened array, and its row there. -/
abbrev batch (r : Fin 8192) : Fin 2 := ⟨r.val / 4096, by omega⟩
abbrev inner (r : Fin 8192) : Fin 4096 := ⟨r.val % 4096, by omega⟩

/-- Three arrays side by side. -/
def beside (u : FVec Ideal S8192x6144 .f32) (v w : FVec Ideal S2x4096x2048 .f32) : FVec Ideal S8192x10240 .bf16 :=
  truncf .bf16 (concatenate S8192x10240 1 [⟨S8192x6144, u⟩, ⟨S8192x2048, shapeCast S8192x2048 v shapeCasts_S2x4096x2048_S8192x2048⟩, ⟨S8192x2048, shapeCast S8192x2048 w shapeCasts_S2x4096x2048_S8192x2048⟩]
    concatenates_S8192x6144_S8192x2048_S8192x2048_S8192x10240_d1) bitsLt_bf16_f32

theorem beside_mid (u : FVec Ideal S8192x6144 .f32) (v w : FVec Ideal S2x4096x2048 .f32) (r : Fin 8192) (d : Fin 2048) :
    beside u v w (ix2 r (⟨6144 + d, by omega⟩ : Fin 10240)) = v (ix3 (batch r) (inner r) d) := by
  pointwise [beside]

theorem beside_hi (u : FVec Ideal S8192x6144 .f32) (v w : FVec Ideal S2x4096x2048 .f32) (r : Fin 8192) (d : Fin 2048) :
    beside u v w (ix2 r (⟨8192 + d, by omega⟩ : Fin 10240)) = w (ix3 (batch r) (inner r) d) := by
  pointwise [beside]
  rw [dif_neg (by omega), dif_neg (by omega)]
  exact congrArg w (congrArg (ix3 (batch r) (inner r)) (Fin.ext (by show 8192 + d.val - 6144 - 2048 = d.val; omega)))

variable (m : (ℓ : Loc nD τ sig) → Buf (Elt Ideal) ℓ) (c : Dev nD)

theorem gates_eq : V m c main_v3 = beside (m (c.tc.loc main_arg2)) (m (c.tc.loc main_arg3)) (m (c.tc.loc main_arg4)) := by
  unfold V
  after_reads_simp
  rfl

theorem oa_eq (x : FVec Ideal S2x4096x1024 .f32) (h : m (c.tc.loc main_arg0) = x) (r : Fin 8192) (k : Fin 1024) :
    V m c main_v5 (ix2 r k) = x (ix3 (batch r) (inner r) k) := by
  entry_read
  rw [h]
  pointwise []

theorem ob_eq (x : FVec Ideal S2x4096x2048 .f32) (h : m (c.tc.loc main_arg1) = x) (r : Fin 8192) (k : Fin 2048) :
    V m c main_v7 (ix2 r k) = x (ix3 (batch r) (inner r) k) := by
  entry_read
  rw [h]
  pointwise []

theorem wa_eq (x : FVec Ideal S1024x2048 .f32) (h : m (c.tc.loc main_arg5) = x) (k : Fin 1024) (d : Fin 2048) : V m c main_v8 (ix2 k d) = x (ix2 k d) := by
  entry_read
  rw [h]
  pointwise []

theorem wb_eq (x : FVec Ideal S2048x2048 .f32) (h : m (c.tc.loc main_arg6) = x) (k d : Fin 2048) : V m c main_v9 (ix2 k d) = x (ix2 k d) := by
  entry_read
  rw [h]
  pointwise []

theorem wm_eq (x : FVec Ideal S2048x2048 .f32) (h : m (c.tc.loc main_arg7) = x) (k d : Fin 2048) : V m c main_v10 (ix2 k d) = x (ix2 k d) := by
  entry_read
  rw [h]
  pointwise []

theorem residual_eq (x : FVec Ideal S2x4096x2048 .f32) (h : m (c.tc.loc main_arg8) = x) (r : Fin 8192) (d : Fin 2048) :
    V m c main_v11 (ix2 r d) = x (ix3 (batch r) (inner r) d) := by
  entry_read
  rw [h]
  pointwise []

theorem post_eq (p : FVec Ideal S2048 .f32) (h : m (c.tc.loc main_arg10) = p) (d : Fin 2048) : V m c main_v12 (ix2 0 d) = p (ix1 d) := by
  entry_read
  rw [h]
  pointwise []

theorem pre_eq (p : FVec Ideal S2048 .f32) (h : m (c.tc.loc main_arg11) = p) (d : Fin 2048) : V m c main_v13 (ix2 0 d) = p (ix1 d) := by
  entry_read
  rw [h]
  pointwise []

theorem idx_0 (t : Fin cfg0.N) : win0_0.index t = ![t.val, 0] := (by decide +kernel : ∀ t : Fin grid0.N, win0_0.index t = ![t.val, 0]) t
theorem idx_1 (t : Fin cfg0.N) : win0_1.index t = ![t.val, 0] := (by decide +kernel : ∀ t : Fin grid0.N, win0_1.index t = ![t.val, 0]) t
theorem idx_2 (t : Fin cfg0.N) : win0_2.index t = ![t.val, 3] := (by decide +kernel : ∀ t : Fin grid0.N, win0_2.index t = ![t.val, 3]) t
theorem idx_3 (t : Fin cfg0.N) : win0_3.index t = ![t.val, 4] := (by decide +kernel : ∀ t : Fin grid0.N, win0_3.index t = ![t.val, 4]) t
theorem idx_4 (t : Fin cfg0.N) : win0_4.index t = ![0, 0] := (by decide +kernel : ∀ t : Fin grid0.N, win0_4.index t = ![0, 0]) t
theorem idx_5 (t : Fin cfg0.N) : win0_5.index t = ![0, 0] := (by decide +kernel : ∀ t : Fin grid0.N, win0_5.index t = ![0, 0]) t
theorem idx_6 (t : Fin cfg0.N) : win0_6.index t = ![0, 0] := (by decide +kernel : ∀ t : Fin grid0.N, win0_6.index t = ![0, 0]) t
theorem idx_7 (t : Fin cfg0.N) : win0_7.index t = ![t.val, 0] := (by decide +kernel : ∀ t : Fin grid0.N, win0_7.index t = ![t.val, 0]) t
theorem idx_8 (t : Fin cfg0.N) : win0_8.index t = ![t.val / 16, 0, 0] := (by decide +kernel : ∀ t : Fin grid0.N, win0_8.index t = ![t.val / 16, 0, 0]) t
theorem idx_9 (t : Fin cfg0.N) : win0_9.index t = ![0, 0] := (by decide +kernel : ∀ t : Fin grid0.N, win0_9.index t = ![0, 0]) t
theorem idx_10 (t : Fin cfg0.N) : win0_10.index t = ![0, 0] := (by decide +kernel : ∀ t : Fin grid0.N, win0_10.index t = ![0, 0]) t
theorem idx_11 (t : Fin cfg0.N) : win0_11.index t = ![t.val / 16, 0, 0] := (by decide +kernel : ∀ t : Fin grid0.N, win0_11.index t = ![t.val / 16, 0, 0]) t
theorem idx_12 (t : Fin cfg0.N) : win0_12.index t = ![t.val / 16, 0, 0] := (by decide +kernel : ∀ t : Fin grid0.N, win0_12.index t = ![t.val / 16, 0, 0]) t
theorem idx_13 (t : Fin cfg0.N) : win0_13.index t = ![t.val, 0] := (by decide +kernel : ∀ t : Fin grid0.N, win0_13.index t = ![t.val, 0]) t
theorem idx_14 (t : Fin cfg0.N) : win0_14.index t = ![t.val, 0] := (by decide +kernel : ∀ t : Fin grid0.N, win0_14.index t = ![t.val, 0]) t

/-- Row `r` of the block of a point, as a row of the array. -/
abbrev row (t : Fin cfg0.N) (r : Fin 256) : Fin 8192 := ⟨t.val * 256 + r.val, by have := t.isLt; have h : cfg0.N = 32 := rfl; omega⟩

theorem block_0 (t : Fin cfg0.N) (r : Fin 256) (k : Fin 1024) : iblk m c 0 t (ix2 r k) = V m c main_v5 (ix2 (row t r) k) := by blk_ext [iblk, idx_0 t]
theorem block_1 (t : Fin cfg0.N) (r : Fin 256) (k : Fin 2048) : iblk m c 1 t (ix2 r k) = V m c main_v7 (ix2 (row t r) k) := by blk_ext [iblk, idx_1 t]
theorem block_2 (t : Fin cfg0.N) (r : Fin 256) (k : Fin 2048) : iblk m c 2 t (ix2 r k) = V m c main_v3 (ix2 (row t r) (⟨6144 + k, by omega⟩ : Fin 10240)) := by
  blk_ext [iblk, idx_2 t]
theorem block_3 (t : Fin cfg0.N) (r : Fin 256) (k : Fin 2048) : iblk m c 3 t (ix2 r k) = V m c main_v3 (ix2 (row t r) (⟨8192 + k, by omega⟩ : Fin 10240)) := by
  blk_ext [iblk, idx_3 t]
theorem block_4 (t : Fin cfg0.N) (k : Fin 1024) (d : Fin 2048) : iblk m c 4 t (ix2 k d) = V m c main_v8 (ix2 k d) := by blk_ext [iblk, idx_4 t]
theorem block_5 (t : Fin cfg0.N) (k d : Fin 2048) : iblk m c 5 t (ix2 k d) = V m c main_v9 (ix2 k d) := by blk_ext [iblk, idx_5 t]
theorem block_6 (t : Fin cfg0.N) (k d : Fin 2048) : iblk m c 6 t (ix2 k d) = V m c main_v10 (ix2 k d) := by blk_ext [iblk, idx_6 t]
theorem block_7 (t : Fin cfg0.N) (r : Fin 256) (k : Fin 2048) : iblk m c 7 t (ix2 r k) = V m c main_v11 (ix2 (row t r) k) := by blk_ext [iblk, idx_7 t]
theorem block_8 (t : Fin cfg0.N) (d : Fin 2048) (b : Fin 2) (hb : b.val = t.val / 16) : iblk m c 8 t (ix3 0 0 d) = V m c main_arg9 (ix3 b 0 d) := by
  blk_ext [iblk, idx_8 t, hb]
theorem block_9 (t : Fin cfg0.N) (d : Fin 2048) : iblk m c 9 t (ix2 0 d) = V m c main_v12 (ix2 0 d) := by blk_ext [iblk, idx_9 t]
theorem block_10 (t : Fin cfg0.N) (d : Fin 2048) : iblk m c 10 t (ix2 0 d) = V m c main_v13 (ix2 0 d) := by blk_ext [iblk, idx_10 t]
theorem block_11 (t : Fin cfg0.N) (d : Fin 2048) (b : Fin 2) (hb : b.val = t.val / 16) : iblk m c 11 t (ix3 0 0 d) = V m c main_arg12 (ix3 b 0 d) := by
  blk_ext [iblk, idx_11 t, hb]
theorem block_12 (t : Fin cfg0.N) (d : Fin 2048) (b : Fin 2) (hb : b.val = t.val / 16) : iblk m c 12 t (ix3 0 0 d) = V m c main_arg13 (ix3 b 0 d) := by
  blk_ext [iblk, idx_12 t, hb]

section

variable (x0 : FVec Ideal S2x4096x1024 .f32) (x1 x3 x4 : FVec Ideal S2x4096x2048 .f32) (x5 : FVec Ideal S1024x2048 .f32) (x6 x7 : FVec Ideal S2048x2048 .f32)
  (x8 : FVec Ideal S2x4096x2048 .f32) (x9 : FVec Ideal S2x1x2048 .f32) (x10 x11 : FVec Ideal S2048 .f32) (x12 x13 : FVec Ideal S2x1x2048 .f32)
  (e0 : m (c.tc.loc main_arg0) = x0) (e1 : m (c.tc.loc main_arg1) = x1) (e3 : m (c.tc.loc main_arg3) = x3) (e4 : m (c.tc.loc main_arg4) = x4)
  (e5 : m (c.tc.loc main_arg5) = x5) (e6 : m (c.tc.loc main_arg6) = x6) (e7 : m (c.tc.loc main_arg7) = x7) (e8 : m (c.tc.loc main_arg8) = x8)
  (e9 : m (c.tc.loc main_arg9) = x9) (e10 : m (c.tc.loc main_arg10) = x10) (e11 : m (c.tc.loc main_arg11) = x11) (e12 : m (c.tc.loc main_arg12) = x12)
  (e13 : m (c.tc.loc main_arg13) = x13)

include e0 e1 e3 e4 e5 e6 e7 e8 e9 e10 in
/-- A row of the first output block of a point is the reference's. -/
theorem rowA_eq (t : Fin cfg0.N) (r : Fin 256) (hb : (batch (row t r)).val = t.val / 16) :
    rowA (iblk m c 0 t) (iblk m c 1 t) (iblk m c 2 t) (iblk m c 3 t) (iblk m c 4 t) (iblk m c 5 t) (iblk m c 6 t) (iblk m c 7 t) (iblk m c 8 t) (iblk m c 9 t) r
      = added (refProj x0 x1 x3 x4 x5 x6 x7 (batch (row t r)) (inner (row t r))) (fun d => x8 (ix3 (batch (row t r)) (inner (row t r)) d))
          (fun d => x9 (ix3 (batch (row t r)) 0 d) * x10 (ix1 d)) := by
  have ez : ∀ i, V m c main_v3 i = beside (m (c.tc.loc main_arg2)) x3 x4 i := fun i => by rw [gates_eq, e3, e4]
  funext d
  symm
  refine rowA_of _ _ _ _ _ _ _ _ _ _ r ?_ ?_ ?_ ?_ ?_ ?_ ?_ ?_ ?_ ?_ d
  · exact fun j => by rw [block_0, oa_eq m c x0 e0]
  · exact fun j => by rw [block_1, ob_eq m c x1 e1]
  · exact fun j => by rw [block_2, ez, beside_mid]
  · exact fun j => by rw [block_3, ez, beside_hi]
  · exact fun j d => by rw [block_4, wa_eq m c x5 e5]
  · exact fun j d => by rw [block_5, wb_eq m c x6 e6]
  · exact fun j d => by rw [block_6, wm_eq m c x7 e7]
  · exact fun d => by rw [block_7, residual_eq m c x8 e8]
  · exact fun d => by rw [block_8 m c t d _ hb, V_main_arg9, e9]
  · exact fun d => by rw [block_9, post_eq m c x10 e10]

theorem row_batch (t : Fin cfg0.N) (r : Fin 256) : (batch (row t r)).val = t.val / 16 := by
  have hr := r.isLt
  show (t.val * 256 + r.val) / 4096 = t.val / 16
  omega

include e0 e1 e3 e4 e5 e6 e7 e8 e9 e10 in
/-- The first array the call leaves is the reference's. -/
theorem arr_13 : (dats m 0 c).arrAt 13 cfg0.N = Cert.MixReferenceIdeal.Read.val_main_v53 (F := Ideal) x0 x1 x3 x4 x5 x6 x7 x8 x9 x10 := by
  refine (dats m 0 c).arrAt_eq_of_covers 13 _ (by decide +kernel) fun t hf y => ?_
  blk_simp
  rw [after0_13]
  rw [Cert.MixReferenceIdeal.Read.val_main_v53_apply]
  obtain ⟨r, d, rfl⟩ : ∃ (r : Fin 256) (d : Fin 2048), y = ix2 r d := ⟨y 0, y 1, by funext a; fin_cases a <;> rfl⟩
  generalize hi : ((View.whole main_v14_0).slice (win0_13.rect t)).emb (ix2 r d) = i
  have h0 : (i 0).val = t.val * 256 + r.val := by rw [← hi]; blk_simp [idx_13 t]
  have h1 : (i 1).val = d.val := by rw [← hi]; blk_simp [idx_13 t]
  have hr := r.isLt
  have hd := d.isLt
  have ei : Cert.MixReferenceIdeal.Read.idx_main_v53 i = ix3 (batch (row t r)) (inner (row t r)) d := by
    funext a; fin_cases a <;> refine Fin.ext ?_
    · show ((i 0).val * 2048 + (i 1).val) / 8388608 = (t.val * 256 + r.val) / 4096; omega
    · show ((i 0).val * 2048 + (i 1).val) / 2048 % 4096 = (t.val * 256 + r.val) % 4096; omega
    · show ((i 0).val * 2048 + (i 1).val) % 2048 = d.val; omega
  rw [ei, added_apply, out_13, block_apply]
  rw [rowA_eq m c x0 x1 x3 x4 x5 x6 x7 x8 x9 x10 e0 e1 e3 e4 e5 e6 e7 e8 e9 e10 t r (row_batch t r)]

include e0 e1 e3 e4 e5 e6 e7 e8 e9 e10 e11 e12 e13 in
/-- The second array the call leaves is the reference's. -/
theorem arr_14 : (dats m 0 c).arrAt 14 cfg0.N = Cert.MixReferenceIdeal.Read.val_main_v55 (F := Ideal) x0 x1 x3 x4 x5 x6 x7 x8 x9 x10 x11 x12 x13 := by
  refine (dats m 0 c).arrAt_eq_of_covers 14 _ (by decide +kernel) fun t hf y => ?_
  blk_simp
  rw [after0_14]
  rw [Cert.MixReferenceIdeal.Read.val_main_v55_apply, Cert.MixReferenceIdeal.Read.val_main_v54_apply]
  obtain ⟨r, d, rfl⟩ : ∃ (r : Fin 256) (d : Fin 2048), y = ix2 r d := ⟨y 0, y 1, by funext a; fin_cases a <;> rfl⟩
  generalize hi : ((View.whole main_v14_1).slice (win0_14.rect t)).emb (ix2 r d) = i
  have h0 : (i 0).val = t.val * 256 + r.val := by rw [← hi]; blk_simp [idx_14 t]
  have h1 : (i 1).val = d.val := by rw [← hi]; blk_simp [idx_14 t]
  have hr := r.isLt
  have hd := d.isLt
  have ei : Cert.MixReferenceIdeal.Read.idx_main_v54 i = ix3 (batch (row t r)) (inner (row t r)) d := by
    funext a; fin_cases a <;> refine Fin.ext ?_
    · show ((i 0).val * 2048 + (i 1).val) / 8388608 = (t.val * 256 + r.val) / 4096; omega
    · show ((i 0).val * 2048 + (i 1).val) / 2048 % 4096 = (t.val * 256 + r.val) % 4096; omega
    · show ((i 0).val * 2048 + (i 1).val) % 2048 = d.val; omega
  rw [ei, modulated_apply, out_14, block_apply]
  have hb := row_batch t r
  have hA := fun d => congrFun (rowA_eq m c x0 x1 x3 x4 x5 x6 x7 x8 x9 x10 e0 e1 e3 e4 e5 e6 e7 e8 e9 e10 t r hb) d
  refine (rowB_of _ _ _ _ _ _ _ _ _ _ _ _ _ r (fun d => (hA d).symm) ?_ ?_ ?_ d).symm
  · exact fun d => by rw [block_10, pre_eq m c x11 e11]
  · exact fun d => by rw [block_11 m c t d _ hb, V_main_arg12, e12]
  · exact fun d => by rw [block_12 m c t d _ hb, V_main_arg13, e13]

end

end Cert.MixValue

end
-- ==== Proof.UpRef.lean ====
module

public import proofs.«01_k».proof.Proof.Gen.UpReferenceIdeal.Read
public import Idealize.ShloMosaic.Lib.Pointwise

/-! The feed-forward network's first half as its reference states it: a product, a causal convolution of three taps along the rows, and a gate. -/

@[expose] public section

set_option maxRecDepth 16384

noncomputable section

namespace Cert.UpValue

open Cert.UpReferenceIdeal Cert.UpReferenceIdeal.Gen Cert.UpReferenceIdeal.Read
open Idealize.ShloMosaic
open scoped BigOperators

/-- Three taps over a row and the two before it. -/
def conv (b : EReal) (c : Fin 3 → EReal) (u0 u1 u2 : EReal) : EReal := b + u0 * c 2 + u1 * c 1 + u2 * c 0

/-- The smooth gate of `a`, times `v`. -/
def gated (a v : EReal) : EReal :=
  a * (Ideal.ofBits .f32 0x3F000000#32 * (1 + Ideal.tanh (Ideal.ofBits .f32 0x3F4C422A#32 * (a + Ideal.ofBits .f32 0x3D372713#32 * (a * (a * a)))))) * v

/-- The value `k` rows before row `s`, zero where there is none. -/
def before (u : Fin 4096 → EReal) (s : Fin 4096) (k : ℕ) : EReal := if k ≤ s.val then u ⟨s.val - k, by omega⟩ else 0

variable (x0 : FVec Ideal S2x4096x2048 .f32) (x1 : FVec Ideal S2048x11264 .f32) (x2 : FVec Ideal S3x11264 .f32) (x3 : FVec Ideal S11264 .f32)

/-- A row of a batch entry times a column of the weights. -/
def up (b : Fin 2) (e : Fin 11264) (s : Fin 4096) : EReal := ∑ k : Fin 2048, x0 (ix3 b s k) * x1 (ix2 k e)

theorem up_apply (b : Fin 2) (s : Fin 4096) (e : Fin 11264) : val_main_v0 (F := Ideal) x0 x1 (ix3 b s e) = up x0 x1 b e s := by
  rw [val_main_v0]
  pointwise []
  rfl

theorem pad_zero (i : S_.Idx) : val_main_call0_v0 (F := Ideal) i = 0 := by
  pointwise [val_main_call0_v0, val_main_c]
  show (((0#32 : BitVec 32).toInt : ℝ) : EReal) = 0
  simp

theorem padded_apply (b : Fin 2) (s : Fin 4096) (e : Fin 11264) (k : ℕ) (p : Fin 4098) (hp : p.val + k = s.val + 2) :
    val_main_v1 (F := Ideal) x0 x1 (ix3 b p e) = before (up x0 x1 b e) s k := by
  rw [val_main_v1]
  pointwise []
  unfold before
  have hs := s.isLt
  by_cases h : k ≤ s.val
  · rw [dif_pos ⟨by omega, by omega⟩, if_pos h, up_apply]
    exact congrArg (up x0 x1 b e) (Fin.ext (by show p.val - 2 = s.val - k; omega))
  · rw [dif_neg (by omega), if_neg h, pad_zero]

/-- The convolved product at a row and a column. -/
def mixed (b : Fin 2) (s : Fin 4096) (e : Fin 11264) : EReal :=
  conv (x3 (ix1 e)) (fun k => x2 (ix2 k e)) (before (up x0 x1 b e) s 0) (before (up x0 x1 b e) s 1) (before (up x0 x1 b e) s 2)

theorem mixed_apply (b : Fin 2) (s : Fin 4096) (e : Fin 11264) : val_main_v24 (F := Ideal) x0 x1 x2 x3 (ix3 b s e) = mixed x0 x1 x2 x3 b s e := by
  pointwise [val_main_v24, val_main_v23, val_main_v22, val_main_v21, val_main_v20, val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2]
  rw [padded_apply x0 x1 b s e 2 _ rfl, padded_apply x0 x1 b s e 1 _ (by show 1 + s.val + 1 = s.val + 2; omega), padded_apply x0 x1 b s e 0 _ (by show 2 + s.val + 0 = s.val + 2; omega)]
  unfold mixed conv
  generalize before (up x0 x1 b e) s 0 * _ = u0
  generalize before (up x0 x1 b e) s 1 * _ = u1
  generalize before (up x0 x1 b e) s 2 * _ = u2
  rw [add_comm, add_assoc, add_assoc, add_left_comm u2, add_comm u2, add_left_comm u1, ← add_assoc, ← add_assoc]

/-- The reference at row `s` of batch entry `b` and column `d`. -/
theorem gated_apply (b : Fin 2) (s : Fin 4096) (d : Fin 5632) :
    val_main_v40 (F := Ideal) x0 x1 x2 x3 (ix3 b s d) = gated (mixed x0 x1 x2 x3 b s ⟨d.val, by omega⟩) (mixed x0 x1 x2 x3 b s ⟨5632 + d.val, by omega⟩) := by
  pointwise [val_main_v40, val_main_v39, val_main_v38, val_main_v37, val_main_v36, val_main_v35, val_main_v34, val_main_v33, val_main_v32, val_main_v31, val_main_v30, val_main_v29, val_main_v28, val_main_v27, val_main_v26, val_main_v25,
    val_main_cst, val_main_cst_0, val_main_cst_1, val_main_cst_2]
  simp only [mixed_apply]
  unfold gated
  rw [mul_assoc (mixed x0 x1 x2 x3 b s ⟨d.val, _⟩) (mixed x0 x1 x2 x3 b s ⟨d.val, _⟩)]

end Cert.UpValue

end
-- ==== Proof.UpBlock.lean ====
module

public import proofs.«01_k».proof.Proof.Gen.UpIdeal.Value
public import Idealize.ShloMosaic.Lib.Pipeline.ValueKit
public import Idealize.ShloMosaic.Lib.Pipeline.ReadBack
public import proofs.«01_k».proof.Proof.UpRef
public import Idealize.ShloMosaic.Lib.Pointwise

/-! The feed-forward network's first half, point by point: what each point of the grid leaves in the two scratches and in its block of the result. -/

@[expose] public section

set_option maxRecDepth 16384

noncomputable section

namespace Cert.UpValue

open Cert.UpIdeal Cert.UpIdeal.Gen
open Idealize.ShloMosaic Idealize.ShloMosaic.TcCoe Idealize.ShloMosaic.Tactic
open scoped BigOperators
variable (m : (ℓ : Loc nD τ sig) → Buf (Elt Ideal) ℓ) (c : Dev nD)

/-- The two column blocks of the weights side by side, as the weight scratch holds them. -/
def halves (A B : S2048x512.Idx → Elt Ideal .bf16) : S2048x1024.Idx → Elt Ideal .bf16 :=
  View.canon (Val := Elt Ideal) (s := S2048x1024) (e := .bf16)
    [⟨Rect.unit ![0, 512] ![2048, 512] inb_S2048x1024_S2048x512_0_512, B⟩,
     ⟨Rect.unit ![0, 0] ![2048, 512] inb_S2048x1024_S2048x512_0_0, A⟩]

/-- A block of product rows below the eight rows before it, as the row scratch holds them. -/
def panel (M : S1024x1024.Idx → Elt Ideal .f32) (T : S8x1024.Idx → Elt Ideal .f32) : S1032x1024.Idx → Elt Ideal .f32 :=
  View.canon (Val := Elt Ideal) (s := S1032x1024) (e := .f32)
    [⟨Rect.unit ![8, 0] ![1024, 1024] inb_S1032x1024_S1024x1024_8_0, M⟩,
     ⟨Rect.unit ![0, 0] ![8, 1024] inb_S1032x1024_S8x1024_0_0, T⟩]

/-- The product of a block of rows with the weights. -/
def prod (h : S1024x2048.Idx → Elt Ideal .bf16) (W : S2048x1024.Idx → Elt Ideal .bf16) : S1024x1024.Idx → Elt Ideal .f32 :=
  k0_pay7 (F := Ideal) (k0_pay6 (F := Ideal) h) W (constant S1024x1024 FTy.f32 0#32)

/-- The gated block that the rows in the scratch give. -/
def finish (cg cv : S3x512.Idx → Elt Ideal .f32) (bg bv : S1x512.Idx → Elt Ideal .f32) (S : S1032x1024.Idx → Elt Ideal .f32) : S1024x512.Idx → Elt Ideal .bf16 :=
  k0_pay1 (F := Ideal)
    (k0_pay8 (F := Ideal) cg bg
      (View.ld (Val := Elt Ideal) (e' := .f32) S (Rect.unit ![8, 0] ![1024, 512] inb_S1032x1024_S1024x512_8_0))
      (View.ld (Val := Elt Ideal) (e' := .f32) S (Rect.unit ![7, 0] ![1024, 512] inb_S1032x1024_S1024x512_7_0))
      (View.ld (Val := Elt Ideal) (e' := .f32) S (Rect.unit ![6, 0] ![1024, 512] inb_S1032x1024_S1024x512_6_0)))
    cv
    (k0_pay9 (F := Ideal) cv bv
      (View.ld (Val := Elt Ideal) (e' := .f32) S (Rect.unit ![8, 512] ![1024, 512] inb_S1032x1024_S1024x512_8_512))
      (View.ld (Val := Elt Ideal) (e' := .f32) S (Rect.unit ![7, 512] ![1024, 512] inb_S1032x1024_S1024x512_7_512)))
    (View.ld (Val := Elt Ideal) (e' := .f32) S (Rect.unit ![6, 512] ![1024, 512] inb_S1032x1024_S1024x512_6_512))

/-- Reading the weight scratch whole gives what it holds. -/
theorem whole_idx (f : S2048x1024.Idx → Elt Ideal .bf16) :
    (fun j => f ((Rect.unit ![0, 0] ![2048, 1024] inb_S2048x1024_S2048x1024_0_0).idx j)) = f := by
  funext j
  refine congrArg f (funext fun a => Fin.ext ((ValueKit.rect_emb_unit_val _ _ _ _ a).trans ?_))
  fin_cases a <;> simp

theorem weights_A (t : Fin cfg0.N) (h0 : t.val % 8 = 0) (h1 : t.val % 4 = 0) (h2 : ¬¬(t.val % 4 = 0)) :
    (outsAt0 m c t.val t.isLt).2.1 = halves (k0_pay2 (F := Ideal) (iblk m c 1 t)) (k0_pay3 (F := Ideal) (iblk m c 2 t)) := by
  funext y
  rw [outsAt0_A m c t h0 h1 h2]
  frame_out

theorem weights_B (t : Fin cfg0.N) (h0 : ¬t.val % 8 = 0) (h1 : ¬t.val % 4 = 0) (h2 : ¬(t.val % 4 = 0)) :
    (outsAt0 m c t.val t.isLt).2.1 = (outsAt0 m c (t.val - 1) (by have := t.isLt; omega)).2.1 := by
  rw [outsAt0_B m c t h0 h1 h2]
  rfl

theorem weights_C (t : Fin cfg0.N) (h0 : ¬t.val % 8 = 0) (h1 : t.val % 4 = 0) (h2 : ¬¬(t.val % 4 = 0)) :
    (outsAt0 m c t.val t.isLt).2.1 = (outsAt0 m c (t.val - 1) (by have := t.isLt; omega)).2.1 := by
  rw [outsAt0_C m c t h0 h1 h2]
  rfl

theorem rows_A (t : Fin cfg0.N) (h0 : t.val % 8 = 0) (h1 : t.val % 4 = 0) (h2 : ¬¬(t.val % 4 = 0)) :
    (outsAt0 m c t.val t.isLt).2.2 = panel (prod (iblk m c 0 t) (halves (k0_pay2 (F := Ideal) (iblk m c 1 t)) (k0_pay3 (F := Ideal) (iblk m c 2 t)))) (k0_pay4 (F := Ideal)) := by
  funext y
  rw [outsAt0_A m c t h0 h1 h2]
  frame_out
  simp only [View.readCov_eq_canon']
  exact congrFun (congrArg (fun W => panel (prod (iblk m c 0 t) W) (k0_pay4 (F := Ideal)))
    (whole_idx (halves (k0_pay2 (F := Ideal) (iblk m c 1 t)) (k0_pay3 (F := Ideal) (iblk m c 2 t))))) y

theorem rows_C (t : Fin cfg0.N) (h0 : ¬t.val % 8 = 0) (h1 : t.val % 4 = 0) (h2 : ¬¬(t.val % 4 = 0)) :
    (outsAt0 m c t.val t.isLt).2.2 = panel (prod (iblk m c 0 t) (outsAt0 m c (t.val - 1) (by have := t.isLt; omega)).2.1) (k0_pay4 (F := Ideal)) := by
  funext y
  rw [outsAt0_C m c t h0 h1 h2]
  frame_out
  simp only [read_unread_whole]
  rfl

theorem rows_B (t : Fin cfg0.N) (h0 : ¬t.val % 8 = 0) (h1 : ¬t.val % 4 = 0) (h2 : ¬(t.val % 4 = 0)) :
    (outsAt0 m c t.val t.isLt).2.2 = panel (prod (iblk m c 0 t) (outsAt0 m c (t.val - 1) (by have := t.isLt; omega)).2.1)
      (k0_pay5 (F := Ideal) (View.ld (Val := Elt Ideal) (e' := .f32) (outsAt0 m c (t.val - 1) (by have := t.isLt; omega)).2.2 (Rect.unit ![1024, 0] ![8, 1024] inb_S1032x1024_S8x1024_1024_0))) := by
  funext y
  rw [outsAt0_B m c t h0 h1 h2]
  frame_out
  simp only [read_unread_whole]
  rfl

theorem out_A (t : Fin cfg0.N) (h0 : t.val % 8 = 0) (h1 : t.val % 4 = 0) (h2 : ¬¬(t.val % 4 = 0)) :
    (outsAt0 m c t.val t.isLt).1 = finish (iblk m c 3 t) (iblk m c 4 t) (iblk m c 5 t) (iblk m c 6 t) (outsAt0 m c t.val t.isLt).2.2 := by
  rw [rows_A m c t h0 h1 h2]
  funext y
  rw [outsAt0_A m c t h0 h1 h2]
  frame_out
  simp only [View.readCov_eq_canon']
  exact congrFun (congrArg (fun W => finish (iblk m c 3 t) (iblk m c 4 t) (iblk m c 5 t) (iblk m c 6 t) (panel (prod (iblk m c 0 t) W) (k0_pay4 (F := Ideal))))
    (whole_idx (halves (k0_pay2 (F := Ideal) (iblk m c 1 t)) (k0_pay3 (F := Ideal) (iblk m c 2 t))))) y

theorem out_C (t : Fin cfg0.N) (h0 : ¬t.val % 8 = 0) (h1 : t.val % 4 = 0) (h2 : ¬¬(t.val % 4 = 0)) :
    (outsAt0 m c t.val t.isLt).1 = finish (iblk m c 3 t) (iblk m c 4 t) (iblk m c 5 t) (iblk m c 6 t) (outsAt0 m c t.val t.isLt).2.2 := by
  rw [rows_C m c t h0 h1 h2]
  funext y
  rw [outsAt0_C m c t h0 h1 h2]
  frame_out
  simp only [View.readCov_eq_canon', read_unread_whole]
  rfl

theorem out_B (t : Fin cfg0.N) (h0 : ¬t.val % 8 = 0) (h1 : ¬t.val % 4 = 0) (h2 : ¬(t.val % 4 = 0)) :
    (outsAt0 m c t.val t.isLt).1 = finish (iblk m c 3 t) (iblk m c 4 t) (iblk m c 5 t) (iblk m c 6 t) (outsAt0 m c t.val t.isLt).2.2 := by
  rw [rows_B m c t h0 h1 h2]
  funext y
  rw [outsAt0_B m c t h0 h1 h2]
  frame_out
  simp only [View.readCov_eq_canon', read_unread_whole]
  rfl

theorem halves_apply (A B : S2048x512.Idx → Elt Ideal .bf16) (k : Fin 2048) (e : Fin 1024) :
    halves A B (ix2 k e) = if h : e.val < 512 then A (ix2 k ⟨e.val, h⟩) else B (ix2 k ⟨e.val - 512, by omega⟩) := by
  unfold halves
  by_cases h : e.val < 512
  · rw [dif_pos h, View.canon_cons_of_not_mem]
    · have hi : ix2 k e = (Rect.unit (s := S2048x1024) ![0, 0] ![2048, 512] inb_S2048x1024_S2048x512_0_0).emb (ix2 k ⟨e.val, h⟩) :=
        funext fun a => Fin.ext (((ValueKit.rect_emb_unit_val _ _ _ _ a).trans (by fin_cases a <;> simp [ix2])).symm)
      rw [hi]
      exact View.canon_cons_emb _ _ _ _
    · exact Rect.not_mem_set_of_axis _ _ 1 512 512 rfl rfl rfl (.inl h)
  · rw [dif_neg h]
    have hi : ix2 k e = (Rect.unit (s := S2048x1024) ![0, 512] ![2048, 512] inb_S2048x1024_S2048x512_0_512).emb (ix2 k ⟨e.val - 512, by omega⟩) :=
      funext fun a => Fin.ext (((ValueKit.rect_emb_unit_val _ _ _ _ a).trans (by fin_cases a <;> simp [ix2]; omega)).symm)
    rw [hi]
    exact View.canon_cons_emb _ _ _ _

theorem panel_apply (M : S1024x1024.Idx → Elt Ideal .f32) (T : S8x1024.Idx → Elt Ideal .f32) (q : Fin 1032) (e : Fin 1024) :
    panel M T (ix2 q e) = if h : q.val < 8 then T (ix2 ⟨q.val, h⟩ e) else M (ix2 ⟨q.val - 8, by omega⟩ e) := by
  unfold panel
  by_cases h : q.val < 8
  · rw [dif_pos h, View.canon_cons_of_not_mem]
    · have hi : ix2 q e = (Rect.unit (s := S1032x1024) ![0, 0] ![8, 1024] inb_S1032x1024_S8x1024_0_0).emb (ix2 ⟨q.val, h⟩ e) :=
        funext fun a => Fin.ext (((ValueKit.rect_emb_unit_val _ _ _ _ a).trans (by fin_cases a <;> simp [ix2])).symm)
      rw [hi]
      exact View.canon_cons_emb _ _ _ _
    · exact Rect.not_mem_set_of_axis _ _ 0 8 1024 rfl rfl rfl (.inl h)
  · rw [dif_neg h]
    have hi : ix2 q e = (Rect.unit (s := S1032x1024) ![8, 0] ![1024, 1024] inb_S1032x1024_S1024x1024_8_0).emb (ix2 ⟨q.val - 8, by omega⟩ e) :=
      funext fun a => Fin.ext (((ValueKit.rect_emb_unit_val _ _ _ _ a).trans (by fin_cases a <;> simp [ix2]; omega)).symm)
    rw [hi]
    exact View.canon_cons_emb _ _ _ _

theorem prod_apply (h : S1024x2048.Idx → Elt Ideal .bf16) (W : S2048x1024.Idx → Elt Ideal .bf16) (r e : Fin 1024) :
    prod h W (ix2 r e) = ∑ k : Fin 2048, (h (ix2 r k) : EReal) * W (ix2 k e) := by
  unfold prod
  pointwise [k0_pay7, k0_pay6]

theorem half_apply (w : FVec Ideal S2048x512 .f32) (k : Fin 2048) (e : Fin 512) : k0_pay2 (F := Ideal) w (ix2 k e) = w (ix2 k e) := by
  pointwise [k0_pay2]

theorem half_apply' (w : FVec Ideal S2048x512 .f32) (k : Fin 2048) (e : Fin 512) : k0_pay3 (F := Ideal) w (ix2 k e) = w (ix2 k e) := by
  pointwise [k0_pay3]

theorem none_apply (q : Fin 8) (e : Fin 1024) : k0_pay4 (F := Ideal) (ix2 q e) = (0 : EReal) := by
  pointwise [k0_pay4]

theorem last_apply (S : S1032x1024.Idx → Elt Ideal .f32) (q : Fin 8) (e : Fin 1024) :
    k0_pay5 (F := Ideal) (View.ld (Val := Elt Ideal) (e' := .f32) S (Rect.unit ![1024, 0] ![8, 1024] inb_S1032x1024_S8x1024_1024_0)) (ix2 q e)
      = S (ix2 ⟨1024 + q.val, by omega⟩ e) := by
  pointwise [k0_pay5]

theorem conv_apply (c : FVec Ideal S3x512 .f32) (b : FVec Ideal S1x512 .f32) (u0 u1 u2 : FVec Ideal S1024x512 .f32) (r : Fin 1024) (d : Fin 512) :
    k0_pay8 (F := Ideal) c b u0 u1 u2 (ix2 r d) = conv (b (ix2 0 d)) (fun k => c (ix2 k d)) (u0 (ix2 r d)) (u1 (ix2 r d)) (u2 (ix2 r d)) := by
  pointwise [k0_pay8]
  rfl

theorem gate_apply (a : FVec Ideal S1024x512 .f32) (c : FVec Ideal S3x512 .f32) (b : FVec Ideal S1x512 .f32) (u0 u1 u2 : FVec Ideal S1024x512 .f32) (r : Fin 1024) (d : Fin 512) :
    k0_pay1 (F := Ideal) a c (k0_pay9 (F := Ideal) c b u0 u1) u2 (ix2 r d)
      = gated (a (ix2 r d)) (conv (b (ix2 0 d)) (fun k => c (ix2 k d)) (u0 (ix2 r d)) (u1 (ix2 r d)) (u2 (ix2 r d))) := by
  pointwise [k0_pay1, k0_pay9]
  rfl

theorem ld_apply (S : S1032x1024.Idx → Elt Ideal .f32) (o p : ℕ) (inb : ∀ a, (![o, p] : Fin 2 → ℕ) a + (![1024, 512] : Fin 2 → ℕ) a ≤ S1032x1024.size a)
    (r : Fin 1024) (d : Fin 512) (q : Fin 1032) (e : Fin 1024) (hq : q.val = o + r.val) (he : e.val = p + d.val) :
    View.ld (Val := Elt Ideal) (e' := .f32) S (Rect.unit (s := S1032x1024) ![o, p] ![1024, 512] inb) (ix2 r d) = S (ix2 q e) :=
  congrArg S (by funext a; fin_cases a <;> refine Fin.ext ?_ <;> simp [Rect.emb, ix2, hq, he])

/-- The block of the result at row `r` and column `d`. -/
theorem finish_apply (cg cv : S3x512.Idx → Elt Ideal .f32) (bg bv : S1x512.Idx → Elt Ideal .f32) (S : S1032x1024.Idx → Elt Ideal .f32) (r : Fin 1024) (d : Fin 512) :
    finish cg cv bg bv S (ix2 r d)
      = gated
        (conv (bg (ix2 0 d)) (fun k => cg (ix2 k d)) (S (ix2 ⟨8 + r.val, by omega⟩ ⟨d.val, by omega⟩)) (S (ix2 ⟨7 + r.val, by omega⟩ ⟨d.val, by omega⟩)) (S (ix2 ⟨6 + r.val, by omega⟩ ⟨d.val, by omega⟩)))
        (conv (bv (ix2 0 d)) (fun k => cv (ix2 k d)) (S (ix2 ⟨8 + r.val, by omega⟩ ⟨512 + d.val, by omega⟩)) (S (ix2 ⟨7 + r.val, by omega⟩ ⟨512 + d.val, by omega⟩)) (S (ix2 ⟨6 + r.val, by omega⟩ ⟨512 + d.val, by omega⟩))) := by
  unfold finish
  refine (gate_apply _ _ _ _ _ _ r d).trans ?_
  rw [conv_apply]
  rw [ld_apply S 8 0 _ r d ⟨8 + r.val, by omega⟩ ⟨d.val, by omega⟩ rfl (Nat.zero_add _).symm, ld_apply S 7 0 _ r d ⟨7 + r.val, by omega⟩ ⟨d.val, by omega⟩ rfl (Nat.zero_add _).symm,
    ld_apply S 6 0 _ r d ⟨6 + r.val, by omega⟩ ⟨d.val, by omega⟩ rfl (Nat.zero_add _).symm, ld_apply S 8 512 _ r d ⟨8 + r.val, by omega⟩ ⟨512 + d.val, by omega⟩ rfl rfl,
    ld_apply S 7 512 _ r d ⟨7 + r.val, by omega⟩ ⟨512 + d.val, by omega⟩ rfl rfl, ld_apply S 6 512 _ r d ⟨6 + r.val, by omega⟩ ⟨512 + d.val, by omega⟩ rfl rfl]

end Cert.UpValue

end
-- ==== Proof.UpValue.lean ====
module

public import proofs.«01_k».proof.Proof.UpBlock
public import Idealize.ShloMosaic.Lib.StableHlo.RunRead

/-! The feed-forward network's first half: the array its call leaves, as the reference's function of its arguments. -/

@[expose] public section

set_option maxRecDepth 16384

noncomputable section

namespace Cert.UpValue

open Cert.UpIdeal Cert.UpIdeal.Gen
open Idealize.ShloMosaic Idealize.ShloMosaic.TcCoe Idealize.ShloMosaic.Tactic
open Idealize.ShloMosaic.Pipeline (Dat Cfg Window)
open scoped BigOperators

/-- The batch entry of a row of the flattened arrays. -/
abbrev batch (r : Fin 8192) : Fin 2 := ⟨r.val / 4096, by omega⟩
/-- The row within its batch entry. -/
abbrev inner (r : Fin 8192) : Fin 4096 := ⟨r.val % 4096, by omega⟩

variable (m : (ℓ : Loc nD τ sig) → Buf (Elt Ideal) ℓ) (c : Dev nD)

theorem hidden_eq (x : FVec Ideal S2x4096x2048 .f32) (h : m (c.tc.loc main_arg0) = x) (r : Fin 8192) (k : Fin 2048) :
    V m c main_v1 (ix2 r k) = x (ix3 (batch r) (inner r) k) := by
  entry_read
  rw [h]
  pointwise []

theorem bias_eq (b : FVec Ideal S11264 .f32) (h : m (c.tc.loc main_arg3) = b) (e : Fin 11264) :
    V m c main_v2 (ix2 0 e) = b (ix1 e) := by
  entry_read
  rw [h]
  pointwise []

theorem idx_0 (t : Fin cfg0.N) : win0_0.index t = ![t.val % 8, 0] :=
  (by decide +kernel : ∀ t : Fin grid0.N, win0_0.index t = ![t.val % 8, 0]) t
theorem idx_1 (t : Fin cfg0.N) : win0_1.index t = ![0, t.val / 8] :=
  (by decide +kernel : ∀ t : Fin grid0.N, win0_1.index t = ![0, t.val / 8]) t
theorem idx_2 (t : Fin cfg0.N) : win0_2.index t = ![0, 11 + t.val / 8] :=
  (by decide +kernel : ∀ t : Fin grid0.N, win0_2.index t = ![0, 11 + t.val / 8]) t
theorem idx_3 (t : Fin cfg0.N) : win0_3.index t = ![0, t.val / 8] :=
  (by decide +kernel : ∀ t : Fin grid0.N, win0_3.index t = ![0, t.val / 8]) t
theorem idx_4 (t : Fin cfg0.N) : win0_4.index t = ![0, 11 + t.val / 8] :=
  (by decide +kernel : ∀ t : Fin grid0.N, win0_4.index t = ![0, 11 + t.val / 8]) t
theorem idx_5 (t : Fin cfg0.N) : win0_5.index t = ![0, t.val / 8] :=
  (by decide +kernel : ∀ t : Fin grid0.N, win0_5.index t = ![0, t.val / 8]) t
theorem idx_6 (t : Fin cfg0.N) : win0_6.index t = ![0, 11 + t.val / 8] :=
  (by decide +kernel : ∀ t : Fin grid0.N, win0_6.index t = ![0, 11 + t.val / 8]) t
theorem idx_7 (t : Fin cfg0.N) : win0_7.index t = ![t.val % 8, t.val / 8] :=
  (by decide +kernel : ∀ t : Fin grid0.N, win0_7.index t = ![t.val % 8, t.val / 8]) t

/-- Row `r` of the rows of a point, as a row of the array. -/
abbrev row (t : Fin cfg0.N) (r : Fin 1024) : Fin 8192 := ⟨t.val % 8 * 1024 + r.val, by omega⟩
/-- Column `d` of the gate's columns of a point. -/
abbrev left (t : Fin cfg0.N) (d : Fin 512) : Fin 11264 := ⟨t.val / 8 * 512 + d.val, by have := t.isLt; have h : cfg0.N = 88 := rfl; omega⟩
/-- Column `d` of the value's columns of a point. -/
abbrev right (t : Fin cfg0.N) (d : Fin 512) : Fin 11264 := ⟨(11 + t.val / 8) * 512 + d.val, by have := t.isLt; have h : cfg0.N = 88 := rfl; omega⟩

theorem block_0 (t : Fin cfg0.N) (r : Fin 1024) (k : Fin 2048) : iblk m c 0 t (ix2 r k) = V m c main_v1 (ix2 (row t r) k) := by
  blk_ext [iblk, idx_0 t]
theorem block_1 (t : Fin cfg0.N) (k : Fin 2048) (d : Fin 512) : iblk m c 1 t (ix2 k d) = V m c main_arg1 (ix2 k (left t d)) := by
  blk_ext [iblk, idx_1 t]
theorem block_2 (t : Fin cfg0.N) (k : Fin 2048) (d : Fin 512) : iblk m c 2 t (ix2 k d) = V m c main_arg1 (ix2 k (right t d)) := by
  blk_ext [iblk, idx_2 t]
theorem block_3 (t : Fin cfg0.N) (k : Fin 3) (d : Fin 512) : iblk m c 3 t (ix2 k d) = V m c main_arg2 (ix2 k (left t d)) := by
  blk_ext [iblk, idx_3 t]
theorem block_4 (t : Fin cfg0.N) (k : Fin 3) (d : Fin 512) : iblk m c 4 t (ix2 k d) = V m c main_arg2 (ix2 k (right t d)) := by
  blk_ext [iblk, idx_4 t]
theorem block_5 (t : Fin cfg0.N) (d : Fin 512) : iblk m c 5 t (ix2 0 d) = V m c main_v2 (ix2 0 (left t d)) := by
  blk_ext [iblk, idx_5 t]
theorem block_6 (t : Fin cfg0.N) (d : Fin 512) : iblk m c 6 t (ix2 0 d) = V m c main_v2 (ix2 0 (right t d)) := by
  blk_ext [iblk, idx_6 t]

/-- Column `e` of a point's weights, as a column of the whole weights: the gate's columns, then the value's. -/
def col (j : Fin 11) (e : Fin 1024) : Fin 11264 :=
  ⟨if e.val < 512 then j.val * 512 + e.val else (11 + j.val) * 512 + (e.val - 512), by split_ifs <;> omega⟩

variable (x : FVec Ideal S2x4096x2048 .f32) (w : FVec Ideal S2048x11264 .f32)

/-- Column `e` of the products of a batch entry's rows, eight zero rows before them. -/
def shifted (b : Fin 2) (e : Fin 11264) (p : ℕ) : EReal := if h : 8 ≤ p ∧ p < 4104 then up x w b e ⟨p - 8, by omega⟩ else 0

theorem shifted_before (b : Fin 2) (e : Fin 11264) (s : Fin 4096) (k p : ℕ) (hk : k ≤ 8) (hp : p + k = s.val + 8) : shifted x w b e p = before (up x w b e) s k := by
  have hs := s.isLt
  unfold shifted before
  by_cases h : k ≤ s.val
  · rw [dif_pos ⟨by omega, by omega⟩, if_pos h]
    exact congrArg (up x w b e) (Fin.ext (by show p - 8 = s.val - k; omega))
  · rw [dif_neg (by omega), if_neg h]

/-- Which columns a point works on. -/
abbrev jOf (t : Fin cfg0.N) : Fin 11 := ⟨t.val / 8, by have := t.isLt; have h : cfg0.N = 88 := rfl; omega⟩
/-- Which batch entry a point works on. -/
abbrev bOf (t : Fin cfg0.N) : Fin 2 := ⟨t.val % 8 / 4, by omega⟩

theorem new_weights (e1 : m (c.tc.loc main_arg1) = w) (t : Fin cfg0.N) (k : Fin 2048) (e : Fin 1024) :
    halves (k0_pay2 (F := Ideal) (iblk m c 1 t)) (k0_pay3 (F := Ideal) (iblk m c 2 t)) (ix2 k e) = w (ix2 k (col (jOf t) e)) := by
  rw [halves_apply]
  split_ifs with h
  · rw [half_apply, block_1, V_main_arg1, e1]
    exact congrArg (fun e => w (ix2 k e)) (Fin.ext (by simp [col, h]))
  · rw [half_apply', block_2, V_main_arg1, e1]
    exact congrArg (fun e => w (ix2 k e)) (Fin.ext (by simp [col, h]))

/-- The rows that a point's product gives, from the weights in the scratch. -/
theorem new_rows (e0 : m (c.tc.loc main_arg0) = x) (t : Fin cfg0.N) (W : S2048x1024.Idx → Elt Ideal .bf16) (e : Fin 1024)
    (hW : ∀ k : Fin 2048, W (ix2 k e) = w (ix2 k (col (jOf t) e))) (q : Fin 1032) (hq : ¬ q.val < 8) :
    prod (iblk m c 0 t) W (ix2 ⟨q.val - 8, by omega⟩ e) = shifted x w (bOf t) (col (jOf t) e) (1024 * (t.val % 4) + q.val) := by
  rw [prod_apply, shifted, dif_pos ⟨by omega, by omega⟩, up]
  refine Finset.sum_congr rfl fun k _ => ?_
  rw [hW, block_0, hidden_eq m c x e0]
  refine congrArg (fun i => x i * _) ?_
  funext a; fin_cases a <;> refine Fin.ext ?_
  · show (t.val % 8 * 1024 + (q.val - 8)) / 4096 = t.val % 8 / 4; omega
  · show (t.val % 8 * 1024 + (q.val - 8)) % 4096 = 1024 * (t.val % 4) + q.val - 8; omega
  · rfl

/-- What the two scratches hold after a point: the weights of the point's columns, and the products of its rows with the eight rows before them. -/
def Holds (t : Fin cfg0.N) : Prop :=
  (∀ (k : Fin 2048) (e : Fin 1024), (outsAt0 m c t.val t.isLt).2.1 (ix2 k e) = w (ix2 k (col (jOf t) e)))
    ∧ ∀ (q : Fin 1032) (e : Fin 1024), (outsAt0 m c t.val t.isLt).2.2 (ix2 q e) = shifted x w (bOf t) (col (jOf t) e) (1024 * (t.val % 4) + q.val)

theorem holds (e0 : m (c.tc.loc main_arg0) = x) (e1 : m (c.tc.loc main_arg1) = w) (n : ℕ) (hn : n < cfg0.N) : Holds m c x w ⟨n, hn⟩ := by
  induction n with
  | zero =>
    have hW : ∀ (k : Fin 2048) (e : Fin 1024), (outsAt0 m c 0 hn).2.1 (ix2 k e) = w (ix2 k (col (jOf ⟨0, hn⟩) e)) := fun k e => by
      rw [weights_A m c ⟨0, hn⟩ rfl rfl (by simp)]
      exact new_weights m c w e1 ⟨0, hn⟩ k e
    refine ⟨hW, fun q e => ?_⟩
    rw [rows_A m c ⟨0, hn⟩ rfl rfl (by simp), panel_apply]
    split_ifs with h
    · rw [none_apply, shifted, dif_neg (by simp; omega)]
    · exact new_rows m c x w e0 ⟨0, hn⟩ _ e (fun k => new_weights m c w e1 ⟨0, hn⟩ k e) q h
  | succ n ih =>
    have ih := ih (by omega)
    have hN : cfg0.N = 88 := rfl
    by_cases h0 : (n + 1) % 8 = 0
    · have h1 : (n + 1) % 4 = 0 := by omega
      refine ⟨fun k e => ?_, fun q e => ?_⟩
      · rw [weights_A m c ⟨n + 1, hn⟩ h0 h1 (not_not.mpr h1)]
        exact new_weights m c w e1 ⟨n + 1, hn⟩ k e
      · rw [rows_A m c ⟨n + 1, hn⟩ h0 h1 (not_not.mpr h1), panel_apply]
        split_ifs with h
        · rw [none_apply, shifted, dif_neg (by simp only [h1]; omega)]
        · exact new_rows m c x w e0 ⟨n + 1, hn⟩ _ e (fun k => new_weights m c w e1 ⟨n + 1, hn⟩ k e) q h
    · have hj : jOf ⟨n, by omega⟩ = jOf ⟨n + 1, hn⟩ := Fin.ext (by show n / 8 = (n + 1) / 8; omega)
      have hp : ∀ (k : Fin 2048) (e : Fin 1024), (outsAt0 m c (n + 1 - 1) (by omega)).2.1 (ix2 k e) = w (ix2 k (col (jOf ⟨n + 1, hn⟩) e)) := fun k e => by
        rw [← hj]
        exact ih.1 k e
      by_cases h1 : (n + 1) % 4 = 0
      · refine ⟨fun k e => ?_, fun q e => ?_⟩
        · rw [weights_C m c ⟨n + 1, hn⟩ h0 h1 (not_not.mpr h1)]
          exact hp k e
        · rw [rows_C m c ⟨n + 1, hn⟩ h0 h1 (not_not.mpr h1), panel_apply]
          split_ifs with h
          · rw [none_apply, shifted, dif_neg (by simp only [h1]; omega)]
          · exact new_rows m c x w e0 ⟨n + 1, hn⟩ _ e (fun k => hp k e) q h
      · refine ⟨fun k e => ?_, fun q e => ?_⟩
        · rw [weights_B m c ⟨n + 1, hn⟩ h0 h1 h1]
          exact hp k e
        · rw [rows_B m c ⟨n + 1, hn⟩ h0 h1 h1, panel_apply]
          split_ifs with h
          · rw [last_apply]
            refine (ih.2 ⟨1024 + q.val, by omega⟩ e).trans ?_
            have hb : bOf ⟨n, by omega⟩ = bOf ⟨n + 1, hn⟩ := Fin.ext (by show n % 8 / 4 = (n + 1) % 8 / 4; omega)
            rw [hj, hb]
            exact congrArg _ (by show 1024 * (n % 4) + (1024 + q.val) = 1024 * ((n + 1) % 4) + q.val; omega)
          · exact new_rows m c x w e0 ⟨n + 1, hn⟩ _ e (fun k => hp k e) q h

theorem out_eq (t : Fin cfg0.N) :
    (outsAt0 m c t.val t.isLt).1 = finish (iblk m c 3 t) (iblk m c 4 t) (iblk m c 5 t) (iblk m c 6 t) (outsAt0 m c t.val t.isLt).2.2 := by
  by_cases h0 : t.val % 8 = 0
  · exact out_A m c t h0 (by omega) (not_not.mpr (by omega))
  · by_cases h1 : t.val % 4 = 0
    · exact out_C m c t h0 h1 (not_not.mpr h1)
    · exact out_B m c t h0 h1 h1

/-- The array the call leaves is the reference's. -/
theorem arr_7 (cw : FVec Ideal S3x11264 .f32) (cb : FVec Ideal S11264 .f32) (e0 : m (c.tc.loc main_arg0) = x) (e1 : m (c.tc.loc main_arg1) = w)
    (e2 : m (c.tc.loc main_arg2) = cw) (e3 : m (c.tc.loc main_arg3) = cb) :
    (dats m 0 c).arrAt 7 cfg0.N = Cert.UpReferenceIdeal.Read.val_main_v42 (F := Ideal) x w cw cb := by
  refine (dats m 0 c).arrAt_eq_of_covers 7 _ (by decide +kernel) fun t hf y => ?_
  blk_simp
  rw [after0_7, Cert.UpReferenceIdeal.Read.val_main_v42_apply, Cert.UpReferenceIdeal.Read.val_main_v41_apply]
  obtain ⟨r, d, rfl⟩ : ∃ (r : Fin 1024) (d : Fin 512), y = ix2 r d := ⟨y 0, y 1, by funext a; fin_cases a <;> rfl⟩
  generalize hi : ((View.whole main_v3).slice (win0_7.rect t)).emb (ix2 r d) = i
  have h0 : (i 0).val = t.val % 8 * 1024 + r.val := by rw [← hi]; blk_simp [idx_7 t]
  have h1 : (i 1).val = t.val / 8 * 512 + d.val := by rw [← hi]; blk_simp [idx_7 t]
  have hr := r.isLt
  have hd := d.isLt
  have ht : t.val < 88 := t.isLt
  have ei : Cert.UpReferenceIdeal.Read.idx_main_v41 i = ix3 (batch (row t r)) (inner (row t r)) (⟨t.val / 8 * 512 + d.val, by omega⟩ : Fin 5632) := by
    funext a; fin_cases a <;> refine Fin.ext ?_
    · show ((i 0).val * 5632 + (i 1).val) / 23068672 = (t.val % 8 * 1024 + r.val) / 4096; omega
    · show ((i 0).val * 5632 + (i 1).val) / 5632 % 4096 = (t.val % 8 * 1024 + r.val) % 4096
      rw [h0, h1, show ((t.val % 8 * 1024 + r.val) * 5632 + (t.val / 8 * 512 + d.val)) / 5632 = t.val % 8 * 1024 + r.val by omega]
    · show ((i 0).val * 5632 + (i 1).val) % 5632 = t.val / 8 * 512 + d.val; omega
  rw [ei, gated_apply, out_eq, finish_apply]
  have hb : batch (row t r) = bOf t := Fin.ext (by show (t.val % 8 * 1024 + r.val) / 4096 = t.val % 8 / 4; omega)
  have hs : (inner (row t r)).val = 1024 * (t.val % 4) + r.val := by show (t.val % 8 * 1024 + r.val) % 4096 = _; omega
  have hl : col (jOf t) ⟨d.val, by omega⟩ = left t d := Fin.ext (by simp [col])
  have hg : col (jOf t) ⟨512 + d.val, by omega⟩ = right t d := Fin.ext (by simp [col])
  have el : (⟨t.val / 8 * 512 + d.val, by omega⟩ : Fin 11264) = left t d := rfl
  have er : (⟨5632 + (t.val / 8 * 512 + d.val), by omega⟩ : Fin 11264) = right t d := Fin.ext (by show 5632 + (t.val / 8 * 512 + d.val) = (11 + t.val / 8) * 512 + d.val; omega)
  have key := (holds m c x w e0 e1 t.val t.isLt).2
  have hc : ∀ (k : Fin 3) (e : Fin 11264), V m c main_arg2 (ix2 k e) = cw (ix2 k e) := fun k e => by rw [V_main_arg2, e2]
  simp only [block_3, block_4, block_5, block_6, bias_eq m c cb e3, hc, key, hl, hg]
  rw [shifted_before x w _ _ (inner (row t r)) 0 _ (by omega) (by show 1024 * (t.val % 4) + (8 + r.val) + 0 = _; omega),
    shifted_before x w _ _ (inner (row t r)) 1 _ (by omega) (by show 1024 * (t.val % 4) + (7 + r.val) + 1 = _; omega),
    shifted_before x w _ _ (inner (row t r)) 2 _ (by omega) (by show 1024 * (t.val % 4) + (6 + r.val) + 2 = _; omega),
    shifted_before x w _ (right t d) (inner (row t r)) 0 _ (by omega) (by show 1024 * (t.val % 4) + (8 + r.val) + 0 = _; omega),
    shifted_before x w _ (right t d) (inner (row t r)) 1 _ (by omega) (by show 1024 * (t.val % 4) + (7 + r.val) + 1 = _; omega),
    shifted_before x w _ (right t d) (inner (row t r)) 2 _ (by omega) (by show 1024 * (t.val % 4) + (6 + r.val) + 2 = _; omega)]
  unfold mixed
  rw [hb, er]
  rfl

end Cert.UpValue

end
-- ==== Proof.InOk.lean ====
module

public import proofs.«01_k».proof.Proof.Gen.InIdeal.Frame
public import proofs.«01_k».proof.Proof.Gen.In.Frame
public import Idealize.ShloMosaic.Lib.Pipeline.ValueKit
public import Idealize.ShloMosaic.Lib.Pointwise
public import Idealize.ShloMosaic.Lib.StableHlo.RunRead

/-! The input projection's table of source rows, which says where each panel of the weights starts, as the constant it is. -/

@[expose] public section

set_option maxRecDepth 16384

noncomputable section

namespace Cert.InOk

open Idealize.ShloMosaic Idealize.ShloMosaic.TcCoe Idealize.ShloMosaic.Tactic
open Idealize.ShloMosaic.StableHlo

/-- The table is the constant, in the machine reading. -/
theorem machine_table {F : FTy → Type} [FloatOps F] (m : (ℓ : Loc Cert.In.nD Cert.In.τ Cert.In.sig) → Buf (Elt F) ℓ) :
    Cert.In.Gen.tbl m = fun | 0 => fun i => Cert.In.lit0 (Cert.In.S11.rowMajor i) := by
  funext j
  obtain rfl : j = 0 := Subsingleton.elim _ _
  show Cert.In.Gen.V m 0 Cert.In.main_c = _
  unfold Cert.In.Gen.V
  after_reads_simp
  rfl

/-- Every panel lies inside the weights, at a row that is a multiple of sixteen, in the machine reading. -/
theorem machine_ok (m : (ℓ : Loc Cert.In.nD Cert.In.τ Cert.In.sig) → Buf (Elt Bits) ℓ) : Cert.In.Gen.Ok m := by
  unfold Cert.In.Gen.Ok
  rw [machine_table]
  decide +kernel

/-- The table is the constant, in the ideal reading. -/
theorem ideal_table {F : FTy → Type} [FloatOps F] (m : (ℓ : Loc Cert.InIdeal.nD Cert.InIdeal.τ Cert.InIdeal.sig) → Buf (Elt F) ℓ) :
    Cert.InIdeal.Gen.tbl m = fun | 0 => fun i => Cert.InIdeal.lit0 (Cert.InIdeal.S11.rowMajor i) := by
  funext j
  obtain rfl : j = 0 := Subsingleton.elim _ _
  show Cert.InIdeal.Gen.V m 0 Cert.InIdeal.main_c = _
  unfold Cert.InIdeal.Gen.V
  after_reads_simp
  rfl

/-- Every panel lies inside the weights, at a row that is a multiple of sixteen, in the ideal reading. -/
theorem ideal_ok (m : (ℓ : Loc Cert.InIdeal.nD Cert.InIdeal.τ Cert.InIdeal.sig) → Buf (Elt Ideal) ℓ) : Cert.InIdeal.Gen.Ok m := by
  unfold Cert.InIdeal.Gen.Ok
  rw [ideal_table]
  decide +kernel

end Cert.InOk

end
-- ==== Proof.InRef.lean ====
module

public import proofs.«01_k».proof.Proof.Gen.InReferenceIdeal.Read
public import Idealize.ShloMosaic.Lib.Pipeline.ValueKit
public import Idealize.ShloMosaic.Lib.Pointwise

/-! The input projection's reference read at an index: which column of the weights each column of the result is of. -/

@[expose] public section

set_option maxRecDepth 16384

noncomputable section

namespace Cert.InValue

open Idealize.ShloMosaic Idealize.ShloMosaic.TcCoe Idealize.ShloMosaic.Tactic
open scoped BigOperators
open Cert.InReferenceIdeal (S2x4096x2048 S2048x11088 S8192x11088 S8192x11264)

/-- The batch entry of a row of the flattened arrays. -/
abbrev batch (r : Fin 8192) : Fin 2 := ⟨r.val / 4096, by omega⟩
/-- The row within its batch entry. -/
abbrev inner (r : Fin 8192) : Fin 4096 := ⟨r.val % 4096, by omega⟩

/-- The column of the weights that a column of the result is the product with; the 96 columns without one are zero. -/
def source (z : ℕ) : Option ℕ :=
  if z < 832 then some z
  else if z < 864 then some (800 + (z - 832))
  else if z < 896 then some (768 + (z - 864))
  else if z < 912 then some (4928 + (z - 896))
  else if z < 928 then some (4928 + (z - 912))
  else if z < 1024 then none
  else if z < 2048 then some (832 + (z - 1024))
  else if z < 4096 then some (2880 + (z - 2048))
  else if z < 6144 then some (4944 + (z - 4096))
  else if z < 8192 then some (6992 + (z - 6144))
  else if z < 10240 then some (9040 + (z - 8192))
  else some (1856 + (z - 10240))

/-- Row `k` of the weights at the column that column `z` of the result is of, zero where there is none. -/
def entry (w : FVec Ideal S2048x11088 .f32) (k : Fin 2048) (z : ℕ) : EReal :=
  match source z with
  | none => 0
  | some e => if h : e < 11088 then w (ix2 k ⟨e, h⟩) else 0

variable (x : FVec Ideal S2x4096x2048 .f32) (w : FVec Ideal S2048x11088 .f32)

/-- The product of a row with a column of the weights. -/
theorem product_apply (r : Fin 8192) (e : Fin 11088) :
    Cert.InReferenceIdeal.Read.val_main_v1 (F := Ideal) x w (ix2 r e) = ∑ k : Fin 2048, x (ix3 (batch r) (inner r) k) * w (ix2 k e) := by
  rw [Cert.InReferenceIdeal.Read.val_main_v1_apply, Cert.InReferenceIdeal.Read.val_main_v0_apply]
  have hr := r.isLt
  have he := e.isLt
  have hi : Cert.InReferenceIdeal.Read.idx_main_v1 (ix2 r e) = ix3 (batch r) (inner r) e := by
    funext a; fin_cases a <;> refine Fin.ext ?_
    · show (r.val * 11088 + e.val) / 45416448 = r.val / 4096; omega
    · show (r.val * 11088 + e.val) / 11088 % 4096 = r.val % 4096
      rw [show (r.val * 11088 + e.val) / 11088 = r.val by omega]
    · show (r.val * 11088 + e.val) % 11088 = e.val; omega
  rw [hi]
  refine Finset.sum_congr rfl fun k _ => ?_
  have hl : Cert.InReferenceIdeal.Read.lidx_main_v0 (ix3 (batch r) (inner r) e) k = ix3 (batch r) (inner r) k := by
    funext a; fin_cases a <;> rfl
  have hg : Cert.InReferenceIdeal.Read.ridx_main_v0 (ix3 (batch r) (inner r) e) k = ix2 k e := by
    funext a; fin_cases a <;> rfl
  rw [hl, hg]

/-- An array joined from pieces, read at a coordinate `c` of the joined axis: either in the first piece, or in the rest, `c` less that piece's extent. -/
theorem joined_step {α : Type} {t s : Shape} (a : Fin t.rank) (j : t.Idx) (f : s.Idx → α) (q : (s : Shape) × (s.Idx → α)) (xs : List ((s : Shape) × (s.Idx → α)))
    (hs : ∀ s' ∈ (((⟨s, f⟩ : (s : Shape) × (s.Idx → α)) :: q :: xs).map (·.1)), s'.FitsOff t a) (c : ℕ)
    (hc : c < (axisSizes t a ((⟨s, f⟩ : (s : Shape) × (s.Idx → α)) :: q :: xs)).sum) (v : α) (hr : s.rank = t.rank)
    (h1 : ∀ i : s.Idx, c < s.size (a.cast hr.symm) → (∀ b : Fin s.rank, (i b).val = if b.val = a.val then c else (j (b.cast hr)).val) → f i = v)
    (h2 : ∀ c' hs' hc', c = s.size (a.cast hr.symm) + c' → concatenateAt t a j (q :: xs) hs' c' hc' = v) :
    concatenateAt t a j ((⟨s, f⟩ : (s : Shape) × (s.Idx → α)) :: q :: xs) hs c hc = v := by
  rw [concatenateAt]
  split_ifs with h
  · exact h1 _ h fun b => rfl
  · exact h2 _ _ _ (Nat.add_sub_of_le (Nat.le_of_not_lt h)).symm

/-- The last piece of an array joined from pieces. -/
theorem joined_last {α : Type} {t s : Shape} (a : Fin t.rank) (j : t.Idx) (f : s.Idx → α)
    (hs : ∀ s' ∈ ([(⟨s, f⟩ : (s : Shape) × (s.Idx → α))].map (·.1)), s'.FitsOff t a) (c : ℕ)
    (hc : c < (axisSizes t a [(⟨s, f⟩ : (s : Shape) × (s.Idx → α))]).sum) (v : α) (hr : s.rank = t.rank)
    (h1 : ∀ i : s.Idx, (∀ b : Fin s.rank, (i b).val = if b.val = a.val then c else (j (b.cast hr)).val) → f i = v) :
    concatenateAt t a j [(⟨s, f⟩ : (s : Shape) × (s.Idx → α))] hs c hc = v := by
  rw [concatenateAt]
  exact h1 _ fun b => rfl

/-- The products of a row that a column of the result is made of. -/
def result (r : Fin 8192) (z : ℕ) : EReal := ∑ k : Fin 2048, x (ix3 (batch r) (inner r) k) * entry w k z

theorem piece (r : Fin 8192) (z : ℕ) (i : S8192x11088.Idx) (h0 : (i 0).val = r.val) (h1 : source z = some (i 1).val) :
    Cert.InReferenceIdeal.Read.val_main_v1 (F := Ideal) x w i = result x w r z := by
  obtain ⟨e, he⟩ : ∃ e : Fin 11088, e.val = (i 1).val := ⟨⟨(i 1).val, (i 1).isLt⟩, rfl⟩
  have hi : i = ix2 r e := by
    funext a; fin_cases a
    · exact Fin.ext h0
    · exact Fin.ext he.symm
  rw [← he] at h1
  rw [hi, product_apply, result]
  refine Finset.sum_congr rfl fun k _ => congrArg _ ?_
  simp only [entry, h1]
  rw [dif_pos e.isLt]

theorem source_928 (e : ℕ) (h : e < 96) : source (928 + e) = none := by
  unfold source
  rw [if_neg (show ¬ 928 + e < 832 by omega), if_neg (show ¬ 928 + e < 864 by omega), if_neg (show ¬ 928 + e < 896 by omega),
    if_neg (show ¬ 928 + e < 912 by omega), if_neg (show ¬ 928 + e < 928 by omega), if_pos (show 928 + e < 1024 by omega)]

theorem zero_columns (r : Fin 8192) (z : ℕ) (h0 : 928 ≤ z) (h1 : z < 1024) : result x w r z = 0 := by
  have hz : source z = none := (congrArg source (by omega)).trans (source_928 (z - 928) (by omega))
  unfold result
  refine Finset.sum_eq_zero fun k _ => ?_
  unfold entry
  rw [hz]
  exact mul_zero _

theorem source_0 (e : ℕ) (h : e < 512) : source (0 + e) = some (e) := by
  unfold source
  rw [if_pos (show 0 + e < 832 by omega)]
  exact congrArg some (by omega)

theorem at_0 (r : Fin 8192) (i : Cert.InReferenceIdeal.S8192x512.Idx) (h0 : (i 0).val = r.val) (e : ℕ) (he : (i 1).val = e) :
    Cert.InReferenceIdeal.Read.val_main_v2 (F := Ideal) x w i = result x w r (0 + e) := by
  subst he
  rw [Cert.InReferenceIdeal.Read.val_main_v2_apply]
  exact piece x w r _ _ h0 (source_0 _ (i 1).isLt)

theorem source_512 (e : ℕ) (h : e < 256) : source (512 + e) = some (512 + e) := by
  unfold source
  rw [if_pos (show 512 + e < 832 by omega)]

theorem at_512 (r : Fin 8192) (i : Cert.InReferenceIdeal.S8192x256.Idx) (h0 : (i 0).val = r.val) (e : ℕ) (he : (i 1).val = e) :
    Cert.InReferenceIdeal.Read.val_main_v3 (F := Ideal) x w i = result x w r (512 + e) := by
  subst he
  rw [Cert.InReferenceIdeal.Read.val_main_v3_apply]
  exact piece x w r _ _ h0 (source_512 _ (i 1).isLt)

theorem source_768 (e : ℕ) (h : e < 64) : source (768 + e) = some (768 + e) := by
  unfold source
  rw [if_pos (show 768 + e < 832 by omega)]

theorem at_768 (r : Fin 8192) (i : Cert.InReferenceIdeal.S8192x64.Idx) (h0 : (i 0).val = r.val) (e : ℕ) (he : (i 1).val = e) :
    Cert.InReferenceIdeal.Read.val_main_v4 (F := Ideal) x w i = result x w r (768 + e) := by
  subst he
  rw [Cert.InReferenceIdeal.Read.val_main_v4_apply]
  exact piece x w r _ _ h0 (source_768 _ (i 1).isLt)

theorem source_832 (e : ℕ) (h : e < 32) : source (832 + e) = some (768 + (32 + e)) := by
  unfold source
  rw [if_neg (show ¬ 832 + e < 832 by omega), if_pos (show 832 + e < 864 by omega)]
  exact congrArg some (by omega)

theorem at_832 (r : Fin 8192) (i : Cert.InReferenceIdeal.S8192x32.Idx) (h0 : (i 0).val = r.val) (e : ℕ) (he : (i 1).val = e) :
    Cert.InReferenceIdeal.Read.val_main_v13 (F := Ideal) x w i = result x w r (832 + e) := by
  subst he
  rw [Cert.InReferenceIdeal.Read.val_main_v13_apply, Cert.InReferenceIdeal.Read.val_main_v4_apply]
  exact piece x w r _ _ h0 (source_832 _ (i 1).isLt)

theorem source_864 (e : ℕ) (h : e < 32) : source (864 + e) = some (768 + e) := by
  unfold source
  rw [if_neg (show ¬ 864 + e < 832 by omega), if_neg (show ¬ 864 + e < 864 by omega), if_pos (show 864 + e < 896 by omega)]
  exact congrArg some (by omega)

theorem at_864 (r : Fin 8192) (i : Cert.InReferenceIdeal.S8192x32.Idx) (h0 : (i 0).val = r.val) (e : ℕ) (he : (i 1).val = e) :
    Cert.InReferenceIdeal.Read.val_main_v14 (F := Ideal) x w i = result x w r (864 + e) := by
  subst he
  rw [Cert.InReferenceIdeal.Read.val_main_v14_apply, Cert.InReferenceIdeal.Read.val_main_v4_apply]
  exact piece x w r _ _ h0 (source_864 _ (i 1).isLt)

theorem source_896 (e : ℕ) (h : e < 16) : source (896 + e) = some (4928 + e) := by
  unfold source
  rw [if_neg (show ¬ 896 + e < 832 by omega), if_neg (show ¬ 896 + e < 864 by omega), if_neg (show ¬ 896 + e < 896 by omega), if_pos (show 896 + e < 912 by omega)]
  exact congrArg some (by omega)

theorem at_896 (r : Fin 8192) (i : Cert.InReferenceIdeal.S8192x16.Idx) (h0 : (i 0).val = r.val) (e : ℕ) (he : (i 1).val = e) :
    Cert.InReferenceIdeal.Read.val_main_v8 (F := Ideal) x w i = result x w r (896 + e) := by
  subst he
  rw [Cert.InReferenceIdeal.Read.val_main_v8_apply]
  exact piece x w r _ _ h0 (source_896 _ (i 1).isLt)

theorem source_912 (e : ℕ) (h : e < 16) : source (912 + e) = some (4928 + e) := by
  unfold source
  rw [if_neg (show ¬ 912 + e < 832 by omega), if_neg (show ¬ 912 + e < 864 by omega), if_neg (show ¬ 912 + e < 896 by omega), if_neg (show ¬ 912 + e < 912 by omega), if_pos (show 912 + e < 928 by omega)]
  exact congrArg some (by omega)

theorem at_912 (r : Fin 8192) (i : Cert.InReferenceIdeal.S8192x16.Idx) (h0 : (i 0).val = r.val) (e : ℕ) (he : (i 1).val = e) :
    Cert.InReferenceIdeal.Read.val_main_v8 (F := Ideal) x w i = result x w r (912 + e) := by
  subst he
  rw [Cert.InReferenceIdeal.Read.val_main_v8_apply]
  exact piece x w r _ _ h0 (source_912 _ (i 1).isLt)

theorem zero_piece (i : Cert.InReferenceIdeal.S8192x96.Idx) : Cert.InReferenceIdeal.Read.val_main_v12 (F := Ideal) i = (0 : EReal) := by
  rw [Cert.InReferenceIdeal.Read.val_main_v12_apply, Cert.InReferenceIdeal.Read.val_main_cst_apply]
  pointwise []

theorem source_1024 (e : ℕ) (h : e < 1024) : source (1024 + e) = some (832 + e) := by
  unfold source
  rw [if_neg (show ¬ 1024 + e < 832 by omega), if_neg (show ¬ 1024 + e < 864 by omega), if_neg (show ¬ 1024 + e < 896 by omega), if_neg (show ¬ 1024 + e < 912 by omega), if_neg (show ¬ 1024 + e < 928 by omega), if_neg (show ¬ 1024 + e < 1024 by omega), if_pos (show 1024 + e < 2048 by omega)]
  exact congrArg some (by omega)

theorem at_1024 (r : Fin 8192) (i : Cert.InReferenceIdeal.S8192x1024.Idx) (h0 : (i 0).val = r.val) (e : ℕ) (he : (i 1).val = e) :
    Cert.InReferenceIdeal.Read.val_main_v5 (F := Ideal) x w i = result x w r (1024 + e) := by
  subst he
  rw [Cert.InReferenceIdeal.Read.val_main_v5_apply]
  exact piece x w r _ _ h0 (source_1024 _ (i 1).isLt)

theorem source_2048 (e : ℕ) (h : e < 2048) : source (2048 + e) = some (2880 + e) := by
  unfold source
  rw [if_neg (show ¬ 2048 + e < 832 by omega), if_neg (show ¬ 2048 + e < 864 by omega), if_neg (show ¬ 2048 + e < 896 by omega), if_neg (show ¬ 2048 + e < 912 by omega), if_neg (show ¬ 2048 + e < 928 by omega), if_neg (show ¬ 2048 + e < 1024 by omega), if_neg (show ¬ 2048 + e < 2048 by omega), if_pos (show 2048 + e < 4096 by omega)]
  exact congrArg some (by omega)

theorem at_2048 (r : Fin 8192) (i : Cert.InReferenceIdeal.S8192x2048.Idx) (h0 : (i 0).val = r.val) (e : ℕ) (he : (i 1).val = e) :
    Cert.InReferenceIdeal.Read.val_main_v7 (F := Ideal) x w i = result x w r (2048 + e) := by
  subst he
  rw [Cert.InReferenceIdeal.Read.val_main_v7_apply]
  exact piece x w r _ _ h0 (source_2048 _ (i 1).isLt)

theorem source_4096 (e : ℕ) (h : e < 2048) : source (4096 + e) = some (4944 + e) := by
  unfold source
  rw [if_neg (show ¬ 4096 + e < 832 by omega), if_neg (show ¬ 4096 + e < 864 by omega), if_neg (show ¬ 4096 + e < 896 by omega), if_neg (show ¬ 4096 + e < 912 by omega), if_neg (show ¬ 4096 + e < 928 by omega), if_neg (show ¬ 4096 + e < 1024 by omega), if_neg (show ¬ 4096 + e < 2048 by omega), if_neg (show ¬ 4096 + e < 4096 by omega), if_pos (show 4096 + e < 6144 by omega)]
  exact congrArg some (by omega)

theorem at_4096 (r : Fin 8192) (i : Cert.InReferenceIdeal.S8192x2048.Idx) (h0 : (i 0).val = r.val) (e : ℕ) (he : (i 1).val = e) :
    Cert.InReferenceIdeal.Read.val_main_v9 (F := Ideal) x w i = result x w r (4096 + e) := by
  subst he
  rw [Cert.InReferenceIdeal.Read.val_main_v9_apply]
  exact piece x w r _ _ h0 (source_4096 _ (i 1).isLt)

theorem source_6144 (e : ℕ) (h : e < 2048) : source (6144 + e) = some (6992 + e) := by
  unfold source
  rw [if_neg (show ¬ 6144 + e < 832 by omega), if_neg (show ¬ 6144 + e < 864 by omega), if_neg (show ¬ 6144 + e < 896 by omega), if_neg (show ¬ 6144 + e < 912 by omega), if_neg (show ¬ 6144 + e < 928 by omega), if_neg (show ¬ 6144 + e < 1024 by omega), if_neg (show ¬ 6144 + e < 2048 by omega), if_neg (show ¬ 6144 + e < 4096 by omega), if_neg (show ¬ 6144 + e < 6144 by omega), if_pos (show 6144 + e < 8192 by omega)]
  exact congrArg some (by omega)

theorem at_6144 (r : Fin 8192) (i : Cert.InReferenceIdeal.S8192x2048.Idx) (h0 : (i 0).val = r.val) (e : ℕ) (he : (i 1).val = e) :
    Cert.InReferenceIdeal.Read.val_main_v10 (F := Ideal) x w i = result x w r (6144 + e) := by
  subst he
  rw [Cert.InReferenceIdeal.Read.val_main_v10_apply]
  exact piece x w r _ _ h0 (source_6144 _ (i 1).isLt)

theorem source_8192 (e : ℕ) (h : e < 2048) : source (8192 + e) = some (9040 + e) := by
  unfold source
  rw [if_neg (show ¬ 8192 + e < 832 by omega), if_neg (show ¬ 8192 + e < 864 by omega), if_neg (show ¬ 8192 + e < 896 by omega), if_neg (show ¬ 8192 + e < 912 by omega), if_neg (show ¬ 8192 + e < 928 by omega), if_neg (show ¬ 8192 + e < 1024 by omega), if_neg (show ¬ 8192 + e < 2048 by omega), if_neg (show ¬ 8192 + e < 4096 by omega), if_neg (show ¬ 8192 + e < 6144 by omega), if_neg (show ¬ 8192 + e < 8192 by omega), if_pos (show 8192 + e < 10240 by omega)]
  exact congrArg some (by omega)

theorem at_8192 (r : Fin 8192) (i : Cert.InReferenceIdeal.S8192x2048.Idx) (h0 : (i 0).val = r.val) (e : ℕ) (he : (i 1).val = e) :
    Cert.InReferenceIdeal.Read.val_main_v11 (F := Ideal) x w i = result x w r (8192 + e) := by
  subst he
  rw [Cert.InReferenceIdeal.Read.val_main_v11_apply]
  exact piece x w r _ _ h0 (source_8192 _ (i 1).isLt)

theorem source_10240 (e : ℕ) (h : e < 1024) : source (10240 + e) = some (1856 + e) := by
  unfold source
  rw [if_neg (show ¬ 10240 + e < 832 by omega), if_neg (show ¬ 10240 + e < 864 by omega), if_neg (show ¬ 10240 + e < 896 by omega), if_neg (show ¬ 10240 + e < 912 by omega), if_neg (show ¬ 10240 + e < 928 by omega), if_neg (show ¬ 10240 + e < 1024 by omega), if_neg (show ¬ 10240 + e < 2048 by omega), if_neg (show ¬ 10240 + e < 4096 by omega), if_neg (show ¬ 10240 + e < 6144 by omega), if_neg (show ¬ 10240 + e < 8192 by omega), if_neg (show ¬ 10240 + e < 10240 by omega)]
  exact congrArg some (by omega)

theorem at_10240 (r : Fin 8192) (i : Cert.InReferenceIdeal.S8192x1024.Idx) (h0 : (i 0).val = r.val) (e : ℕ) (he : (i 1).val = e) :
    Cert.InReferenceIdeal.Read.val_main_v6 (F := Ideal) x w i = result x w r (10240 + e) := by
  subst he
  rw [Cert.InReferenceIdeal.Read.val_main_v6_apply]
  exact piece x w r _ _ h0 (source_10240 _ (i 1).isLt)

set_option maxHeartbeats 1000000 in
/-- The reference's result. -/
theorem result_apply (r : Fin 8192) (z : Fin 11264) :
    Cert.InReferenceIdeal.Read.val_main_v16 (F := Ideal) x w (ix2 r z) = result x w r z.val := by
  rw [Cert.InReferenceIdeal.Read.val_main_v16_apply]
  refine Eq.trans (show _ = Cert.InReferenceIdeal.Read.val_main_v15 (F := Ideal) x w (ix2 r z) from rfl) ?_
  unfold Cert.InReferenceIdeal.Read.val_main_v15
  rw [concatenate_apply]
  rw [show result x w r z.val = result x w r (0 + z.val) by rw [Nat.zero_add]]
  show concatenateAt _ _ _ _ _ z.val _ = _
  generalize_proofs _ p2
  revert p2
  generalize z.val = c0
  intro p2
  refine joined_step _ _ _ _ _ _ _ _ _ rfl (fun i _ hi => at_0 x w r i (hi 0) c0 (hi 1)) fun c1 _ _ e => ?_
  rw [show 0 + c0 = 512 + c1 by rw [show c0 = 512 + c1 from e]; omega]
  clear e
  refine joined_step _ _ _ _ _ _ _ _ _ rfl (fun i _ hi => at_512 x w r i (hi 0) c1 (hi 1)) fun c2 _ _ e => ?_
  rw [show 512 + c1 = 768 + c2 by rw [show c1 = 256 + c2 from e]; omega]
  clear e
  refine joined_step _ _ _ _ _ _ _ _ _ rfl (fun i _ hi => at_768 x w r i (hi 0) c2 (hi 1)) fun c3 _ _ e => ?_
  rw [show 768 + c2 = 832 + c3 by rw [show c2 = 64 + c3 from e]; omega]
  clear e
  refine joined_step _ _ _ _ _ _ _ _ _ rfl (fun i _ hi => at_832 x w r i (hi 0) c3 (hi 1)) fun c4 _ _ e => ?_
  rw [show 832 + c3 = 864 + c4 by rw [show c3 = 32 + c4 from e]; omega]
  clear e
  refine joined_step _ _ _ _ _ _ _ _ _ rfl (fun i _ hi => at_864 x w r i (hi 0) c4 (hi 1)) fun c5 _ _ e => ?_
  rw [show 864 + c4 = 896 + c5 by rw [show c4 = 32 + c5 from e]; omega]
  clear e
  refine joined_step _ _ _ _ _ _ _ _ _ rfl (fun i _ hi => at_896 x w r i (hi 0) c5 (hi 1)) fun c6 _ _ e => ?_
  rw [show 896 + c5 = 912 + c6 by rw [show c5 = 16 + c6 from e]; omega]
  clear e
  refine joined_step _ _ _ _ _ _ _ _ _ rfl (fun i _ hi => at_912 x w r i (hi 0) c6 (hi 1)) fun c7 _ _ e => ?_
  rw [show 912 + c6 = 928 + c7 by rw [show c6 = 16 + c7 from e]; omega]
  clear e
  refine joined_step _ _ _ _ _ _ _ _ _ rfl (fun i hl _ => (zero_piece i).trans (zero_columns x w r _ (Nat.le_add_right _ _) (Nat.add_lt_add_left hl _)).symm) fun c8 _ _ e => ?_
  rw [show 928 + c7 = 1024 + c8 by rw [show c7 = 96 + c8 from e]; omega]
  clear e
  refine joined_step _ _ _ _ _ _ _ _ _ rfl (fun i _ hi => at_1024 x w r i (hi 0) c8 (hi 1)) fun c9 _ _ e => ?_
  rw [show 1024 + c8 = 2048 + c9 by rw [show c8 = 1024 + c9 from e]; omega]
  clear e
  refine joined_step _ _ _ _ _ _ _ _ _ rfl (fun i _ hi => at_2048 x w r i (hi 0) c9 (hi 1)) fun c10 _ _ e => ?_
  rw [show 2048 + c9 = 4096 + c10 by rw [show c9 = 2048 + c10 from e]; omega]
  clear e
  refine joined_step _ _ _ _ _ _ _ _ _ rfl (fun i _ hi => at_4096 x w r i (hi 0) c10 (hi 1)) fun c11 _ _ e => ?_
  rw [show 4096 + c10 = 6144 + c11 by rw [show c10 = 2048 + c11 from e]; omega]
  clear e
  refine joined_step _ _ _ _ _ _ _ _ _ rfl (fun i _ hi => at_6144 x w r i (hi 0) c11 (hi 1)) fun c12 _ _ e => ?_
  rw [show 6144 + c11 = 8192 + c12 by rw [show c11 = 2048 + c12 from e]; omega]
  clear e
  refine joined_step _ _ _ _ _ _ _ _ _ rfl (fun i _ hi => at_8192 x w r i (hi 0) c12 (hi 1)) fun c13 _ _ e => ?_
  rw [show 8192 + c12 = 10240 + c13 by rw [show c12 = 2048 + c13 from e]; omega]
  clear e
  exact joined_last _ _ _ _ _ _ _ rfl fun i hi => at_10240 x w r i (hi 0) c13 (hi 1)

end Cert.InValue

end
-- ==== Proof.InBlock.lean ====
module

public import proofs.«01_k».proof.Proof.InOk
public import Idealize.ShloMosaic.Lib.Pipeline.ReadBack
public import proofs.«01_k».proof.Proof.InRef

/-! The input projection, point by point: what each point of the grid leaves in the weight scratch and in its block of the result. -/

@[expose] public section

set_option maxRecDepth 16384

noncomputable section

namespace Cert.InValue

open Cert.InIdeal Cert.InIdeal.Gen
open Idealize.ShloMosaic Idealize.ShloMosaic.TcCoe Idealize.ShloMosaic.Tactic
open scoped BigOperators
variable (m : (ℓ : Loc nD τ sig) → Buf (Elt Ideal) ℓ) (hO : Ok m) (c : Dev nD)

/-- The scratch of the first panel: the special rows over the last quarter of the panel's rows. -/
def first (A : S1024x2048.Idx → Elt Ideal .bf16) (B : S256x2048.Idx → Elt Ideal .bf16) : S1024x2048.Idx → Elt Ideal .bf16 :=
  View.canon (Val := Elt Ideal) (s := S1024x2048) (e := .bf16)
    [⟨Rect.unit ![768, 0] ![256, 2048] inb_S1024x2048_S256x2048_768_0, B⟩,
     ⟨Rect.unit ![0, 0] ![1024, 2048] inb_S1024x2048_S1024x2048_0_0, A⟩]

/-- The products of a block of rows with a panel, half of the rows after the other. -/
def finish (h : S2048x2048.Idx → Elt Ideal .bf16) (W : S1024x2048.Idx → Elt Ideal .bf16) : S2048x1024.Idx → Elt Ideal .bf16 :=
  View.canon (Val := Elt Ideal) (s := S2048x1024) (e := .bf16)
    [⟨Rect.unit ![1024, 0] ![1024, 1024] inb_S2048x1024_S1024x1024_1024_0,
      k0_pay4 (F := Ideal) (View.ld (Val := Elt Ideal) (e' := .bf16) h (Rect.unit ![1024, 0] ![1024, 2048] inb_S2048x2048_S1024x2048_1024_0)) W⟩,
     ⟨Rect.unit ![0, 0] ![1024, 1024] inb_S2048x1024_S1024x1024_0_0,
      k0_pay3 (F := Ideal) (View.ld (Val := Elt Ideal) (e' := .bf16) h (Rect.unit ![0, 0] ![1024, 2048] inb_S2048x2048_S1024x2048_0_0)) W⟩]

/-- Reading the weight scratch whole gives what it holds. -/
theorem whole_idx (f : S1024x2048.Idx → Elt Ideal .bf16) :
    (fun j => f ((Rect.unit ![0, 0] ![1024, 2048] inb_S1024x2048_S1024x2048_0_0).idx j)) = f := by
  funext j
  refine congrArg f (funext fun a => Fin.ext ((ValueKit.rect_emb_unit_val _ _ _ _ a).trans ?_))
  fin_cases a <;> simp

/-- A block read back from the buffer it was put in. -/
theorem back_0 (t : Fin (cfgM m hO).N) :
    View.read (Elt Ideal) (ms0_0 m hO t).view ((hs0_0 m hO t).unread (iblk m hO c 0 t)) = iblk m hO c 0 t :=
  (hs0_0 m hO t).read_unread _
theorem back_1 (t : Fin (cfgM m hO).N) :
    View.read (Elt Ideal) (ms0_1 m hO t).view ((hs0_1 m hO t).unread (iblk m hO c 1 t)) = iblk m hO c 1 t :=
  (hs0_1 m hO t).read_unread _
theorem back_2 (t : Fin (cfgM m hO).N) :
    View.read (Elt Ideal) (ms0_2 m hO t).view ((hs0_2 m hO t).unread (iblk m hO c 2 t)) = iblk m hO c 2 t :=
  (hs0_2 m hO t).read_unread _

theorem weights_A (t : Fin (cfgM m hO).N) (h0 : t.val % 4 = 0) (h1 : t.val % 44 = 0) :
    (outsAt0 m hO c t.val t.isLt).2 = first (k0_pay1 (F := Ideal) (iblk m hO c 1 t)) (k0_pay2 (F := Ideal) (iblk m hO c 2 t)) := by
  funext y
  rw [outsAt0_A m hO c t h0 h1]
  frame_out
  exact congrFun (congrArg₂ first (congrArg (k0_pay1 (F := Ideal)) (back_1 m hO c t)) (congrArg (k0_pay2 (F := Ideal)) (back_2 m hO c t))) y

theorem weights_B (t : Fin (cfgM m hO).N) (h0 : ¬t.val % 4 = 0) (h1 : ¬t.val % 44 = 0) :
    (outsAt0 m hO c t.val t.isLt).2 = (outsAt0 m hO c (t.val - 1) (Nat.lt_of_le_of_lt (Nat.sub_le _ _) t.isLt)).2 := by
  rw [outsAt0_B m hO c t h0 h1]
  rfl

theorem weights_C (t : Fin (cfgM m hO).N) (h0 : t.val % 4 = 0) (h1 : ¬t.val % 44 = 0) :
    (outsAt0 m hO c t.val t.isLt).2 = k0_pay1 (F := Ideal) (iblk m hO c 1 t) := by
  funext y
  rw [outsAt0_C m hO c t h0 h1]
  frame_out
  exact congrFun (congrArg (k0_pay1 (F := Ideal)) (back_1 m hO c t)) y

theorem out_A (t : Fin (cfgM m hO).N) (h0 : t.val % 4 = 0) (h1 : t.val % 44 = 0) :
    (outsAt0 m hO c t.val t.isLt).1 = finish (iblk m hO c 0 t) (outsAt0 m hO c t.val t.isLt).2 := by
  rw [weights_A m hO c t h0 h1]
  funext y
  rw [outsAt0_A m hO c t h0 h1]
  frame_out
  simp only [View.readCov_eq_canon']
  exact congrFun (congrArg₂ finish (back_0 m hO c t)
    ((whole_idx (first (k0_pay1 (F := Ideal) (View.read (Elt Ideal) (ms0_1 m hO t).view ((hs0_1 m hO t).unread (iblk m hO c 1 t))))
      (k0_pay2 (F := Ideal) (View.read (Elt Ideal) (ms0_2 m hO t).view ((hs0_2 m hO t).unread (iblk m hO c 2 t)))))).trans
      (congrArg₂ first (congrArg (k0_pay1 (F := Ideal)) (back_1 m hO c t)) (congrArg (k0_pay2 (F := Ideal)) (back_2 m hO c t))))) y

theorem out_C (t : Fin (cfgM m hO).N) (h0 : t.val % 4 = 0) (h1 : ¬t.val % 44 = 0) :
    (outsAt0 m hO c t.val t.isLt).1 = finish (iblk m hO c 0 t) (outsAt0 m hO c t.val t.isLt).2 := by
  rw [weights_C m hO c t h0 h1]
  funext y
  rw [outsAt0_C m hO c t h0 h1]
  frame_out
  exact congrFun (congrArg₂ finish (back_0 m hO c t) (congrArg (k0_pay1 (F := Ideal)) (back_1 m hO c t))) y

theorem out_B (t : Fin (cfgM m hO).N) (h0 : ¬t.val % 4 = 0) (h1 : ¬t.val % 44 = 0) :
    (outsAt0 m hO c t.val t.isLt).1 = finish (iblk m hO c 0 t) (outsAt0 m hO c t.val t.isLt).2 := by
  rw [weights_B m hO c t h0 h1]
  funext y
  rw [outsAt0_B m hO c t h0 h1]
  frame_out
  simp only [read_unread_whole]
  exact congrFun (congrArg (fun h => finish h (outsAt0 m hO c (t.val - 1) (Nat.lt_of_le_of_lt (Nat.sub_le _ _) t.isLt)).2) (back_0 m hO c t)) y

theorem first_apply (A : S1024x2048.Idx → Elt Ideal .bf16) (B : S256x2048.Idx → Elt Ideal .bf16) (e : Fin 1024) (k : Fin 2048) :
    first A B (ix2 e k) = if h : e.val < 768 then A (ix2 e k) else B (ix2 ⟨e.val - 768, by omega⟩ k) := by
  unfold first
  by_cases h : e.val < 768
  · rw [dif_pos h, View.canon_cons_of_not_mem]
    · have hi : ix2 e k = (Rect.unit (s := S1024x2048) ![0, 0] ![1024, 2048] inb_S1024x2048_S1024x2048_0_0).emb (ix2 e k) :=
        funext fun a => Fin.ext (((ValueKit.rect_emb_unit_val _ _ _ _ a).trans (by fin_cases a <;> simp [ix2])).symm)
      rw [hi]
      refine (View.canon_cons_emb _ _ _ _).trans ?_
      rw [← hi]
    · exact Rect.not_mem_set_of_axis _ _ 0 768 256 rfl rfl rfl (.inl h)
  · rw [dif_neg h]
    have hi : ix2 e k = (Rect.unit (s := S1024x2048) ![768, 0] ![256, 2048] inb_S1024x2048_S256x2048_768_0).emb (ix2 ⟨e.val - 768, by omega⟩ k) :=
      funext fun a => Fin.ext (((ValueKit.rect_emb_unit_val _ _ _ _ a).trans (by fin_cases a <;> simp [ix2]; omega)).symm)
    rw [hi]
    exact View.canon_cons_emb _ _ _ _

theorem panel_apply (v : FVec Ideal S1024x2048 .f32) (e : Fin 1024) (k : Fin 2048) : k0_pay1 (F := Ideal) v (ix2 e k) = v (ix2 e k) := by
  pointwise [k0_pay1]

theorem special_apply (v : FVec Ideal S256x2048 .f32) (e : Fin 256) (k : Fin 2048) : k0_pay2 (F := Ideal) v (ix2 e k) = v (ix2 e k) := by
  pointwise [k0_pay2]

theorem top_apply (h W : FVec Ideal S1024x2048 .bf16) (r e : Fin 1024) :
    k0_pay3 (F := Ideal) h W (ix2 r e) = ∑ k : Fin 2048, (h (ix2 r k) : EReal) * W (ix2 e k) := by
  pointwise [k0_pay3]

theorem bottom_apply (h W : FVec Ideal S1024x2048 .bf16) (r e : Fin 1024) :
    k0_pay4 (F := Ideal) h W (ix2 r e) = ∑ k : Fin 2048, (h (ix2 r k) : EReal) * W (ix2 e k) := by
  pointwise [k0_pay4]

theorem ld_apply (S : S2048x2048.Idx → Elt Ideal .bf16) (o : ℕ) (inb : ∀ a, (![o, 0] : Fin 2 → ℕ) a + (![1024, 2048] : Fin 2 → ℕ) a ≤ S2048x2048.size a)
    (r : Fin 1024) (k : Fin 2048) (q : Fin 2048) (hq : q.val = o + r.val) :
    View.ld (Val := Elt Ideal) (e' := .bf16) S (Rect.unit (s := S2048x2048) ![o, 0] ![1024, 2048] inb) (ix2 r k) = S (ix2 q k) :=
  congrArg S (by funext a; fin_cases a <;> refine Fin.ext ?_ <;> simp [Rect.emb, ix2, hq])

/-- The block of the result at row `q` and column `e`: the product of that row with that row of the panel. -/
theorem finish_apply (h : S2048x2048.Idx → Elt Ideal .bf16) (W : S1024x2048.Idx → Elt Ideal .bf16) (q : Fin 2048) (e : Fin 1024) :
    finish h W (ix2 q e) = ∑ k : Fin 2048, (h (ix2 q k) : EReal) * W (ix2 e k) := by
  unfold finish
  by_cases hq : q.val < 1024
  · rw [View.canon_cons_of_not_mem]
    · have hi : ix2 q e = (Rect.unit (s := S2048x1024) ![0, 0] ![1024, 1024] inb_S2048x1024_S1024x1024_0_0).emb (ix2 ⟨q.val, hq⟩ e) :=
        funext fun a => Fin.ext (((ValueKit.rect_emb_unit_val _ _ _ _ a).trans (by fin_cases a <;> simp [ix2])).symm)
      rw [hi]
      refine (View.canon_cons_emb _ _ _ _).trans ((top_apply _ _ _ _).trans (Finset.sum_congr rfl fun k _ => ?_))
      rw [ld_apply h 0 _ ⟨q.val, hq⟩ k q (Nat.zero_add _).symm]
    · exact Rect.not_mem_set_of_axis _ _ 0 1024 1024 rfl rfl rfl (.inl hq)
  · have hi : ix2 q e = (Rect.unit (s := S2048x1024) ![1024, 0] ![1024, 1024] inb_S2048x1024_S1024x1024_1024_0).emb (ix2 ⟨q.val - 1024, by omega⟩ e) :=
      funext fun a => Fin.ext (((ValueKit.rect_emb_unit_val _ _ _ _ a).trans (by fin_cases a <;> simp [ix2]; omega)).symm)
    rw [hi]
    refine (View.canon_cons_emb _ _ _ _).trans ((bottom_apply _ _ _ _).trans (Finset.sum_congr rfl fun k _ => ?_))
    rw [ld_apply h 1024 _ ⟨q.val - 1024, by omega⟩ k q (by show q.val = 1024 + (q.val - 1024); omega)]

end Cert.InValue

end
-- ==== Proof.InValue.lean ====
module

public import proofs.«01_k».proof.Proof.InBlock

/-! The input projection: the array its call leaves, as the reference's function of its arguments. -/

@[expose] public section

set_option maxRecDepth 16384

noncomputable section

namespace Cert.InValue

open Cert.InIdeal Cert.InIdeal.Gen
open Idealize.ShloMosaic Idealize.ShloMosaic.TcCoe Idealize.ShloMosaic.Tactic
open Idealize.ShloMosaic.Pipeline (Dat Cfg Window)
open Idealize.SL.Sem
open scoped BigOperators

variable (m : (ℓ : Loc nD τ sig) → Buf (Elt Ideal) ℓ) (hO : Ok m) (c : Dev nD)

theorem hidden_eq (x : FVec Ideal S2x4096x2048 .f32) (h : m (c.tc.loc main_arg0) = x) (r : Fin 8192) (k : Fin 2048) :
    V m c main_v2 (ix2 r k) = x (ix3 (batch r) (inner r) k) := by
  entry_read
  rw [h]
  pointwise []

theorem weights_eq (w : FVec Ideal S2048x11088 .f32) (h : m (c.tc.loc main_arg1) = w) (e : Fin 11088) (k : Fin 2048) :
    V m c main_v0 (ix2 e k) = w (ix2 k e) := by
  entry_read
  rw [h]
  pointwise []

/-- Where each panel's rows start in the weights. -/
def start (j : ℕ) : ℕ :=
  match j with
  | 0 => 0 | 1 => 832 | 2 => 2880 | 3 => 3904 | 4 => 4944 | 5 => 5968 | 6 => 6992 | 7 => 8016 | 8 => 9040 | 9 => 10064 | _ => 1856

theorem idx_0 (t : Fin (cfgM m hO).N) : ((cfgM m hO).win 0).index t = ![t.val % 4, 0] :=
  (by decide +kernel : ∀ t : Fin grid0.N, cc0_transform_0 (grid0.coords t) = ![t.val % 4, 0]) t
theorem idx_1 (t : Fin (cfgM m hO).N) : ((cfgM m hO).win 1).index t = ![start (t.val / 4), 0] := by
  show cc0_transform_1 k0_off1_inb numel1_S1 (tbl m) (grid0.coords t) = _
  rw [Cert.InOk.ideal_table]
  exact (by decide +kernel : ∀ t : Fin grid0.N, cc0_transform_1 (F := Ideal) k0_off1_inb numel1_S1 (fun | 0 => fun i => lit0 (S11.rowMajor i)) (grid0.coords t) = ![start (t.val / 4), 0]) t
theorem idx_2 (t : Fin (cfgM m hO).N) : ((cfgM m hO).win 2).index t = ![0, 0] :=
  (by decide +kernel : ∀ t : Fin grid0.N, cc0_transform_2 (grid0.coords t) = ![0, 0]) t
theorem idx_3 (t : Fin (cfgM m hO).N) : ((cfgM m hO).win 3).index t = ![t.val % 4, t.val / 4] :=
  (by decide +kernel : ∀ t : Fin grid0.N, cc0_transform_3 (grid0.coords t) = ![t.val % 4, t.val / 4]) t

theorem points (t : Fin (cfgM m hO).N) : t.val < 44 := lt_of_lt_of_eq t.isLt (show (cfgM m hO).N = 44 from N_0)

theorem start_le (j : ℕ) : start j + 1024 ≤ 11088 := by
  unfold start; split <;> decide

/-- Row `r` of the rows of a point, as a row of the array. -/
abbrev row (t : Fin (cfgM m hO).N) (r : Fin 2048) : Fin 8192 := ⟨t.val % 4 * 2048 + r.val, by omega⟩

theorem block_0 (t : Fin (cfgM m hO).N) (r : Fin 2048) (k : Fin 2048) : iblk m hO c 0 t (ix2 r k) = V m c main_v2 (ix2 (row m hO t r) k) := by
  blk_ext [iblk, idx_0 m hO t]
theorem block_1 (t : Fin (cfgM m hO).N) (e : Fin 1024) (k : Fin 2048) :
    iblk m hO c 1 t (ix2 e k) = V m c main_v0 (ix2 ⟨start (t.val / 4) + e.val, by have := start_le (t.val / 4); omega⟩ k) := by
  have hi := idx_1 m hO t
  blk_ext [iblk, idx_1 m hO t]
  · exact (ValueKit.rect_emb_unit_val _ _ _ _ _).trans (congrArg (· + e.val) (congrFun hi (0 : Fin 2)))
  · exact (ValueKit.rect_emb_unit_val _ _ _ _ _).trans ((congrArg (· + k.val) (congrFun hi (1 : Fin 2))).trans (Nat.zero_add _))
theorem block_2 (t : Fin (cfgM m hO).N) (e : Fin 256) (k : Fin 2048) : iblk m hO c 2 t (ix2 e k) = V m c main_v8 (ix2 e k) := by
  blk_ext [iblk, idx_2 m hO t]

/-- The special rows: the key's rotary rows, their two halves exchanged, the gate's rows twice, and zeros. -/
def packed (a : S64x2048.Idx → Elt Ideal .f32) (b : S16x2048.Idx → Elt Ideal .f32) (z : S96x2048.Idx → Elt Ideal .f32) : S256x2048.Idx → Elt Ideal .f32 :=
  concatenate S256x2048 0 [⟨S64x2048, a⟩, ⟨S32x2048, extractStridedSlice S32x2048 ![32, 0] a slices_S64x2048_S32x2048_32_0⟩,
    ⟨S32x2048, extractStridedSlice S32x2048 ![0, 0] a slices_S64x2048_S32x2048_0_0⟩, ⟨S16x2048, b⟩, ⟨S16x2048, b⟩, ⟨S96x2048, z⟩]
    concatenates_S64x2048_S32x2048_S32x2048_S16x2048_S16x2048_S96x2048_S256x2048_d0

/-- The key's rotary columns of the weights, as rows. -/
def rotary (w : FVec Ideal S2048x11088 .f32) : FVec Ideal S64x2048 .f32 :=
  extractStridedSlice S64x2048 ![768, 0] (transpose S11088x2048 [1, 0] w transposes_S2048x11088_S11088x2048_1_0) slices_S11088x2048_S64x2048_768_0
/-- The gate's columns of the weights, as rows. -/
def gate (w : FVec Ideal S2048x11088 .f32) : FVec Ideal S16x2048 .f32 :=
  extractStridedSlice S16x2048 ![4928, 0] (transpose S11088x2048 [1, 0] w transposes_S2048x11088_S11088x2048_1_0) slices_S11088x2048_S16x2048_4928_0
/-- Rows of zeros. -/
def blank : FVec Ideal S96x2048 .f32 := broadcastInDim S96x2048 ![] bcast_S_S96x2048 (constant S_ .f32 0x00000000#32)

theorem packed_eq : V m c main_v8 = packed (rotary (m (c.tc.loc main_arg1))) (gate (m (c.tc.loc main_arg1))) blank := by
  unfold V
  have h0 : StableHlo.upto (hostOps0 (F := Ideal)) (fun b => m (c, b)) 10 (Proc.tc.devRef main_v3) = rotary (m (c.tc.loc main_arg1)) := by after_reads_simp; rfl
  have h1 : StableHlo.upto (hostOps0 (F := Ideal)) (fun b => m (c, b)) 10 (Proc.tc.devRef main_v4) = gate (m (c.tc.loc main_arg1)) := by after_reads_simp; rfl
  have h2 : StableHlo.upto (hostOps0 (F := Ideal)) (fun b => m (c, b)) 10 (Proc.tc.devRef main_v5) = blank := by after_reads_simp; rfl
  rw [← h0, ← h1, ← h2]
  after_reads_simp
  rfl

theorem rotary_apply (w : FVec Ideal S2048x11088 .f32) (q : Fin 64) (k : Fin 2048) : rotary w (ix2 q k) = w (ix2 k ⟨768 + q.val, by omega⟩) := by
  pointwise [rotary]
theorem gate_apply (w : FVec Ideal S2048x11088 .f32) (q : Fin 16) (k : Fin 2048) : gate w (ix2 q k) = w (ix2 k ⟨4928 + q.val, by omega⟩) := by
  pointwise [gate]
theorem blank_apply (q : Fin 96) (k : Fin 2048) : blank (ix2 q k) = (0 : EReal) := by
  pointwise [blank]
theorem second_apply (a : FVec Ideal S64x2048 .f32) (q : Fin 32) (k : Fin 2048) :
    extractStridedSlice S32x2048 ![32, 0] a slices_S64x2048_S32x2048_32_0 (ix2 q k) = a (ix2 ⟨32 + q.val, by omega⟩ k) := by
  pointwise []
theorem front_apply (a : FVec Ideal S64x2048 .f32) (q : Fin 32) (k : Fin 2048) :
    extractStridedSlice S32x2048 ![0, 0] a slices_S64x2048_S32x2048_0_0 (ix2 q k) = a (ix2 ⟨q.val, by omega⟩ k) := by
  pointwise []

theorem entry_some (w : FVec Ideal S2048x11088 .f32) (k : Fin 2048) (z e : ℕ) (h : source z = some e) (he : e < 11088) : entry w k z = w (ix2 k ⟨e, he⟩) := by
  simp only [entry, h]
  rw [dif_pos he]

theorem entry_none (w : FVec Ideal S2048x11088 .f32) (k : Fin 2048) (z : ℕ) (h : source z = none) : entry w k z = 0 := by
  simp only [entry, h]

/-- The special rows hold the columns of the weights that the result's columns from 768 on are of. -/
theorem packed_apply (w : FVec Ideal S2048x11088 .f32) (e : Fin 256) (k : Fin 2048) :
    packed (rotary w) (gate w) blank (ix2 e k) = entry w k (768 + e.val) := by
  have two : ∀ (n : ℕ) (i : (⟨2, ![n, 2048]⟩ : Shape).Idx) (c : ℕ) (hc : c < n), (i 0).val = c → (i 1).val = k.val → i = ix2 ⟨c, hc⟩ k := by
    intro n i c hc h0 h1
    funext a; fin_cases a
    · exact Fin.ext h0
    · exact Fin.ext h1
  unfold packed
  rw [concatenate_apply]
  show concatenateAt _ _ _ _ _ e.val _ = _
  generalize_proofs _ p2
  revert p2
  generalize e.val = c0
  intro p2
  refine joined_step _ _ _ _ _ _ _ _ _ rfl (fun i hl hi => ?_) fun c1 _ _ e => ?_
  · rw [two 64 i c0 hl (hi 0) (hi 1), rotary_apply, entry_some w k _ _ (source_768 c0 hl)]
  rw [show 768 + c0 = 832 + c1 by rw [show c0 = 64 + c1 from e]; omega]
  clear e
  refine joined_step _ _ _ _ _ _ _ _ _ rfl (fun i hl hi => ?_) fun c2 _ _ e => ?_
  · rw [two 32 i c1 hl (hi 0) (hi 1), second_apply, rotary_apply, entry_some w k _ _ (source_832 c1 hl)]
  rw [show 832 + c1 = 864 + c2 by rw [show c1 = 32 + c2 from e]; omega]
  clear e
  refine joined_step _ _ _ _ _ _ _ _ _ rfl (fun i hl hi => ?_) fun c3 _ _ e => ?_
  · rw [two 32 i c2 hl (hi 0) (hi 1), front_apply, rotary_apply, entry_some w k _ _ (source_864 c2 hl)]
  rw [show 864 + c2 = 896 + c3 by rw [show c2 = 32 + c3 from e]; omega]
  clear e
  refine joined_step _ _ _ _ _ _ _ _ _ rfl (fun i hl hi => ?_) fun c4 _ _ e => ?_
  · rw [two 16 i c3 hl (hi 0) (hi 1), gate_apply, entry_some w k _ _ (source_896 c3 hl)]
  rw [show 896 + c3 = 912 + c4 by rw [show c3 = 16 + c4 from e]; omega]
  clear e
  refine joined_step _ _ _ _ _ _ _ _ _ rfl (fun i hl hi => ?_) fun c5 _ _ e => ?_
  · rw [two 16 i c4 hl (hi 0) (hi 1), gate_apply, entry_some w k _ _ (source_912 c4 hl)]
  rw [show 912 + c4 = 928 + c5 by rw [show c4 = 16 + c5 from e]; omega]
  clear e
  refine joined_last _ _ _ _ _ _ _ rfl fun i hi => ?_
  have h0 : (i 0).val = c5 := hi 0
  have hl : c5 < 96 := h0 ▸ (i 0).isLt
  rw [two 96 i c5 hl (hi 0) (hi 1), blank_apply, entry_none w k _ (source_928 c5 hl)]

/-- A panel's rows are the columns of the weights that the result's columns are of, but for the first panel's last quarter. -/
theorem source_panel (j e : ℕ) (hj : j < 11) (he : e < 1024) (h : j = 0 → e < 768) : source (1024 * j + e) = some (start j + e) := by
  match j, hj with
  | 0, _ =>
    by_cases h5 : e < 512
    · exact (congrArg source (by omega)).trans ((source_0 e h5).trans (congrArg some (by simp [start])))
    · exact (congrArg source (by omega)).trans ((source_512 (e - 512) (by have := h rfl; omega)).trans (congrArg some (by simp [start]; omega)))
  | 1, _ => exact (source_1024 e he).trans (congrArg some (by simp [start]))
  | 2, _ => exact (source_2048 e (by omega)).trans (congrArg some (by simp [start]))
  | 3, _ => exact (congrArg source (by omega)).trans ((source_2048 (1024 + e) (by omega)).trans (congrArg some (by simp [start]; omega)))
  | 4, _ => exact (source_4096 e (by omega)).trans (congrArg some (by simp [start]))
  | 5, _ => exact (congrArg source (by omega)).trans ((source_4096 (1024 + e) (by omega)).trans (congrArg some (by simp [start]; omega)))
  | 6, _ => exact (source_6144 e (by omega)).trans (congrArg some (by simp [start]))
  | 7, _ => exact (congrArg source (by omega)).trans ((source_6144 (1024 + e) (by omega)).trans (congrArg some (by simp [start]; omega)))
  | 8, _ => exact (source_8192 e (by omega)).trans (congrArg some (by simp [start]))
  | 9, _ => exact (congrArg source (by omega)).trans ((source_8192 (1024 + e) (by omega)).trans (congrArg some (by simp [start]; omega)))
  | 10, _ => exact (source_10240 e (by omega)).trans (congrArg some (by simp [start]))

theorem covers : ((cfgM m hO).win 3).Covers := by
  refine ⟨fun a => ?_, fun β => ?_⟩
  · revert a
    exact (by decide : ∀ a : Fin 2, 0 < S2048x1024.size a)
  · have b0 : (β (0 : Fin 2)).val < 4 := lt_of_lt_of_eq (β (0 : Fin 2)).isLt (show (8192 + 2048 - 1) / 2048 = 4 from by norm_num)
    have b1 : (β (1 : Fin 2)).val < 11 := lt_of_lt_of_eq (β (1 : Fin 2)).isLt (show (11264 + 1024 - 1) / 1024 = 11 from by norm_num)
    have hN : (β (1 : Fin 2)).val * 4 + (β (0 : Fin 2)).val < (cfgM m hO).N :=
      lt_of_lt_of_eq (b := 44) (by omega) (show (cfgM m hO).N = 44 from N_0).symm
    refine ⟨⟨(β (1 : Fin 2)).val * 4 + (β (0 : Fin 2)).val, hN⟩, flush0_3 _ _, fun a => ⟨?_, Or.inl rfl⟩⟩
    rw [idx_3 m hO]
    revert a
    refine Fin.forall_fin_two.mpr ⟨?_, ?_⟩
    · show ((β (1 : Fin 2)).val * 4 + (β (0 : Fin 2)).val) % 4 = (β (0 : Fin 2)).val
      omega
    · show ((β (1 : Fin 2)).val * 4 + (β (0 : Fin 2)).val) / 4 = (β (1 : Fin 2)).val
      omega

variable (x : FVec Ideal S2x4096x2048 .f32) (w : FVec Ideal S2048x11088 .f32)

/-- The panel a point reads, at a row that is not one of the special rows. -/
theorem panel_rows (e1 : m (c.tc.loc main_arg1) = w) (t : Fin (cfgM m hO).N) (e : Fin 1024) (k : Fin 2048) (h : t.val / 4 = 0 → e.val < 768) :
    k0_pay1 (F := Ideal) (iblk m hO c 1 t) (ix2 e k) = entry w k (1024 * (t.val / 4) + e.val) := by
  have ht := points m hO t
  refine (panel_apply _ e k).trans ((block_1 m hO c t e k).trans ((weights_eq m c w e1 _ k).trans ?_))
  exact (entry_some w k _ _ (source_panel (t.val / 4) e.val (by omega) e.isLt h) _).symm

/-- After every point the scratch holds the columns of the weights that the point's columns of the result are of. -/
theorem holds (e1 : m (c.tc.loc main_arg1) = w) : ∀ (n : ℕ) (hn : n < (cfgM m hO).N) (e : Fin 1024) (k : Fin 2048),
    (outsAt0 m hO c n hn).2 (ix2 e k) = entry w k (1024 * (n / 4) + e.val) := by
  intro n
  induction n with
  | zero =>
    intro hn e k
    have hw := weights_A m hO c ⟨0, hn⟩ rfl rfl
    refine (congrFun hw _).trans ((first_apply _ _ e k).trans ?_)
    by_cases h : e.val < 768
    · rw [dif_pos h]
      exact panel_rows m hO c w e1 ⟨0, hn⟩ e k fun _ => h
    · rw [dif_neg h]
      refine (special_apply _ _ k).trans ((block_2 m hO c ⟨0, hn⟩ _ k).trans ?_)
      rw [packed_eq, e1, packed_apply]
      exact congrArg (entry w k) (by show 768 + (e.val - 768) = 1024 * (0 / 4) + e.val; omega)
  | succ n ih =>
    intro hn e k
    have h44 := points m hO ⟨n + 1, hn⟩
    have h44' : n + 1 < 44 := h44
    by_cases h0 : (n + 1) % 4 = 0
    · refine (congrFun (weights_C m hO c ⟨n + 1, hn⟩ h0 (by show ¬(n + 1) % 44 = 0; omega)) _).trans ?_
      exact panel_rows m hO c w e1 ⟨n + 1, hn⟩ e k fun h => by have h' : (n + 1) / 4 = 0 := h; omega
    · refine (congrFun (weights_B m hO c ⟨n + 1, hn⟩ h0 (by show ¬(n + 1) % 44 = 0; omega)) _).trans ?_
      refine (ih (by omega) e k).trans (congrArg (entry w k) ?_)
      omega

theorem out_eq (t : Fin (cfgM m hO).N) :
    (outsAt0 m hO c t.val t.isLt).1 = finish (iblk m hO c 0 t) (outsAt0 m hO c t.val t.isLt).2 := by
  have ht := points m hO t
  by_cases h0 : t.val % 4 = 0
  · by_cases h1 : t.val % 44 = 0
    · exact out_A m hO c t h0 h1
    · exact out_C m hO c t h0 h1
  · exact out_B m hO c t h0 (by omega)

/-- The array the call leaves is the reference's. -/
theorem arr_3 (e0 : m (c.tc.loc main_arg0) = x) (e1 : m (c.tc.loc main_arg1) = w) :
    (dats m hO 0 c).arrAt 3 (cfgM m hO).N = Cert.InReferenceIdeal.Read.val_main_v16 (F := Ideal) x w := by
  refine (dats m hO 0 c).arrAt_eq_of_covers 3 _ (covers m hO) fun t hf y => ?_
  have ht := points m hO t
  obtain ⟨r, d, rfl⟩ : ∃ (r : Fin 2048) (d : Fin 1024), y = ix2 r d := ⟨y (0 : Fin 2), y (1 : Fin 2), by funext a; revert a; exact Fin.forall_fin_two.mpr ⟨rfl, rfl⟩⟩
  have hi : (((cfgM m hO).win 3).blk t).view.emb (ix2 r d) = (ix2 (row m hO t r) (⟨1024 * (t.val / 4) + d.val, by omega⟩ : Fin 11264) : S8192x11264.Idx) := by
    funext a; revert a
    refine Fin.forall_fin_two.mpr ⟨Fin.ext ?_, Fin.ext ?_⟩
    · refine (ValueKit.view_emb_slice_whole_unit_val _ _ _ _ _ _).trans ?_
      refine (congrArg (· * 2048 + r.val) (congrFun (idx_3 m hO t) (0 : Fin 2))).trans ?_
      rfl
    · refine (ValueKit.view_emb_slice_whole_unit_val _ _ _ _ _ _).trans ?_
      refine (congrArg (· * 1024 + d.val) (congrFun (idx_3 m hO t) (1 : Fin 2))).trans ?_
      exact congrArg (· + d.val) (Nat.mul_comm _ _)
  rw [hi, result_apply]
  show (dats m hO 0 c).after 3 t (ix2 r d) = _
  rw [after0_3, out_eq]
  refine (finish_apply _ _ r d).trans ?_
  unfold result
  refine Finset.sum_congr rfl fun k _ => ?_
  rw [holds m hO c w e1, block_0, hidden_eq m c x e0]

/-- The call runs to its end, with the array it leaves named and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v9) = (dats m (Cert.InOk.ideal_ok m) 0 c).arrAt 3 (cfgM m (Cert.InOk.ideal_ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1 3, ((h c).2 main_arg0 (by decide : main_arg0 ∈ Pipeline.restRefs sig spec0)).trans (V_main_arg0 m c),
    ((h c).2 main_arg1 (by decide : main_arg1 ∈ Pipeline.restRefs sig spec0)).trans (V_main_arg1 m c)⟩) (run_main m ρ (Cert.InOk.ideal_ok m))

/-- The call runs to its end with the reference's array of its arguments as its result, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v9)
        = Cert.InReferenceIdeal.Read.val_main_v16 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (arr_3 m (Cert.InOk.ideal_ok m) c _ _ rfl rfl), (h c).2⟩) (run_blocks m ρ)

end Cert.InValue

end
-- ==== Proof.Calls.lean ====
module

public import proofs.«01_k».proof.Defs
public import proofs.«01_k».proof.Proof.DownValue
public import proofs.«01_k».proof.Proof.MixValue
public import proofs.«01_k».proof.Proof.UpValue
public import proofs.«01_k».proof.Proof.InValue
public import proofs.«01_k».proof.Proof.Gen.DownReferenceIdeal.Run
public import proofs.«01_k».proof.Proof.Gen.MixReferenceIdeal.Run
public import proofs.«01_k».proof.Proof.Gen.UpReferenceIdeal.Run
public import Idealize.ShloMosaic.Lib.Claim

/-! The dense calls of the block: the frames of their references, and their results beside the references'. -/

@[expose] public section

set_option maxRecDepth 16384

noncomputable section

namespace Cert.Calls

open Idealize.ShloMosaic Idealize.SL.Sem

/-- The down projection's reference runs to its end, leaves every argument as it was and no counter raised. -/
theorem down_reference_frame : Cert.quiescent_DownReferenceIdeal := fun m ρ _ =>
  (θ_run Cert.DownReferenceIdeal.defs _ _).mono (fun r h => ⟨fun c => (h c).2, sem_eq_zero_of_no_sems (by decide) r.2⟩) (Cert.DownReferenceIdeal.Value.run m ρ)

/-- The merge's reference runs to its end, leaves every argument as it was and no counter raised. -/
theorem mix_reference_frame : Cert.quiescent_MixReferenceIdeal := fun m ρ _ =>
  (θ_run Cert.MixReferenceIdeal.defs _ _).mono (fun r h => ⟨fun c => (h c).2.2, sem_eq_zero_of_no_sems (by decide) r.2⟩) (Cert.MixReferenceIdeal.Value.run m ρ)

/-- The down projection and its reference end with the same result. -/
theorem down_algebraic : Cert.algebraic_DownIdeal_DownReferenceIdeal := by
  pair_intro
  · run_from Cert.DownIdeal.Value.run_blocks m g
  · run_from Cert.DownReferenceIdeal.Value.run m' g'

    rw [Cert.DownValue.arr_5 m c _ _ _ _ _ rfl rfl rfl rfl rfl, Cert.DownReferenceIdeal.Read.val_main_v17_eq]

/-- The merge and its reference end with the same results. -/
theorem mix_algebraic : Cert.algebraic_MixIdeal_MixReferenceIdeal := by
  pair_intro
  · run_from Cert.MixIdeal.Value.run_blocks m g
  · run_from Cert.MixReferenceIdeal.Value.run m' g'
    all_goals obtain ⟨a0, a1, -, a3, a4, a5, a6, a7, a8, a9, a10, a11, a12, a13⟩ := hagree c
    · rw [Cert.MixValue.arr_13 m c _ _ _ _ _ _ _ _ _ _ rfl rfl rfl rfl rfl rfl rfl rfl rfl rfl, Cert.MixReferenceIdeal.Read.val_main_v53_eq]
    · rw [Cert.MixValue.arr_14 m c _ _ _ _ _ _ _ _ _ _ _ _ _ rfl rfl rfl rfl rfl rfl rfl rfl rfl rfl rfl rfl rfl, Cert.MixReferenceIdeal.Read.val_main_v55_eq, a0, a1, a3, a4, a5, a6, a7, a8, a9, a10, a11, a12, a13]

/-- The reference of the feed-forward network's first half runs to its end, leaves every argument as it was and no counter raised. -/
theorem up_reference_frame : Cert.quiescent_UpReferenceIdeal := fun m ρ _ =>
  (θ_run Cert.UpReferenceIdeal.defs _ _).mono (fun r h => ⟨fun c => (h c).2, sem_eq_zero_of_no_sems (by decide) r.2⟩) (Cert.UpReferenceIdeal.Value.run m ρ)

/-- The feed-forward network's first half and its reference end with the same result. -/
theorem up_algebraic : Cert.algebraic_UpIdeal_UpReferenceIdeal := by
  pair_intro
  · run_from Cert.UpIdeal.Value.run_blocks m g
  · run_from Cert.UpReferenceIdeal.Value.run m' g'
    obtain ⟨a0, a1, a2, a3⟩ := hagree c
    rw [Cert.UpValue.arr_7 m c _ _ _ _ rfl rfl rfl rfl, Cert.UpReferenceIdeal.Read.val_main_v42_eq, a0, a1, a2, a3]

/-- The input projection's reference runs to its end, leaves every argument as it was and no counter raised. -/
theorem in_reference_frame : Cert.quiescent_InReferenceIdeal := fun m ρ _ =>
  (θ_run Cert.InReferenceIdeal.defs _ _).mono (fun r h => ⟨fun c => (h c).2, sem_eq_zero_of_no_sems (by decide) r.2⟩) (Cert.InReferenceIdeal.Value.run m ρ)

/-- The input projection and its reference end with the same result. -/
theorem in_algebraic : Cert.algebraic_InIdeal_InReferenceIdeal := by
  intro m g m' g' _ hagree
  refine ⟨_, Cert.InValue.run m g, (θ_run Cert.InReferenceIdeal.defs _ _).mono (fun r h c => ⟨(h c).1.trans ?_, (h c).2⟩) (Cert.InReferenceIdeal.Value.run m' g')⟩
  obtain ⟨a0, a1⟩ := hagree c
  rw [Cert.InReferenceIdeal.Read.val_main_v16_eq, a0, a1]

end Cert.Calls

end
-- ==== Proof.AttnSteps.lean ====
module

public import proofs.«01_k».proof.Proof.Gen.KernelIdeal.Skeleton
public import proofs.«01_k».proof.Proof.Gen.KernelIdeal
public import Idealize.ShloMosaic.Lib.Pipeline.TableIdle

/-! The attention kernel's body as a sequence of steps: after the riders and the initialisation of the two scratch
arrays, fourteen online-softmax updates — of a square block of scores below the diagonal (`stepFull`), or of one of the
two chains of a diagonal block (`stepDiagA`: 512 rows against 512 keys, `stepDiagB`: 512 rows against 1024 keys) —
and the final division. The two counted loops make no trip: the grid has one query block per head. -/

@[expose] public section

set_option maxRecDepth 16384

noncomputable section

namespace Cert.Attn

open Cert.KernelIdeal Cert.KernelIdeal.Gen
open Idealize.ShloMosaic Idealize.ShloMosaic.TcCoe
open Idealize.SL Idealize.SL.Sem

variable {F : FTy → Type} [FloatOps F]

/-- The accumulator rows an off-diagonal block of scores leaves, from keys, values, queries, row maxima and rows found. -/
def accFull (k v q : Vec F S1x1x1024x256 .bf16) (m : Vec F S1024x128 .f32) (a : Vec F S1024x256 .f32) : FVec F S1024x256 .f32 :=
  k0_pay39 (k0_pay35 k) (k0_pay36 v) q m a
/-- The row maxima an off-diagonal block of scores leaves. -/
def maxFull (k q : Vec F S1x1x1024x256 .bf16) (m : Vec F S1024x128 .f32) : FVec F S1024x128 .f32 :=
  k0_pay40 (k0_pay35 k) q m
/-- The accumulator rows the upper chain of a diagonal block leaves. -/
def accDiagA (k v q : Vec F S1x1x512x256 .bf16) (m : Vec F S512x128 .f32) (a : Vec F S512x256 .f32) : FVec F S512x256 .f32 :=
  k0_pay25 (k0_pay20 v) (k0_pay23 k q m) (k0_pay24 k q m) a
/-- The row maxima the upper chain of a diagonal block leaves. -/
def maxDiagA (k q : Vec F S1x1x512x256 .bf16) (m : Vec F S512x128 .f32) : FVec F S512x128 .f32 :=
  k0_pay26 (k0_pay22 k q m)
/-- The accumulator rows the lower chain of a diagonal block leaves. -/
def accDiagB (k v : Vec F S1x1x1024x256 .bf16) (q : Vec F S1x1x512x256 .bf16) (m : Vec F S512x128 .f32) (a : Vec F S512x256 .f32) :
    FVec F S512x256 .f32 :=
  k0_pay33 (k0_pay27 v) (k0_pay28 k q) (k0_pay29 k q m) (k0_pay30 k q m) (k0_pay31 k q m) (k0_pay32 k q) a
/-- The row maxima the lower chain of a diagonal block leaves. -/
def maxDiagB (k : Vec F S1x1x1024x256 .bf16) (q : Vec F S1x1x512x256 .bf16) (m : Vec F S512x128 .f32) : FVec F S512x128 .f32 :=
  k0_pay34 (k0_pay29 k q m)

/-- One update by a square block of scores. Keys and values are read at `ok`, queries at `oq`, the scratch rows at `om`. -/
def stepFull (arg3 arg4 arg5 : Memref sig .tc .vmem S1x1x4096x256 .bf16) (arg11 : Memref sig .tc .vmem S4096x128 .f32)
    (arg12 : Memref sig .tc .vmem S4096x256 .f32)
    (ok : Fin 4 → ℕ) (hk : ∀ a, ok a + S1x1x1024x256.size a ≤ S1x1x4096x256.size a)
    (oq : Fin 4 → ℕ) (hq : ∀ a, oq a + S1x1x1024x256.size a ≤ S1x1x4096x256.size a)
    (om : Fin 2 → ℕ) (hm : ∀ a, om a + S1024x128.size a ≤ S4096x128.size a) (ha : ∀ a, om a + S1024x256.size a ≤ S4096x256.size a) :
    Prog (TpuEff nD τ sig (Elt F) Λ₀ .tc) PUnit := do
  let k : Vec F S1x1x1024x256 .bf16 ← Prog.lift (.load arg4 (Rect.unit (s := S1x1x4096x256) ok S1x1x1024x256.size hk).toLoadRect (View.loadsAt_vmem h_S1x1x1024x256))
  let v : Vec F S1x1x1024x256 .bf16 ← Prog.lift (.load arg5 (Rect.unit (s := S1x1x4096x256) ok S1x1x1024x256.size hk).toLoadRect (View.loadsAt_vmem h_S1x1x1024x256))
  let q : Vec F S1x1x1024x256 .bf16 ← Prog.lift (.load arg3 (Rect.unit (s := S1x1x4096x256) oq S1x1x1024x256.size hq).toLoadRect (View.loadsAt_vmem h_S1x1x1024x256))
  let m : Vec F S1024x128 .f32 ← Prog.lift (.load arg11 (Rect.unit (s := S4096x128) om S1024x128.size hm).toLoadRect (View.loadsAt_vmem h_S1024x128))
  let a : Vec F S1024x256 .f32 ← Prog.lift (.load arg12 (Rect.unit (s := S4096x256) om S1024x256.size ha).toLoadRect (View.loadsAt_vmem h_S1024x256))
  let _a : Vec F S1024x256 .f32 ← Prog.lift (.load arg12 (Rect.unit (s := S4096x256) om S1024x256.size ha).toLoadRect (View.loadsAt_vmem h_S1024x256))
  Prog.lift (.store arg12 (Rect.unit (s := S4096x256) om S1024x256.size ha) (accFull k v q m a) Finset.univ (View.stores_vmem_bits_univ h_S1024x256 rfl) (.inl rfl))
  let _m : Vec F S1024x128 .f32 ← Prog.lift (.load arg11 (Rect.unit (s := S4096x128) om S1024x128.size hm).toLoadRect (View.loadsAt_vmem h_S1024x128))
  Prog.lift (.store arg11 (Rect.unit (s := S4096x128) om S1024x128.size hm) (maxFull k q m) Finset.univ (View.stores_vmem_bits_univ h_S1024x128 rfl) (.inl rfl))
  pure ⟨⟩

/-- One update by the upper chain of a diagonal block: 512 rows, 512 keys. Keys and values are read at `ok`, queries at `oq`, the scratch rows at `om`. -/
def stepDiagA (arg3 arg4 arg5 : Memref sig .tc .vmem S1x1x4096x256 .bf16) (arg11 : Memref sig .tc .vmem S4096x128 .f32)
    (arg12 : Memref sig .tc .vmem S4096x256 .f32)
    (ok : Fin 4 → ℕ) (hk : ∀ a, ok a + S1x1x512x256.size a ≤ S1x1x4096x256.size a)
    (oq : Fin 4 → ℕ) (hq : ∀ a, oq a + S1x1x512x256.size a ≤ S1x1x4096x256.size a)
    (om : Fin 2 → ℕ) (hm : ∀ a, om a + S512x128.size a ≤ S4096x128.size a) (ha : ∀ a, om a + S512x256.size a ≤ S4096x256.size a) :
    Prog (TpuEff nD τ sig (Elt F) Λ₀ .tc) PUnit := do
  let k : Vec F S1x1x512x256 .bf16 ← Prog.lift (.load arg4 (Rect.unit (s := S1x1x4096x256) ok S1x1x512x256.size hk).toLoadRect (View.loadsAt_vmem h_S1x1x512x256))
  let v : Vec F S1x1x512x256 .bf16 ← Prog.lift (.load arg5 (Rect.unit (s := S1x1x4096x256) ok S1x1x512x256.size hk).toLoadRect (View.loadsAt_vmem h_S1x1x512x256))
  let q : Vec F S1x1x512x256 .bf16 ← Prog.lift (.load arg3 (Rect.unit (s := S1x1x4096x256) oq S1x1x512x256.size hq).toLoadRect (View.loadsAt_vmem h_S1x1x512x256))
  let m : Vec F S512x128 .f32 ← Prog.lift (.load arg11 (Rect.unit (s := S4096x128) om S512x128.size hm).toLoadRect (View.loadsAt_vmem h_S512x128))
  let a : Vec F S512x256 .f32 ← Prog.lift (.load arg12 (Rect.unit (s := S4096x256) om S512x256.size ha).toLoadRect (View.loadsAt_vmem h_S512x256))
  let _a : Vec F S512x256 .f32 ← Prog.lift (.load arg12 (Rect.unit (s := S4096x256) om S512x256.size ha).toLoadRect (View.loadsAt_vmem h_S512x256))
  Prog.lift (.store arg12 (Rect.unit (s := S4096x256) om S512x256.size ha) (accDiagA k v q m a) Finset.univ (View.stores_vmem_bits_univ h_S512x256 rfl) (.inl rfl))
  let _m : Vec F S512x128 .f32 ← Prog.lift (.load arg11 (Rect.unit (s := S4096x128) om S512x128.size hm).toLoadRect (View.loadsAt_vmem h_S512x128))
  Prog.lift (.store arg11 (Rect.unit (s := S4096x128) om S512x128.size hm) (maxDiagA k q m) Finset.univ (View.stores_vmem_bits_univ h_S512x128 rfl) (.inl rfl))
  pure ⟨⟩

/-- One update by the lower chain of a diagonal block: 512 rows, 1024 keys. Keys and values are read at `ok`, queries at `oq`, the scratch rows at `om`. -/
def stepDiagB (arg3 arg4 arg5 : Memref sig .tc .vmem S1x1x4096x256 .bf16) (arg11 : Memref sig .tc .vmem S4096x128 .f32)
    (arg12 : Memref sig .tc .vmem S4096x256 .f32)
    (ok : Fin 4 → ℕ) (hk : ∀ a, ok a + S1x1x1024x256.size a ≤ S1x1x4096x256.size a)
    (oq : Fin 4 → ℕ) (hq : ∀ a, oq a + S1x1x512x256.size a ≤ S1x1x4096x256.size a)
    (om : Fin 2 → ℕ) (hm : ∀ a, om a + S512x128.size a ≤ S4096x128.size a) (ha : ∀ a, om a + S512x256.size a ≤ S4096x256.size a) :
    Prog (TpuEff nD τ sig (Elt F) Λ₀ .tc) PUnit := do
  let k : Vec F S1x1x1024x256 .bf16 ← Prog.lift (.load arg4 (Rect.unit (s := S1x1x4096x256) ok S1x1x1024x256.size hk).toLoadRect (View.loadsAt_vmem h_S1x1x1024x256))
  let v : Vec F S1x1x1024x256 .bf16 ← Prog.lift (.load arg5 (Rect.unit (s := S1x1x4096x256) ok S1x1x1024x256.size hk).toLoadRect (View.loadsAt_vmem h_S1x1x1024x256))
  let q : Vec F S1x1x512x256 .bf16 ← Prog.lift (.load arg3 (Rect.unit (s := S1x1x4096x256) oq S1x1x512x256.size hq).toLoadRect (View.loadsAt_vmem h_S1x1x512x256))
  let m : Vec F S512x128 .f32 ← Prog.lift (.load arg11 (Rect.unit (s := S4096x128) om S512x128.size hm).toLoadRect (View.loadsAt_vmem h_S512x128))
  let a : Vec F S512x256 .f32 ← Prog.lift (.load arg12 (Rect.unit (s := S4096x256) om S512x256.size ha).toLoadRect (View.loadsAt_vmem h_S512x256))
  let _a : Vec F S512x256 .f32 ← Prog.lift (.load arg12 (Rect.unit (s := S4096x256) om S512x256.size ha).toLoadRect (View.loadsAt_vmem h_S512x256))
  Prog.lift (.store arg12 (Rect.unit (s := S4096x256) om S512x256.size ha) (accDiagB k v q m a) Finset.univ (View.stores_vmem_bits_univ h_S512x256 rfl) (.inl rfl))
  let _m : Vec F S512x128 .f32 ← Prog.lift (.load arg11 (Rect.unit (s := S4096x128) om S512x128.size hm).toLoadRect (View.loadsAt_vmem h_S512x128))
  Prog.lift (.store arg11 (Rect.unit (s := S4096x128) om S512x128.size hm) (maxDiagB k q m) Finset.univ (View.stores_vmem_bits_univ h_S512x128 rfl) (.inl rfl))
  pure ⟨⟩

/-- The riders: a block of each branch weight is cast where the grid point is in its window. -/
def riders (i : grid0.Coords) (arg3 : Memref sig .tc .vmem S1x1x4096x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S256x2048 .f32) (harg6 : arg6.IsWhole) (arg7 : Memref sig .tc .vmem S256x2048 .f32) (harg7 : arg7.IsWhole) (arg8 : Memref sig .tc .vmem S4096x128 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S4096x128 .f32) (harg11 : arg11.IsWhole) (arg12 : Memref sig .tc .vmem S4096x256 .f32) (harg12 : arg12.IsWhole) :
    Prog (TpuEff nD τ sig (Elt F) Λ₀ .tc) PUnit := do
  if k0_h1 : k0_cond1 i = 1#1 then do
    let v805 : Vec F S256x2048 .f32 ← Prog.lift (.load arg6 (Rect.unit (s := S256x2048) ![0, 0] S256x2048.size inb_S256x2048_S256x2048_0_0).toLoadRect (View.loadsAt_vmem h_S256x2048))
    let v807 : Vec F S256x2048 .bf16 ← Prog.lift (.load arg9 (Rect.unit (s := S256x2048) ![0, 0] S256x2048.size inb_S256x2048_S256x2048_0_0).toLoadRect (View.loadsAt_vmem h_S256x2048))
    Prog.lift (.store arg9 (Rect.unit (s := S256x2048) ![0, 0] S256x2048.size inb_S256x2048_S256x2048_0_0) (k0_pay12 v805) Finset.univ (View.stores_vmem h_S256x2048 (harg9.storeExact_slice rfl _ packedbf16_S256x2048_S256x2048_0_0) (fun _ => rfl)) (.inl rfl))
    pure ⟨⟩
  else do
    pure ⟨⟩
  if k0_h2 : k0_cond2 i = 1#1 then do
    let v805 : Vec F S256x2048 .f32 ← Prog.lift (.load arg7 (Rect.unit (s := S256x2048) ![0, 0] S256x2048.size inb_S256x2048_S256x2048_0_0).toLoadRect (View.loadsAt_vmem h_S256x2048))
    let v807 : Vec F S256x2048 .bf16 ← Prog.lift (.load arg10 (Rect.unit (s := S256x2048) ![0, 0] S256x2048.size inb_S256x2048_S256x2048_0_0).toLoadRect (View.loadsAt_vmem h_S256x2048))
    Prog.lift (.store arg10 (Rect.unit (s := S256x2048) ![0, 0] S256x2048.size inb_S256x2048_S256x2048_0_0) (k0_pay13 v805) Finset.univ (View.stores_vmem h_S256x2048 (harg10.storeExact_slice rfl _ packedbf16_S256x2048_S256x2048_0_0) (fun _ => rfl)) (.inl rfl))
    pure ⟨⟩
  else do
    pure ⟨⟩
  pure ⟨⟩

/-- The initialisation of the two scratch arrays: minus infinity for the row maxima, zero for the accumulators. -/
def initScratch (arg11 : Memref sig .tc .vmem S4096x128 .f32) (arg12 : Memref sig .tc .vmem S4096x256 .f32) :
    Prog (TpuEff nD τ sig (Elt F) Λ₀ .tc) PUnit := do
  let v15 : Vec F S4096x128 .f32 ← Prog.lift (.load arg11 (Rect.unit (s := S4096x128) ![0, 0] S4096x128.size inb_S4096x128_S4096x128_0_0).toLoadRect (View.loadsAt_vmem h_S4096x128))
  Prog.lift (.store arg11 (Rect.unit (s := S4096x128) ![0, 0] S4096x128.size inb_S4096x128_S4096x128_0_0) (k0_pay14 (F := F)) Finset.univ (View.stores_vmem_bits_univ h_S4096x128 rfl) (.inl rfl))
  let v19 : Vec F S4096x256 .f32 ← Prog.lift (.load arg12 (Rect.unit (s := S4096x256) ![0, 0] S4096x256.size inb_S4096x256_S4096x256_0_0).toLoadRect (View.loadsAt_vmem h_S4096x256))
  Prog.lift (.store arg12 (Rect.unit (s := S4096x256) ![0, 0] S4096x256.size inb_S4096x256_S4096x256_0_0) (k0_pay15 (F := F)) Finset.univ (View.stores_vmem_bits_univ h_S4096x256 rfl) (.inl rfl))
  pure ⟨⟩

/-- The final division of the accumulated products by the accumulated weights. -/
def finish (arg8 : Memref sig .tc .vmem S4096x128 .bf16) (harg8 : arg8.IsWhole) (arg12 : Memref sig .tc .vmem S4096x256 .f32) :
    Prog (TpuEff nD τ sig (Elt F) Λ₀ .tc) PUnit := do
  let v800 : Vec F S4096x128 .f32 ← Prog.lift (.load arg12 (Rect.unit (s := S4096x256) ![0, 0] S4096x128.size inb_S4096x256_S4096x128_0_0).toLoadRect (View.loadsAt_vmem h_S4096x128))
  let v801 : Vec F S4096x128 .f32 ← Prog.lift (.load arg12 (Rect.unit (s := S4096x256) ![0, 128] S4096x128.size inb_S4096x256_S4096x128_0_128).toLoadRect (View.loadsAt_vmem h_S4096x128))
  let v804 : Vec F S4096x128 .bf16 ← Prog.lift (.load arg8 (Rect.unit (s := S4096x128) ![0, 0] S4096x128.size inb_S4096x128_S4096x128_0_0).toLoadRect (View.loadsAt_vmem h_S4096x128))
  Prog.lift (.store arg8 (Rect.unit (s := S4096x128) ![0, 0] S4096x128.size inb_S4096x128_S4096x128_0_0) (k0_pay1 v800 v801) Finset.univ (View.stores_vmem h_S4096x128 (harg8.storeExact_slice rfl _ packedbf16_S4096x128_S4096x128_0_0) (fun _ => rfl)) (.inl rfl))
  pure ⟨⟩

/-- The body as steps. -/
def stepped (i : grid0.Coords) (arg3 : Memref sig .tc .vmem S1x1x4096x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S256x2048 .f32) (harg6 : arg6.IsWhole) (arg7 : Memref sig .tc .vmem S256x2048 .f32) (harg7 : arg7.IsWhole) (arg8 : Memref sig .tc .vmem S4096x128 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S4096x128 .f32) (harg11 : arg11.IsWhole) (arg12 : Memref sig .tc .vmem S4096x256 .f32) (harg12 : arg12.IsWhole) :
    Prog (TpuEff nD τ sig (Elt F) Λ₀ .tc) PUnit := do
  riders i arg3 harg3 arg4 harg4 arg5 harg5 arg6 harg6 arg7 harg7 arg8 harg8 arg9 harg9 arg10 harg10 arg11 harg11 arg12 harg12
  initScratch arg11 arg12
  stepDiagA arg3 arg4 arg5 arg11 arg12 (k0_off3 i 0#32) (k0_off3_inb i 0)
    ![0, 0, 0, 0] inb_S1x1x4096x256_S1x1x512x256_0_0_0_0 ![0, 0] inb_S4096x128_S512x128_0_0 inb_S4096x256_S512x256_0_0
  stepDiagB arg3 arg4 arg5 arg11 arg12 (k0_off4 i 0#32) (k0_off4_inb i 0)
    ![0, 0, 512, 0] inb_S1x1x4096x256_S1x1x512x256_0_0_512_0 ![512, 0] inb_S4096x128_S512x128_512_0 inb_S4096x256_S512x256_512_0
  stepFull arg3 arg4 arg5 arg11 arg12 (k0_off4 i 0#32) (k0_off4_inb i 0)
    ![0, 0, 1024, 0] inb_S1x1x4096x256_S1x1x1024x256_0_0_1024_0 ![1024, 0] inb_S4096x128_S1024x128_1024_0 inb_S4096x256_S1024x256_1024_0
  stepDiagA arg3 arg4 arg5 arg11 arg12 (k0_off3 i 1024#32) (k0_off3_inb i 1)
    ![0, 0, 1024, 0] inb_S1x1x4096x256_S1x1x512x256_0_0_1024_0 ![1024, 0] inb_S4096x128_S512x128_1024_0 inb_S4096x256_S512x256_1024_0
  stepDiagB arg3 arg4 arg5 arg11 arg12 (k0_off4 i 1024#32) (k0_off4_inb i 1)
    ![0, 0, 1536, 0] inb_S1x1x4096x256_S1x1x512x256_0_0_1536_0 ![1536, 0] inb_S4096x128_S512x128_1536_0 inb_S4096x256_S512x256_1536_0
  stepFull arg3 arg4 arg5 arg11 arg12 (k0_off4 i 0#32) (k0_off4_inb i 0)
    ![0, 0, 2048, 0] inb_S1x1x4096x256_S1x1x1024x256_0_0_2048_0 ![2048, 0] inb_S4096x128_S1024x128_2048_0 inb_S4096x256_S1024x256_2048_0
  stepFull arg3 arg4 arg5 arg11 arg12 (k0_off4 i 1024#32) (k0_off4_inb i 1)
    ![0, 0, 2048, 0] inb_S1x1x4096x256_S1x1x1024x256_0_0_2048_0 ![2048, 0] inb_S4096x128_S1024x128_2048_0 inb_S4096x256_S1024x256_2048_0
  stepDiagA arg3 arg4 arg5 arg11 arg12 (k0_off3 i 2048#32) (k0_off3_inb i 2)
    ![0, 0, 2048, 0] inb_S1x1x4096x256_S1x1x512x256_0_0_2048_0 ![2048, 0] inb_S4096x128_S512x128_2048_0 inb_S4096x256_S512x256_2048_0
  stepDiagB arg3 arg4 arg5 arg11 arg12 (k0_off4 i 2048#32) (k0_off4_inb i 2)
    ![0, 0, 2560, 0] inb_S1x1x4096x256_S1x1x512x256_0_0_2560_0 ![2560, 0] inb_S4096x128_S512x128_2560_0 inb_S4096x256_S512x256_2560_0
  stepFull arg3 arg4 arg5 arg11 arg12 (k0_off4 i 0#32) (k0_off4_inb i 0)
    ![0, 0, 3072, 0] inb_S1x1x4096x256_S1x1x1024x256_0_0_3072_0 ![3072, 0] inb_S4096x128_S1024x128_3072_0 inb_S4096x256_S1024x256_3072_0
  stepFull arg3 arg4 arg5 arg11 arg12 (k0_off4 i 1024#32) (k0_off4_inb i 1)
    ![0, 0, 3072, 0] inb_S1x1x4096x256_S1x1x1024x256_0_0_3072_0 ![3072, 0] inb_S4096x128_S1024x128_3072_0 inb_S4096x256_S1024x256_3072_0
  stepFull arg3 arg4 arg5 arg11 arg12 (k0_off4 i 2048#32) (k0_off4_inb i 2)
    ![0, 0, 3072, 0] inb_S1x1x4096x256_S1x1x1024x256_0_0_3072_0 ![3072, 0] inb_S4096x128_S1024x128_3072_0 inb_S4096x256_S1024x256_3072_0
  stepDiagA arg3 arg4 arg5 arg11 arg12 (k0_off3 i 3072#32) (k0_off3_inb i 3)
    ![0, 0, 3072, 0] inb_S1x1x4096x256_S1x1x512x256_0_0_3072_0 ![3072, 0] inb_S4096x128_S512x128_3072_0 inb_S4096x256_S512x256_3072_0
  stepDiagB arg3 arg4 arg5 arg11 arg12 (k0_off4 i 3072#32) (k0_off4_inb i 3)
    ![0, 0, 3584, 0] inb_S1x1x4096x256_S1x1x512x256_0_0_3584_0 ![3584, 0] inb_S4096x128_S512x128_3584_0 inb_S4096x256_S512x256_3584_0
  finish arg8 harg8 arg12

/-- There is one query block per head, so the first counted loop makes no trip, -/
theorem trips1 (i : grid0.Coords) : (k0_t1_loop i).trips = 0 := by
  have h : (i 2).val = 0 := by have := (i 2).isLt; simp at this; omega
  simp only [k0_t1_loop, h]; decide
/-- and neither does the second. -/
theorem trips2 (i : grid0.Coords) : (k0_t2_loop i).trips = 0 := by
  have h : (i 2).val = 0 := by have := (i 2).isLt; simp at this; omega
  simp only [k0_t2_loop, h]; decide

/-- Two programs that begin with the same effect and agree after it agree. -/
theorem lift_congr {α β : Type} {e : TpuEff nD τ sig (Elt F) Λ₀ .tc α} {k k' : α → Prog (TpuEff nD τ sig (Elt F) Λ₀ .tc) β}
    (h : ∀ x, k x = k' x) : (Prog.lift e >>= k) = (Prog.lift e >>= k') := congrArg _ (funext h)
/-- The same where the effect is a store and the two write equal vectors. -/
theorem store_congr {β : Type} {cs : CoreSpace} {s : Shape} {e : EltTy} {mr : Memref sig .tc cs s e} {r : Rect s} {w w' : r.shape.Idx → Elt F e}
    {M : Finset r.shape.Idx} {h : (mr.access r).Stores M} {hm : M = Finset.univ ∨ ∀ a, r.stride a = 1}
    {k k' : PUnit → Prog (TpuEff nD τ sig (Elt F) Λ₀ .tc) β} (hw : w = w') (hk : ∀ x, k x = k' x) :
    (Prog.lift (.store mr r w M h hm) >>= k) = (Prog.lift (.store mr r w' M h hm) >>= k') := by
  subst hw; exact congrArg _ (funext hk)
theorem rfl_ret {β : Type} {x : β} : (pure x : Prog (TpuEff nD τ sig (Elt F) Λ₀ .tc) β) = pure x := rfl

set_option maxRecDepth 65536 in
set_option maxHeartbeats 8000000 in
/-- The kernel's body is the sequence of steps. -/
theorem body_eq (i : grid0.Coords) (arg3 : Memref sig .tc .vmem S1x1x4096x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S256x2048 .f32) (harg6 : arg6.IsWhole) (arg7 : Memref sig .tc .vmem S256x2048 .f32) (harg7 : arg7.IsWhole) (arg8 : Memref sig .tc .vmem S4096x128 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S4096x128 .f32) (harg11 : arg11.IsWhole) (arg12 : Memref sig .tc .vmem S4096x256 .f32) (harg12 : arg12.IsWhole) :
    cc0_attn (F := F) i arg3 harg3 arg4 harg4 arg5 harg5 arg6 harg6 arg7 harg7 arg8 harg8 arg9 harg9 arg10 harg10 arg11 harg11 arg12 harg12 = stepped i arg3 harg3 arg4 harg4 arg5 harg5 arg6 harg6 arg7 harg7 arg8 harg8 arg9 harg9 arg10 harg10 arg11 harg11 arg12 harg12 := by
  simp only [cc0_attn_eq_skeleton]; unfold cc0_attn_skel
  simp only [k0_part22_eq_skeleton]; unfold k0_part22_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
  simp only [Scf.for_trips0 _ _ (trips1 i), Scf.for_trips0 _ _ (trips2 i)]
  unfold stepped riders initScratch stepDiagA stepDiagB stepFull finish
  by_cases h1 : k0_cond1 i = 1#1 <;> by_cases h2 : k0_cond2 i = 1#1
  all_goals
    simp only [h1, h2, ↓reduceDIte, bind_assoc, pure_bind]
    repeat' first
      | exact rfl_ret
      | (refine lift_congr fun _ => ?_)
      | (refine store_congr ?_ fun _ => ?_)
  all_goals rfl

end Cert.Attn
end
-- ==== Proof.AttnRun.lean ====
module

public import proofs.«01_k».proof.Proof.AttnSteps
public import proofs.«01_k».proof.Proof.Gen.KernelIdeal.Frame
public import Idealize.ShloMosaic.Lib.VecWindow
public import Idealize.ShloMosaic.Lib.Pipeline.FrameBody
public import Idealize.ShloMosaic.Lib.Tactic

/-! What each step of the attention body does to the two scratch arrays, and what the whole body leaves in its outputs:
one triple per kind of step, the body's triple by chaining them. -/

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of the two scratch arrays: the row maxima (every lane alike) and the accumulators. -/
abbrev St (F : FTy → Type) := Vec F S4096x128 .f32 × Vec F S4096x256 .f32

/-- The queries', keys' and values' staging buffers and the two scratch arrays, at given contents. -/
def held (c : Dev nD) (arg3 arg4 arg5 : Memref sig .tc .vmem S1x1x4096x256 .bf16) (arg11 : Memref sig .tc .vmem S4096x128 .f32)
    (arg12 : Memref sig .tc .vmem S4096x256 .f32) (x0 x1 x2 : Vec F S1x1x4096x256 .bf16) (s : St F) : sProp 𝕄 :=
  iprop(owns (c : Thread nD τ) arg3 fullShare x0 ∗ owns (c : Thread nD τ) arg4 fullShare x1 ∗ owns (c : Thread nD τ) arg5 fullShare x2
    ∗ owns (c : Thread nD τ) arg11 fullShare s.1 ∗ owns (c : Thread nD τ) arg12 fullShare s.2)

/-- A load of a box of a whole buffer that holds `x` reads the window of `x` there. -/
theorem read_window {s : Shape} {e : EltTy} {m : Memref sig .tc .vmem s e} (h : m.IsWhole) (x : Vec F s e) {off size : Fin s.rank → ℕ}
    {inb : ∀ a, off a + size a ≤ s.size a} :
    m.view.readAt (Elt F) (Rect.unit off size inb).toLoadRect (h.unread x) = VecWindow.window x off size inb := by
  rw [View.readAt_unit _ _ inb rfl inb, h.read_unread]

/-- A program followed by another: the first one's triple, then the second one's. -/
theorem seq_wp {c : Dev nD} {E : Set ℕ} {p : Prog (TpuEff nD τ sig (Elt F) Λ₀ .tc) PUnit} {q : Prog (TpuEff nD τ sig (Elt F) Λ₀ .tc) PUnit}
    {P P1 : sProp 𝕄} {Q : PUnit → sProp 𝕄}
    (h1 : P ⊢ wp frame (wpE (defs₀ (F := F)) Variants.none (c : Thread nD τ) none) E p (fun _ => P1))
    (h2 : P1 ⊢ wp frame (wpE (defs₀ (F := F)) Variants.none (c : Thread nD τ) none) E q Q) :
    P ⊢ wp frame (wpE (defs₀ (F := F)) Variants.none (c : Thread nD τ) none) E (p >>= fun _ => q) Q := by
  rw [wp_bind]; exact h1.trans ((wp frame (wpE (defs₀ (F := F)) Variants.none (c : Thread nD τ) none) E p).mono fun _ => h2)

/-- What an update by a square block of scores makes of the scratch arrays. -/
def toFull (x0 x1 x2 : Vec F S1x1x4096x256 .bf16)
    (ok : Fin 4 → ℕ) (hk : ∀ a, ok a + S1x1x1024x256.size a ≤ S1x1x4096x256.size a)
    (oq : Fin 4 → ℕ) (hq : ∀ a, oq a + S1x1x1024x256.size a ≤ S1x1x4096x256.size a)
    (om : Fin 2 → ℕ) (hm : ∀ a, om a + S1024x128.size a ≤ S4096x128.size a) (ha : ∀ a, om a + S1024x256.size a ≤ S4096x256.size a) (s : St F) : St F :=
  (VecWindow.put s.1 om S1024x128.size (maxFull (VecWindow.window x1 ok S1x1x1024x256.size hk) (VecWindow.window x0 oq S1x1x1024x256.size hq) (VecWindow.window s.1 om S1024x128.size hm)),
   VecWindow.put s.2 om S1024x256.size (accFull (VecWindow.window x1 ok S1x1x1024x256.size hk) (VecWindow.window x2 ok S1x1x1024x256.size hk) (VecWindow.window x0 oq S1x1x1024x256.size hq) (VecWindow.window s.1 om S1024x128.size hm) (VecWindow.window s.2 om S1024x256.size ha)))

set_option maxHeartbeats 1000000 in
theorem stepFull_wp (c : Dev nD) {arg3 arg4 arg5 : Memref sig .tc .vmem S1x1x4096x256 .bf16} {arg11 : Memref sig .tc .vmem S4096x128 .f32}
    {arg12 : Memref sig .tc .vmem S4096x256 .f32} (harg3 : arg3.IsWhole) (harg4 : arg4.IsWhole) (harg5 : arg5.IsWhole) (harg11 : arg11.IsWhole) (harg12 : arg12.IsWhole)
    (ok : Fin 4 → ℕ) (hk : ∀ a, ok a + S1x1x1024x256.size a ≤ S1x1x4096x256.size a)
    (oq : Fin 4 → ℕ) (hq : ∀ a, oq a + S1x1x1024x256.size a ≤ S1x1x4096x256.size a)
    (om : Fin 2 → ℕ) (hm : ∀ a, om a + S1024x128.size a ≤ S4096x128.size a) (ha : ∀ a, om a + S1024x256.size a ≤ S4096x256.size a)
    (x0 x1 x2 : Vec F S1x1x4096x256 .bf16) (s : St F) (R : sProp 𝕄) (E : Set ℕ) :
    iprop(held c arg3 arg4 arg5 arg11 arg12 x0 x1 x2 s ∗ R)
      ⊢ wp frame (wpE (defs₀ (F := F)) Variants.none (c : Thread nD τ) none) E (stepFull arg3 arg4 arg5 arg11 arg12 ok hk oq hq om hm ha)
          (fun _ => iprop(held c arg3 arg4 arg5 arg11 arg12 x0 x1 x2 (toFull x0 x1 x2 ok hk oq hq om hm ha s) ∗ R)) := by
  unfold stepFull held owns
  iintro ⟨⟨⟨%f0, %hf0, H0⟩, ⟨%f1, %hf1, H1⟩, ⟨%f2, %hf2, H2⟩, ⟨%fs0, %hs0, HS0⟩, ⟨%fs1, %hs1, HS1⟩⟩, HR⟩
  obtain rfl := harg3.eq_unread hf0; obtain rfl := harg4.eq_unread hf1; obtain rfl := harg5.eq_unread hf2
  obtain rfl := harg11.eq_unread hs0; obtain rfl := harg12.eq_unread hs1
  sl_exec
  sl_step
  have ek : arg4.view.readAt (Elt F) (Rect.unit (s := S1x1x4096x256) ok S1x1x1024x256.size hk).toLoadRect (harg4.unread x1) = VecWindow.window x1 ok S1x1x1024x256.size hk :=
    read_window harg4 x1
  have ev : arg5.view.readAt (Elt F) (Rect.unit (s := S1x1x4096x256) ok S1x1x1024x256.size hk).toLoadRect (harg5.unread x2) = VecWindow.window x2 ok S1x1x1024x256.size hk :=
    read_window harg5 x2
  have eq : arg3.view.readAt (Elt F) (Rect.unit (s := S1x1x4096x256) oq S1x1x1024x256.size hq).toLoadRect (harg3.unread x0) = VecWindow.window x0 oq S1x1x1024x256.size hq :=
    read_window harg3 x0
  have em : arg11.view.readAt (Elt F) (Rect.unit (s := S4096x128) om S1024x128.size hm).toLoadRect (harg11.unread s.1) = VecWindow.window s.1 om S1024x128.size hm :=
    read_window harg11 s.1
  have ea : arg12.view.readAt (Elt F) (Rect.unit (s := S4096x256) om S1024x256.size ha).toLoadRect (harg12.unread s.2) = VecWindow.window s.2 om S1024x256.size ha :=
    read_window harg12 s.2
  isplitr [HR]
  · isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; isplitr; swap
      · iexact HS0
      · ipureintro
        rw [View.read_writes_cons_put _ _ _ _ _ rfl, View.writes_nil, harg11.read_unread]
        exact congrArg (VecWindow.put s.1 om S1024x128.size) (congr (congrArg₂ maxFull ek eq) em)
    · iexists _; isplitr; swap
      · iexact HS1
      · ipureintro
        rw [View.read_writes_cons_put _ _ _ _ _ rfl, View.writes_nil, harg12.read_unread]
        exact congrArg (VecWindow.put s.2 om S1024x256.size) (congr (congr (congr (congrArg₂ accFull ek ev) eq) em) ea)
  iexact HR

/-- What an update by the upper chain of a diagonal block makes of the scratch arrays. -/
def toDiagA (x0 x1 x2 : Vec F S1x1x4096x256 .bf16)
    (ok : Fin 4 → ℕ) (hk : ∀ a, ok a + S1x1x512x256.size a ≤ S1x1x4096x256.size a)
    (oq : Fin 4 → ℕ) (hq : ∀ a, oq a + S1x1x512x256.size a ≤ S1x1x4096x256.size a)
    (om : Fin 2 → ℕ) (hm : ∀ a, om a + S512x128.size a ≤ S4096x128.size a) (ha : ∀ a, om a + S512x256.size a ≤ S4096x256.size a) (s : St F) : St F :=
  (VecWindow.put s.1 om S512x128.size (maxDiagA (VecWindow.window x1 ok S1x1x512x256.size hk) (VecWindow.window x0 oq S1x1x512x256.size hq) (VecWindow.window s.1 om S512x128.size hm)),
   VecWindow.put s.2 om S512x256.size (accDiagA (VecWindow.window x1 ok S1x1x512x256.size hk) (VecWindow.window x2 ok S1x1x512x256.size hk) (VecWindow.window x0 oq S1x1x512x256.size hq) (VecWindow.window s.1 om S512x128.size hm) (VecWindow.window s.2 om S512x256.size ha)))

set_option maxHeartbeats 1000000 in
theorem stepDiagA_wp (c : Dev nD) {arg3 arg4 arg5 : Memref sig .tc .vmem S1x1x4096x256 .bf16} {arg11 : Memref sig .tc .vmem S4096x128 .f32}
    {arg12 : Memref sig .tc .vmem S4096x256 .f32} (harg3 : arg3.IsWhole) (harg4 : arg4.IsWhole) (harg5 : arg5.IsWhole) (harg11 : arg11.IsWhole) (harg12 : arg12.IsWhole)
    (ok : Fin 4 → ℕ) (hk : ∀ a, ok a + S1x1x512x256.size a ≤ S1x1x4096x256.size a)
    (oq : Fin 4 → ℕ) (hq : ∀ a, oq a + S1x1x512x256.size a ≤ S1x1x4096x256.size a)
    (om : Fin 2 → ℕ) (hm : ∀ a, om a + S512x128.size a ≤ S4096x128.size a) (ha : ∀ a, om a + S512x256.size a ≤ S4096x256.size a)
    (x0 x1 x2 : Vec F S1x1x4096x256 .bf16) (s : St F) (R : sProp 𝕄) (E : Set ℕ) :
    iprop(held c arg3 arg4 arg5 arg11 arg12 x0 x1 x2 s ∗ R)
      ⊢ wp frame (wpE (defs₀ (F := F)) Variants.none (c : Thread nD τ) none) E (stepDiagA arg3 arg4 arg5 arg11 arg12 ok hk oq hq om hm ha)
          (fun _ => iprop(held c arg3 arg4 arg5 arg11 arg12 x0 x1 x2 (toDiagA x0 x1 x2 ok hk oq hq om hm ha s) ∗ R)) := by
  unfold stepDiagA held owns
  iintro ⟨⟨⟨%f0, %hf0, H0⟩, ⟨%f1, %hf1, H1⟩, ⟨%f2, %hf2, H2⟩, ⟨%fs0, %hs0, HS0⟩, ⟨%fs1, %hs1, HS1⟩⟩, HR⟩
  obtain rfl := harg3.eq_unread hf0; obtain rfl := harg4.eq_unread hf1; obtain rfl := harg5.eq_unread hf2
  obtain rfl := harg11.eq_unread hs0; obtain rfl := harg12.eq_unread hs1
  sl_exec
  sl_step
  have ek : arg4.view.readAt (Elt F) (Rect.unit (s := S1x1x4096x256) ok S1x1x512x256.size hk).toLoadRect (harg4.unread x1) = VecWindow.window x1 ok S1x1x512x256.size hk :=
    read_window harg4 x1
  have ev : arg5.view.readAt (Elt F) (Rect.unit (s := S1x1x4096x256) ok S1x1x512x256.size hk).toLoadRect (harg5.unread x2) = VecWindow.window x2 ok S1x1x512x256.size hk :=
    read_window harg5 x2
  have eq : arg3.view.readAt (Elt F) (Rect.unit (s := S1x1x4096x256) oq S1x1x512x256.size hq).toLoadRect (harg3.unread x0) = VecWindow.window x0 oq S1x1x512x256.size hq :=
    read_window harg3 x0
  have em : arg11.view.readAt (Elt F) (Rect.unit (s := S4096x128) om S512x128.size hm).toLoadRect (harg11.unread s.1) = VecWindow.window s.1 om S512x128.size hm :=
    read_window harg11 s.1
  have ea : arg12.view.readAt (Elt F) (Rect.unit (s := S4096x256) om S512x256.size ha).toLoadRect (harg12.unread s.2) = VecWindow.window s.2 om S512x256.size ha :=
    read_window harg12 s.2
  isplitr [HR]
  · isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; isplitr; swap
      · iexact HS0
      · ipureintro
        rw [View.read_writes_cons_put _ _ _ _ _ rfl, View.writes_nil, harg11.read_unread]
        exact congrArg (VecWindow.put s.1 om S512x128.size) (congr (congrArg₂ maxDiagA ek eq) em)
    · iexists _; isplitr; swap
      · iexact HS1
      · ipureintro
        rw [View.read_writes_cons_put _ _ _ _ _ rfl, View.writes_nil, harg12.read_unread]
        exact congrArg (VecWindow.put s.2 om S512x256.size) (congr (congr (congr (congrArg₂ accDiagA ek ev) eq) em) ea)
  iexact HR

/-- What an update by the lower chain of a diagonal block makes of the scratch arrays. -/
def toDiagB (x0 x1 x2 : Vec F S1x1x4096x256 .bf16)
    (ok : Fin 4 → ℕ) (hk : ∀ a, ok a + S1x1x1024x256.size a ≤ S1x1x4096x256.size a)
    (oq : Fin 4 → ℕ) (hq : ∀ a, oq a + S1x1x512x256.size a ≤ S1x1x4096x256.size a)
    (om : Fin 2 → ℕ) (hm : ∀ a, om a + S512x128.size a ≤ S4096x128.size a) (ha : ∀ a, om a + S512x256.size a ≤ S4096x256.size a) (s : St F) : St F :=
  (VecWindow.put s.1 om S512x128.size (maxDiagB (VecWindow.window x1 ok S1x1x1024x256.size hk) (VecWindow.window x0 oq S1x1x512x256.size hq) (VecWindow.window s.1 om S512x128.size hm)),
   VecWindow.put s.2 om S512x256.size (accDiagB (VecWindow.window x1 ok S1x1x1024x256.size hk) (VecWindow.window x2 ok S1x1x1024x256.size hk) (VecWindow.window x0 oq S1x1x512x256.size hq) (VecWindow.window s.1 om S512x128.size hm) (VecWindow.window s.2 om S512x256.size ha)))

set_option maxHeartbeats 1000000 in
theorem stepDiagB_wp (c : Dev nD) {arg3 arg4 arg5 : Memref sig .tc .vmem S1x1x4096x256 .bf16} {arg11 : Memref sig .tc .vmem S4096x128 .f32}
    {arg12 : Memref sig .tc .vmem S4096x256 .f32} (harg3 : arg3.IsWhole) (harg4 : arg4.IsWhole) (harg5 : arg5.IsWhole) (harg11 : arg11.IsWhole) (harg12 : arg12.IsWhole)
    (ok : Fin 4 → ℕ) (hk : ∀ a, ok a + S1x1x1024x256.size a ≤ S1x1x4096x256.size a)
    (oq : Fin 4 → ℕ) (hq : ∀ a, oq a + S1x1x512x256.size a ≤ S1x1x4096x256.size a)
    (om : Fin 2 → ℕ) (hm : ∀ a, om a + S512x128.size a ≤ S4096x128.size a) (ha : ∀ a, om a + S512x256.size a ≤ S4096x256.size a)
    (x0 x1 x2 : Vec F S1x1x4096x256 .bf16) (s : St F) (R : sProp 𝕄) (E : Set ℕ) :
    iprop(held c arg3 arg4 arg5 arg11 arg12 x0 x1 x2 s ∗ R)
      ⊢ wp frame (wpE (defs₀ (F := F)) Variants.none (c : Thread nD τ) none) E (stepDiagB arg3 arg4 arg5 arg11 arg12 ok hk oq hq om hm ha)
          (fun _ => iprop(held c arg3 arg4 arg5 arg11 arg12 x0 x1 x2 (toDiagB x0 x1 x2 ok hk oq hq om hm ha s) ∗ R)) := by
  unfold stepDiagB held owns
  iintro ⟨⟨⟨%f0, %hf0, H0⟩, ⟨%f1, %hf1, H1⟩, ⟨%f2, %hf2, H2⟩, ⟨%fs0, %hs0, HS0⟩, ⟨%fs1, %hs1, HS1⟩⟩, HR⟩
  obtain rfl := harg3.eq_unread hf0; obtain rfl := harg4.eq_unread hf1; obtain rfl := harg5.eq_unread hf2
  obtain rfl := harg11.eq_unread hs0; obtain rfl := harg12.eq_unread hs1
  sl_exec
  sl_step
  have ek : arg4.view.readAt (Elt F) (Rect.unit (s := S1x1x4096x256) ok S1x1x1024x256.size hk).toLoadRect (harg4.unread x1) = VecWindow.window x1 ok S1x1x1024x256.size hk :=
    read_window harg4 x1
  have ev : arg5.view.readAt (Elt F) (Rect.unit (s := S1x1x4096x256) ok S1x1x1024x256.size hk).toLoadRect (harg5.unread x2) = VecWindow.window x2 ok S1x1x1024x256.size hk :=
    read_window harg5 x2
  have eq : arg3.view.readAt (Elt F) (Rect.unit (s := S1x1x4096x256) oq S1x1x512x256.size hq).toLoadRect (harg3.unread x0) = VecWindow.window x0 oq S1x1x512x256.size hq :=
    read_window harg3 x0
  have em : arg11.view.readAt (Elt F) (Rect.unit (s := S4096x128) om S512x128.size hm).toLoadRect (harg11.unread s.1) = VecWindow.window s.1 om S512x128.size hm :=
    read_window harg11 s.1
  have ea : arg12.view.readAt (Elt F) (Rect.unit (s := S4096x256) om S512x256.size ha).toLoadRect (harg12.unread s.2) = VecWindow.window s.2 om S512x256.size ha :=
    read_window harg12 s.2
  isplitr [HR]
  · isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; isplitr; swap
      · iexact HS0
      · ipureintro
        rw [View.read_writes_cons_put _ _ _ _ _ rfl, View.writes_nil, harg11.read_unread]
        exact congrArg (VecWindow.put s.1 om S512x128.size) (congr (congrArg₂ maxDiagB ek eq) em)
    · iexists _; isplitr; swap
      · iexact HS1
      · ipureintro
        rw [View.read_writes_cons_put _ _ _ _ _ rfl, View.writes_nil, harg12.read_unread]
        exact congrArg (VecWindow.put s.2 om S512x256.size) (congr (congr (congr (congrArg₂ accDiagB ek ev) eq) em) ea)
  iexact HR

/-- What the body finds in its scratch arrays once they are initialised. -/
def start : St F := (k0_pay14 (F := F), k0_pay15 (F := F))

theorem initScratch_wp (c : Dev nD) {arg3 arg4 arg5 : Memref sig .tc .vmem S1x1x4096x256 .bf16} {arg11 : Memref sig .tc .vmem S4096x128 .f32}
    {arg12 : Memref sig .tc .vmem S4096x256 .f32} (harg11 : arg11.IsWhole) (harg12 : arg12.IsWhole)
    (x0 x1 x2 : Vec F S1x1x4096x256 .bf16) (s : St F) (R : sProp 𝕄) (E : Set ℕ) :
    iprop(held c arg3 arg4 arg5 arg11 arg12 x0 x1 x2 s ∗ R)
      ⊢ wp frame (wpE (defs₀ (F := F)) Variants.none (c : Thread nD τ) none) E (initScratch arg11 arg12)
          (fun _ => iprop(held c arg3 arg4 arg5 arg11 arg12 x0 x1 x2 start ∗ R)) := by
  unfold initScratch held owns
  iintro ⟨⟨H0, H1, H2, ⟨%fs0, %hs0, HS0⟩, ⟨%fs1, %hs1, HS1⟩⟩, HR⟩
  obtain rfl := harg11.eq_unread hs0; obtain rfl := harg12.eq_unread hs1
  sl_exec
  sl_step
  isplitr [HR]
  · isplitl [H0]; · iexact H0
    isplitl [H1]; · iexact H1
    isplitl [H2]; · iexact H2
    isplitl [HS0]
    · iexists _; isplitr; swap
      · iexact HS0
      · ipureintro; exact View.read_writes_full arg11.view (harg11.unread s.1) (off := ![0, 0]) inb_S4096x128_S4096x128_0_0 (k0_pay14 (F := F)) []
    · iexists _; isplitr; swap
      · iexact HS1
      · ipureintro; exact View.read_writes_full arg12.view (harg12.unread s.2) (off := ![0, 0]) inb_S4096x256_S4096x256_0_0 (k0_pay15 (F := F)) []
  iexact HR

/-- The output block, from the accumulators. -/
def quotient (A : Vec F S4096x256 .f32) : Vec F S4096x128 .bf16 :=
  k0_pay1 (VecWindow.window A ![0, 0] S4096x128.size inb_S4096x256_S4096x128_0_0) (VecWindow.window A ![0, 128] S4096x128.size inb_S4096x256_S4096x128_0_128)

theorem finish_wp (c : Dev nD) {arg3 arg4 arg5 : Memref sig .tc .vmem S1x1x4096x256 .bf16} {arg11 : Memref sig .tc .vmem S4096x128 .f32}
    {arg12 : Memref sig .tc .vmem S4096x256 .f32} {arg8 : Memref sig .tc .vmem S4096x128 .bf16} (harg8 : arg8.IsWhole) (harg12 : arg12.IsWhole)
    (x0 x1 x2 : Vec F S1x1x4096x256 .bf16) (s : St F) (R : sProp 𝕄) (E : Set ℕ) :
    iprop(held c arg3 arg4 arg5 arg11 arg12 x0 x1 x2 s ∗ (∃ d, owns (c : Thread nD τ) arg8 fullShare d) ∗ R)
      ⊢ wp frame (wpE (defs₀ (F := F)) Variants.none (c : Thread nD τ) none) E (finish arg8 harg8 arg12)
          (fun _ => iprop(held c arg3 arg4 arg5 arg11 arg12 x0 x1 x2 s ∗ owns (c : Thread nD τ) arg8 fullShare (quotient s.2) ∗ R)) := by
  unfold finish held owns
  iintro ⟨⟨H0, H1, H2, HS0, ⟨%fs1, %hs1, HS1⟩⟩, ⟨%d, %f8, %hf8, H8⟩, HR⟩
  obtain rfl := harg12.eq_unread hs1; obtain rfl := harg8.eq_unread hf8
  sl_exec
  sl_step
  isplitl [H0 H1 H2 HS0 HS1]
  · isplitl [H0]; · iexact H0
    isplitl [H1]; · iexact H1
    isplitl [H2]; · iexact H2
    isplitl [HS0]; · iexact HS0
    iexists _; isplitr; · ipureintro; exact harg12.read_unread _
    iexact HS1
  isplitl [H8]
  · iexists _; isplitr; swap
    · iexact H8
    · ipureintro
      refine (View.read_writes_full arg8.view (harg8.unread d) (off := ![0, 0]) inb_S4096x128_S4096x128_0_0 (k0_pay1 _ _) []).trans ?_
      have ea : ∀ o (h : ∀ a, o a + S4096x128.size a ≤ S4096x256.size a), arg12.view.readAt (Elt F) (Rect.unit (s := S4096x256) o S4096x128.size h).toLoadRect (harg12.unread s.2)
          = VecWindow.window s.2 o S4096x128.size h := fun o h => read_window harg12 s.2
      exact congrArg₂ k0_pay1 (ea _ _) (ea _ _)
  iexact HR

set_option maxHeartbeats 2000000 in
/-- The riders cast a block of the first branch weight where the point is in its window, and of the second in its own;
    elsewhere they leave the output's buffer alone. -/
theorem riders_wp (c : Dev nD) (i : grid0.Coords) (arg3 : Memref sig .tc .vmem S1x1x4096x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S256x2048 .f32) (harg6 : arg6.IsWhole) (arg7 : Memref sig .tc .vmem S256x2048 .f32) (harg7 : arg7.IsWhole) (arg8 : Memref sig .tc .vmem S4096x128 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S4096x128 .f32) (harg11 : arg11.IsWhole) (arg12 : Memref sig .tc .vmem S4096x256 .f32) (harg12 : arg12.IsWhole)
    (x3 x4 : Vec F S256x2048 .f32) (d6 d7 : Vec F S256x2048 .bf16) (R : sProp 𝕄) (E : Set ℕ) :
    iprop((owns (c : Thread nD τ) arg6 fullShare x3 ∗ owns (c : Thread nD τ) arg7 fullShare x4
        ∗ owns (c : Thread nD τ) arg9 fullShare d6 ∗ owns (c : Thread nD τ) arg10 fullShare d7) ∗ R)
      ⊢ wp frame (wpE (defs₀ (F := F)) Variants.none (c : Thread nD τ) none) E (riders i arg3 harg3 arg4 harg4 arg5 harg5 arg6 harg6 arg7 harg7 arg8 harg8 arg9 harg9 arg10 harg10 arg11 harg11 arg12 harg12)
          (fun _ => iprop((owns (c : Thread nD τ) arg6 fullShare x3 ∗ owns (c : Thread nD τ) arg7 fullShare x4
            ∗ owns (c : Thread nD τ) arg9 fullShare (if k0_cond1 i = 1#1 then k0_pay12 x3 else d6)
            ∗ owns (c : Thread nD τ) arg10 fullShare (if k0_cond2 i = 1#1 then k0_pay13 x4 else d7)) ∗ R)) := by
  unfold riders owns
  iintro ⟨⟨⟨%f6, %hf6, H6⟩, ⟨%f7, %hf7, H7⟩, ⟨%f9, %hf9, H9⟩, ⟨%f10, %hf10, H10⟩⟩, HR⟩
  obtain rfl := harg6.eq_unread hf6; obtain rfl := harg7.eq_unread hf7
  obtain rfl := harg9.eq_unread hf9; obtain rfl := harg10.eq_unread hf10
  have e6 : arg6.view.readAt (Elt F) (Rect.unit (s := S256x2048) ![0, 0] S256x2048.size inb_S256x2048_S256x2048_0_0).toLoadRect (harg6.unread x3) = x3 :=
    (View.readAt_full arg6.view _ (off := ![0, 0]) inb_S256x2048_S256x2048_0_0).trans hf6
  have e7 : arg7.view.readAt (Elt F) (Rect.unit (s := S256x2048) ![0, 0] S256x2048.size inb_S256x2048_S256x2048_0_0).toLoadRect (harg7.unread x4) = x4 :=
    (View.readAt_full arg7.view _ (off := ![0, 0]) inb_S256x2048_S256x2048_0_0).trans hf7
  by_cases h1 : k0_cond1 i = 1#1 <;> by_cases h2 : k0_cond2 i = 1#1
  · simp only [h1, h2, ↓reduceDIte, ↓reduceIte]
    sl_exec
    sl_step
    isplitr [HR]
    · isplitl [H6]
      · iexists _; isplitr; swap
        · iexact H6
        · ipureintro; exact hf6
      isplitl [H7]
      · iexists _; isplitr; swap
        · iexact H7
        · ipureintro; exact hf7
      isplitl [H9]
      · iexists _; isplitr; swap
        · iexact H9
        · ipureintro; exact View.read_writes_full arg9.view (harg9.unread d6) (off := ![0, 0]) inb_S256x2048_S256x2048_0_0 (k0_pay12 x3) []
      · iexists _; isplitr; swap
        · iexact H10
        · ipureintro; exact View.read_writes_full arg10.view (harg10.unread d7) (off := ![0, 0]) inb_S256x2048_S256x2048_0_0 (k0_pay13 x4) []
    iexact HR
  · simp only [h1, h2, ↓reduceDIte, ↓reduceIte]
    sl_exec
    sl_step
    isplitr [HR]
    · isplitl [H6]
      · iexists _; isplitr; swap
        · iexact H6
        · ipureintro; exact hf6
      isplitl [H7]
      · iexists _; isplitr; swap
        · iexact H7
        · ipureintro; exact hf7
      isplitl [H9]
      · iexists _; isplitr; swap
        · iexact H9
        · ipureintro; exact View.read_writes_full arg9.view (harg9.unread d6) (off := ![0, 0]) inb_S256x2048_S256x2048_0_0 (k0_pay12 x3) []
      · iexists _; isplitr; swap
        · iexact H10
        · ipureintro; exact hf10
    iexact HR
  · simp only [h1, h2, ↓reduceDIte, ↓reduceIte]
    sl_exec
    sl_step
    isplitr [HR]
    · isplitl [H6]
      · iexists _; isplitr; swap
        · iexact H6
        · ipureintro; exact hf6
      isplitl [H7]
      · iexists _; isplitr; swap
        · iexact H7
        · ipureintro; exact hf7
      isplitl [H9]
      · iexists _; isplitr; swap
        · iexact H9
        · ipureintro; exact hf9
      · iexists _; isplitr; swap
        · iexact H10
        · ipureintro; exact View.read_writes_full arg10.view (harg10.unread d7) (off := ![0, 0]) inb_S256x2048_S256x2048_0_0 (k0_pay13 x4) []
    iexact HR
  · simp only [h1, h2, ↓reduceDIte, ↓reduceIte]
    sl_exec
    sl_step
    isplitr [HR]
    · isplitl [H6]
      · iexists _; isplitr; swap
        · iexact H6
        · ipureintro; exact hf6
      isplitl [H7]
      · iexists _; isplitr; swap
        · iexact H7
        · ipureintro; exact hf7
      isplitl [H9]
      · iexists _; isplitr; swap
        · iexact H9
        · ipureintro; exact hf9
      · iexists _; isplitr; swap
        · iexact H10
        · ipureintro; exact hf10
    iexact HR

/-- The scratch arrays after the fourteen updates. -/
def final (i : grid0.Coords) (x0 x1 x2 : Vec F S1x1x4096x256 .bf16) : St F :=
  let s : St F := start
  let s := toDiagA x0 x1 x2 (k0_off3 i 0#32) (k0_off3_inb i 0)
    ![0, 0, 0, 0] inb_S1x1x4096x256_S1x1x512x256_0_0_0_0 ![0, 0] inb_S4096x128_S512x128_0_0 inb_S4096x256_S512x256_0_0 s
  let s := toDiagB x0 x1 x2 (k0_off4 i 0#32) (k0_off4_inb i 0)
    ![0, 0, 512, 0] inb_S1x1x4096x256_S1x1x512x256_0_0_512_0 ![512, 0] inb_S4096x128_S512x128_512_0 inb_S4096x256_S512x256_512_0 s
  let s := toFull x0 x1 x2 (k0_off4 i 0#32) (k0_off4_inb i 0)
    ![0, 0, 1024, 0] inb_S1x1x4096x256_S1x1x1024x256_0_0_1024_0 ![1024, 0] inb_S4096x128_S1024x128_1024_0 inb_S4096x256_S1024x256_1024_0 s
  let s := toDiagA x0 x1 x2 (k0_off3 i 1024#32) (k0_off3_inb i 1)
    ![0, 0, 1024, 0] inb_S1x1x4096x256_S1x1x512x256_0_0_1024_0 ![1024, 0] inb_S4096x128_S512x128_1024_0 inb_S4096x256_S512x256_1024_0 s
  let s := toDiagB x0 x1 x2 (k0_off4 i 1024#32) (k0_off4_inb i 1)
    ![0, 0, 1536, 0] inb_S1x1x4096x256_S1x1x512x256_0_0_1536_0 ![1536, 0] inb_S4096x128_S512x128_1536_0 inb_S4096x256_S512x256_1536_0 s
  let s := toFull x0 x1 x2 (k0_off4 i 0#32) (k0_off4_inb i 0)
    ![0, 0, 2048, 0] inb_S1x1x4096x256_S1x1x1024x256_0_0_2048_0 ![2048, 0] inb_S4096x128_S1024x128_2048_0 inb_S4096x256_S1024x256_2048_0 s
  let s := toFull x0 x1 x2 (k0_off4 i 1024#32) (k0_off4_inb i 1)
    ![0, 0, 2048, 0] inb_S1x1x4096x256_S1x1x1024x256_0_0_2048_0 ![2048, 0] inb_S4096x128_S1024x128_2048_0 inb_S4096x256_S1024x256_2048_0 s
  let s := toDiagA x0 x1 x2 (k0_off3 i 2048#32) (k0_off3_inb i 2)
    ![0, 0, 2048, 0] inb_S1x1x4096x256_S1x1x512x256_0_0_2048_0 ![2048, 0] inb_S4096x128_S512x128_2048_0 inb_S4096x256_S512x256_2048_0 s
  let s := toDiagB x0 x1 x2 (k0_off4 i 2048#32) (k0_off4_inb i 2)
    ![0, 0, 2560, 0] inb_S1x1x4096x256_S1x1x512x256_0_0_2560_0 ![2560, 0] inb_S4096x128_S512x128_2560_0 inb_S4096x256_S512x256_2560_0 s
  let s := toFull x0 x1 x2 (k0_off4 i 0#32) (k0_off4_inb i 0)
    ![0, 0, 3072, 0] inb_S1x1x4096x256_S1x1x1024x256_0_0_3072_0 ![3072, 0] inb_S4096x128_S1024x128_3072_0 inb_S4096x256_S1024x256_3072_0 s
  let s := toFull x0 x1 x2 (k0_off4 i 1024#32) (k0_off4_inb i 1)
    ![0, 0, 3072, 0] inb_S1x1x4096x256_S1x1x1024x256_0_0_3072_0 ![3072, 0] inb_S4096x128_S1024x128_3072_0 inb_S4096x256_S1024x256_3072_0 s
  let s := toFull x0 x1 x2 (k0_off4 i 2048#32) (k0_off4_inb i 2)
    ![0, 0, 3072, 0] inb_S1x1x4096x256_S1x1x1024x256_0_0_3072_0 ![3072, 0] inb_S4096x128_S1024x128_3072_0 inb_S4096x256_S1024x256_3072_0 s
  let s := toDiagA x0 x1 x2 (k0_off3 i 3072#32) (k0_off3_inb i 3)
    ![0, 0, 3072, 0] inb_S1x1x4096x256_S1x1x512x256_0_0_3072_0 ![3072, 0] inb_S4096x128_S512x128_3072_0 inb_S4096x256_S512x256_3072_0 s
  let s := toDiagB x0 x1 x2 (k0_off4 i 3072#32) (k0_off4_inb i 3)
    ![0, 0, 3584, 0] inb_S1x1x4096x256_S1x1x512x256_0_0_3584_0 ![3584, 0] inb_S4096x128_S512x128_3584_0 inb_S4096x256_S512x256_3584_0 s
  s

/-- The body at a grid point: the output block is the quotient of the accumulators after the fourteen updates of the point's
    queries, keys and values; the riders' blocks are cast where the point is in their windows. -/
theorem body_wp (c : Dev nD) (i : grid0.Coords) (arg3 : Memref sig .tc .vmem S1x1x4096x256 .bf16) (harg3 : arg3.IsWhole) (arg4 : Memref sig .tc .vmem S1x1x4096x256 .bf16) (harg4 : arg4.IsWhole) (arg5 : Memref sig .tc .vmem S1x1x4096x256 .bf16) (harg5 : arg5.IsWhole) (arg6 : Memref sig .tc .vmem S256x2048 .f32) (harg6 : arg6.IsWhole) (arg7 : Memref sig .tc .vmem S256x2048 .f32) (harg7 : arg7.IsWhole) (arg8 : Memref sig .tc .vmem S4096x128 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S4096x128 .f32) (harg11 : arg11.IsWhole) (arg12 : Memref sig .tc .vmem S4096x256 .f32) (harg12 : arg12.IsWhole)
    (x0 x1 x2 : Vec F S1x1x4096x256 .bf16) (x3 x4 : Vec F S256x2048 .f32) (d6 d7 : Vec F S256x2048 .bf16) (s : St F) (R : sProp 𝕄) (E : Set ℕ) :
    iprop((owns (c : Thread nD τ) arg6 fullShare x3 ∗ owns (c : Thread nD τ) arg7 fullShare x4
        ∗ owns (c : Thread nD τ) arg9 fullShare d6 ∗ owns (c : Thread nD τ) arg10 fullShare d7)
        ∗ held c arg3 arg4 arg5 arg11 arg12 x0 x1 x2 s ∗ (∃ d, owns (c : Thread nD τ) arg8 fullShare d) ∗ R)
      ⊢ wp frame (wpE (defs₀ (F := F)) Variants.none (c : Thread nD τ) none) E (cc0_attn i arg3 harg3 arg4 harg4 arg5 harg5 arg6 harg6 arg7 harg7 arg8 harg8 arg9 harg9 arg10 harg10 arg11 harg11 arg12 harg12)
          (fun _ => iprop(held c arg3 arg4 arg5 arg11 arg12 x0 x1 x2 (final i x0 x1 x2) ∗ owns (c : Thread nD τ) arg8 fullShare (quotient (final i x0 x1 x2).2)
            ∗ (owns (c : Thread nD τ) arg6 fullShare x3 ∗ owns (c : Thread nD τ) arg7 fullShare x4
            ∗ owns (c : Thread nD τ) arg9 fullShare (if k0_cond1 i = 1#1 then k0_pay12 x3 else d6)
            ∗ owns (c : Thread nD τ) arg10 fullShare (if k0_cond2 i = 1#1 then k0_pay13 x4 else d7)) ∗ R)) := by
  rw [body_eq]; unfold stepped
  refine seq_wp (riders_wp c i arg3 harg3 arg4 harg4 arg5 harg5 arg6 harg6 arg7 harg7 arg8 harg8 arg9 harg9 arg10 harg10 arg11 harg11 arg12 harg12 x3 x4 d6 d7 _ E) ?_
  have hre : iprop((owns (c : Thread nD τ) arg6 fullShare x3 ∗ owns (c : Thread nD τ) arg7 fullShare x4
        ∗ owns (c : Thread nD τ) arg9 fullShare (if k0_cond1 i = 1#1 then k0_pay12 x3 else d6)
        ∗ owns (c : Thread nD τ) arg10 fullShare (if k0_cond2 i = 1#1 then k0_pay13 x4 else d7))
        ∗ held c arg3 arg4 arg5 arg11 arg12 x0 x1 x2 s ∗ (∃ d, owns (c : Thread nD τ) arg8 fullShare d) ∗ R)
      ⊢ (iprop(held c arg3 arg4 arg5 arg11 arg12 x0 x1 x2 s ∗ (∃ d, owns (c : Thread nD τ) arg8 fullShare d)
      ∗ (owns (c : Thread nD τ) arg6 fullShare x3 ∗ owns (c : Thread nD τ) arg7 fullShare x4
        ∗ owns (c : Thread nD τ) arg9 fullShare (if k0_cond1 i = 1#1 then k0_pay12 x3 else d6)
        ∗ owns (c : Thread nD τ) arg10 fullShare (if k0_cond2 i = 1#1 then k0_pay13 x4 else d7)) ∗ R) : sProp 𝕄) := by
    iintro ⟨HW, HH, H8, HR⟩
    isplitl [HH]; · iexact HH
    isplitl [H8]; · iexact H8
    isplitl [HW]; · iexact HW
    iexact HR
  refine Idealize.SL.BI.Entails.trans hre ?_
  refine seq_wp (initScratch_wp c harg11 harg12 x0 x1 x2 s _ E) ?_
  refine seq_wp (stepDiagA_wp c harg3 harg4 harg5 harg11 harg12 _ _ _ _ _ _ _ x0 x1 x2 _ _ E) ?_
  refine seq_wp (stepDiagB_wp c harg3 harg4 harg5 harg11 harg12 _ _ _ _ _ _ _ x0 x1 x2 _ _ E) ?_
  refine seq_wp (stepFull_wp c harg3 harg4 harg5 harg11 harg12 _ _ _ _ _ _ _ x0 x1 x2 _ _ E) ?_
  refine seq_wp (stepDiagA_wp c harg3 harg4 harg5 harg11 harg12 _ _ _ _ _ _ _ x0 x1 x2 _ _ E) ?_
  refine seq_wp (stepDiagB_wp c harg3 harg4 harg5 harg11 harg12 _ _ _ _ _ _ _ x0 x1 x2 _ _ E) ?_
  refine seq_wp (stepFull_wp c harg3 harg4 harg5 harg11 harg12 _ _ _ _ _ _ _ x0 x1 x2 _ _ E) ?_
  refine seq_wp (stepFull_wp c harg3 harg4 harg5 harg11 harg12 _ _ _ _ _ _ _ x0 x1 x2 _ _ E) ?_
  refine seq_wp (stepDiagA_wp c harg3 harg4 harg5 harg11 harg12 _ _ _ _ _ _ _ x0 x1 x2 _ _ E) ?_
  refine seq_wp (stepDiagB_wp c harg3 harg4 harg5 harg11 harg12 _ _ _ _ _ _ _ x0 x1 x2 _ _ E) ?_
  refine seq_wp (stepFull_wp c harg3 harg4 harg5 harg11 harg12 _ _ _ _ _ _ _ x0 x1 x2 _ _ E) ?_
  refine seq_wp (stepFull_wp c harg3 harg4 harg5 harg11 harg12 _ _ _ _ _ _ _ x0 x1 x2 _ _ E) ?_
  refine seq_wp (stepFull_wp c harg3 harg4 harg5 harg11 harg12 _ _ _ _ _ _ _ x0 x1 x2 _ _ E) ?_
  refine seq_wp (stepDiagA_wp c harg3 harg4 harg5 harg11 harg12 _ _ _ _ _ _ _ x0 x1 x2 _ _ E) ?_
  refine seq_wp (stepDiagB_wp c harg3 harg4 harg5 harg11 harg12 _ _ _ _ _ _ _ x0 x1 x2 _ _ E) ?_
  exact finish_wp c harg8 harg12 x0 x1 x2 _ _ E

end Cert.Attn
end
-- ==== Proof.AttnLaunch.lean ====
module

public import proofs.«01_k».proof.Proof.AttnRun
public import proofs.«01_k».proof.Proof.Gen.KernelIdeal.Points
public import proofs.«01_k».proof.Proof.Gen.KernelIdeal.Launch
public import Idealize.ShloMosaic.Lib.Pipeline.TableIdle
public import Idealize.ShloMosaic.Lib.Claim

/-! The attention call's launch: what each window's buffer holds after every grid point, and the run of the whole program. -/

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point at or before `t` at which the first rider stores: its four points are the first four. -/
def store6 (t : Fin cfg0.N) : Fin cfg0.N := if t.val < 4 then t else ⟨3, by decide⟩

/-- The last point at or before `t` at which the second rider stores: its points are those from 4 to 11. -/
def store7 (t : Fin cfg0.N) : Fin cfg0.N := if t.val < 12 then t else ⟨11, by decide⟩

/-- What the output's buffer holds after the point `t`: the attention of the point's blocks. -/
def attnOut (c : Dev nD) (t : Fin cfg0.N) : Vec F S4096x128 .bf16 :=
  quotient (final (grid0.coords t) (iblk m c 0 t) (iblk m c 1 t) (iblk m c 2 t)).2

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => attnOut m c t
    | ⟨6, _⟩ => k0_pay12 (iblk m c 3 (store6 t))
    | ⟨7, _⟩ => k0_pay13 (iblk m c 4 (store7 t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = attnOut m c t := by dsimp only [dats]
theorem after_6 (c : Dev nD) (t : Fin cfg0.N) : (dats m 0 c).after 6 t = k0_pay12 (iblk m c 3 (store6 t)) := by dsimp only [dats]
theorem after_7 (c : Dev nD) (t : Fin cfg0.N) : (dats m 0 c).after 7 t = k0_pay13 (iblk m c 4 (store7 t)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Rider 6's condition holds at its own points only. -/
theorem cond_6 : ∀ t : Fin cfg0.N, k0_cond1 (grid0.coords t) = 1#1 ↔ t.val < 4 :=
  (by decide +kernel : ∀ t : Fin grid0.N, k0_cond1 (grid0.coords t) = 1#1 ↔ t.val < 4)
theorem idle_6 : ∀ t : Fin cfg0.N, cfg0.idle 6 (grid0.coords t) = !decide (t.val < 4) :=
  (by decide +kernel : ∀ t : Fin grid0.N, idle0 6 (grid0.coords t) = !decide (t.val < 4))
theorem flush_6 : ∀ t : Fin cfg0.N, (cfg0.win 6).flush t = decide (t.val < 3 ∨ t.val = 15) :=
  (by decide +kernel : ∀ t : Fin grid0.N, win0_6.flush t = decide (t.val < 3 ∨ t.val = 15))
/-- Before which points the rider's buffer holds nothing that has still to be written back. -/
theorem fresh_6 (n : ℕ) (hn : n ≤ cfg0.N) : cfg0.fresh 6 n = decide (n < 4 ∨ n = 16) :=
  cfg0.fresh_tab 6 (fun n => decide (n < 4 ∨ n = 16)) (by decide) (fun t => by
    rw [flush_6 t, show cfg0.idle 6 (cfg0.grid.coords t) = !decide (t.val < 4) from idle_6 t]
    have hN : t.val < 16 := lt_of_lt_of_eq t.isLt (show cfg0.N = 16 from N_0)
    rw [Bool.eq_iff_iff]
    simp only [Bool.or_eq_true, Bool.and_eq_true, Bool.not_eq_true', decide_eq_true_eq, decide_eq_false_iff_not]
    omega) n hn

/-- What the rider's buffer holds when the body runs at `t`: what it stored last, if that has not been written back. -/
theorem before_6 (c : Dev nD) (t : Fin cfg0.N) (d) :
    (dats m 0 c).before 6 t d = if cfg0.fresh 6 t.val then d else (dats m 0 c).after 6 ⟨t.val - 1, by omega⟩ :=
  (dats m 0 c).before_out_traj 6 rfl (fun _ _ => rfl) (fun t h0 hi hf => by
    rw [show cfg0.idle 6 (cfg0.grid.coords t) = !decide (t.val < 4) from idle_6 t] at hi
    rw [fresh_6 _ t.isLt.le] at hf
    have hN : t.val < 16 := lt_of_lt_of_eq t.isLt (show cfg0.N = 16 from N_0)
    simp only [Bool.not_eq_true', decide_eq_false_iff_not] at hi hf
    rw [after_6, after_6]
    have : store6 t = store6 ⟨t.val - 1, by omega⟩ := by
      unfold store6
      rw [if_neg (show ¬ t.val < 4 by omega)]
      split
      · apply Fin.ext; simp only at *; omega
      · rfl
    rw [this]) t.val t rfl d

/-- The rider's buffer after the body is what the launch asks of it. -/
theorem leaves_6 (c : Dev nD) (t : Fin cfg0.N) (d) :
    (owns (c : Thread nD τ) (win0_6.stage (cfg0.slots t 6)) fullShare
        (if k0_cond1 (grid0.coords t) = 1#1 then k0_pay12 (iblk m c 3 t) else (dats m 0 c).before 6 t d) : sProp 𝕄)
      ⊢ (dats m 0 c).leavesExact 6 t := by
  have hN : t.val < 16 := lt_of_lt_of_eq t.isLt (show cfg0.N = 16 from N_0)
  by_cases h : t.val < 4
  · rw [if_pos ((cond_6 t).mpr h)]
    rw [show (dats m 0 c).leavesExact 6 t = owns (c : Thread nD τ) (win0_6.stage (cfg0.slots t 6)) fullShare ((dats m 0 c).after 6 t) from by
      unfold Dat.leavesExact; rw [show cfg0.idle 6 (cfg0.grid.coords t) = false from by rw [show cfg0.idle 6 (cfg0.grid.coords t) = !decide (t.val < 4) from idle_6 t, decide_eq_true h]; rfl]]
    rw [after_6, show store6 t = t from if_pos (show t.val < 4 by omega)]
  · rw [if_neg (fun h' => h ((cond_6 t).mp h'))]
    have hi : cfg0.idle 6 (cfg0.grid.coords t) = true := by
      rw [show cfg0.idle 6 (cfg0.grid.coords t) = !decide (t.val < 4) from idle_6 t, decide_eq_false h]; rfl
    by_cases h15 : t.val = 15
    · have hf : (cfg0.win 6).flush t = true := by rw [flush_6 t]; exact decide_eq_true (by omega)
      rw [show (dats m 0 c).leavesExact 6 t = owns (c : Thread nD τ) (win0_6.stage (cfg0.slots t 6)) fullShare ((dats m 0 c).after 6 t) from by
        unfold Dat.leavesExact; rw [hi, hf]]
      have hb : (dats m 0 c).before 6 t d = (dats m 0 c).after 6 t := by
        rw [before_6, fresh_6 _ t.isLt.le, decide_eq_false (show ¬ (t.val < 4 ∨ t.val = 16) by omega), if_neg Bool.false_ne_true, after_6, after_6]
        have : store6 ⟨t.val - 1, by omega⟩ = store6 t := by
          unfold store6; rw [if_neg (show ¬ t.val < 4 by omega), if_neg (show ¬ t.val - 1 < 4 by omega)]
        rw [this]
      rw [hb]
    · have hf : (cfg0.win 6).flush t = false := by rw [flush_6 t]; exact decide_eq_false (by omega)
      rw [(dats m 0 c).leavesExact_idle 6 t hi hf]
      iintro H; iexists d; iexact H

/-- Rider 7's condition holds at its own points only. -/
theorem cond_7 : ∀ t : Fin cfg0.N, k0_cond2 (grid0.coords t) = 1#1 ↔ 4 ≤ t.val ∧ t.val < 12 :=
  (by decide +kernel : ∀ t : Fin grid0.N, k0_cond2 (grid0.coords t) = 1#1 ↔ 4 ≤ t.val ∧ t.val < 12)
theorem idle_7 : ∀ t : Fin cfg0.N, cfg0.idle 7 (grid0.coords t) = !decide (4 ≤ t.val ∧ t.val < 12) :=
  (by decide +kernel : ∀ t : Fin grid0.N, idle0 7 (grid0.coords t) = !decide (4 ≤ t.val ∧ t.val < 12))
theorem flush_7 : ∀ t : Fin cfg0.N, (cfg0.win 7).flush t = decide ((4 ≤ t.val ∧ t.val < 11) ∨ t.val = 15) :=
  (by decide +kernel : ∀ t : Fin grid0.N, win0_7.flush t = decide ((4 ≤ t.val ∧ t.val < 11) ∨ t.val = 15))
/-- Before which points the rider's buffer holds nothing that has still to be written back. -/
theorem fresh_7 (n : ℕ) (hn : n ≤ cfg0.N) : cfg0.fresh 7 n = decide (n < 12 ∨ n = 16) :=
  cfg0.fresh_tab 7 (fun n => decide (n < 12 ∨ n = 16)) (by decide) (fun t => by
    rw [flush_7 t, show cfg0.idle 7 (cfg0.grid.coords t) = !decide (4 ≤ t.val ∧ t.val < 12) from idle_7 t]
    have hN : t.val < 16 := lt_of_lt_of_eq t.isLt (show cfg0.N = 16 from N_0)
    rw [Bool.eq_iff_iff]
    simp only [Bool.or_eq_true, Bool.and_eq_true, Bool.not_eq_true', decide_eq_true_eq, decide_eq_false_iff_not]
    omega) n hn

/-- What the rider's buffer holds when the body runs at `t`: what it stored last, if that has not been written back. -/
theorem before_7 (c : Dev nD) (t : Fin cfg0.N) (d) :
    (dats m 0 c).before 7 t d = if cfg0.fresh 7 t.val then d else (dats m 0 c).after 7 ⟨t.val - 1, by omega⟩ :=
  (dats m 0 c).before_out_traj 7 rfl (fun _ _ => rfl) (fun t h0 hi hf => by
    rw [show cfg0.idle 7 (cfg0.grid.coords t) = !decide (4 ≤ t.val ∧ t.val < 12) from idle_7 t] at hi
    rw [fresh_7 _ t.isLt.le] at hf
    have hN : t.val < 16 := lt_of_lt_of_eq t.isLt (show cfg0.N = 16 from N_0)
    simp only [Bool.not_eq_true', decide_eq_false_iff_not] at hi hf
    rw [after_7, after_7]
    have : store7 t = store7 ⟨t.val - 1, by omega⟩ := by
      unfold store7
      rw [if_neg (show ¬ t.val < 12 by omega)]
      split
      · apply Fin.ext; simp only at *; omega
      · rfl
    rw [this]) t.val t rfl d

/-- The rider's buffer after the body is what the launch asks of it. -/
theorem leaves_7 (c : Dev nD) (t : Fin cfg0.N) (d) :
    (owns (c : Thread nD τ) (win0_7.stage (cfg0.slots t 7)) fullShare
        (if k0_cond2 (grid0.coords t) = 1#1 then k0_pay13 (iblk m c 4 t) else (dats m 0 c).before 7 t d) : sProp 𝕄)
      ⊢ (dats m 0 c).leavesExact 7 t := by
  have hN : t.val < 16 := lt_of_lt_of_eq t.isLt (show cfg0.N = 16 from N_0)
  by_cases h : 4 ≤ t.val ∧ t.val < 12
  · rw [if_pos ((cond_7 t).mpr h)]
    rw [show (dats m 0 c).leavesExact 7 t = owns (c : Thread nD τ) (win0_7.stage (cfg0.slots t 7)) fullShare ((dats m 0 c).after 7 t) from by
      unfold Dat.leavesExact; rw [show cfg0.idle 7 (cfg0.grid.coords t) = false from by rw [show cfg0.idle 7 (cfg0.grid.coords t) = !decide (4 ≤ t.val ∧ t.val < 12) from idle_7 t, decide_eq_true h]; rfl]]
    rw [after_7, show store7 t = t from if_pos (show t.val < 12 by omega)]
  · rw [if_neg (fun h' => h ((cond_7 t).mp h'))]
    have hi : cfg0.idle 7 (cfg0.grid.coords t) = true := by
      rw [show cfg0.idle 7 (cfg0.grid.coords t) = !decide (4 ≤ t.val ∧ t.val < 12) from idle_7 t, decide_eq_false h]; rfl
    by_cases h15 : t.val = 15
    · have hf : (cfg0.win 7).flush t = true := by rw [flush_7 t]; exact decide_eq_true (by omega)
      rw [show (dats m 0 c).leavesExact 7 t = owns (c : Thread nD τ) (win0_7.stage (cfg0.slots t 7)) fullShare ((dats m 0 c).after 7 t) from by
        unfold Dat.leavesExact; rw [hi, hf]]
      have hb : (dats m 0 c).before 7 t d = (dats m 0 c).after 7 t := by
        rw [before_7, fresh_7 _ t.isLt.le, decide_eq_false (show ¬ (t.val < 12 ∨ t.val = 16) by omega), if_neg Bool.false_ne_true, after_7, after_7]
        have : store7 ⟨t.val - 1, by omega⟩ = store7 t := by
          unfold store7; rw [if_neg (show ¬ t.val < 12 by omega), if_neg (show ¬ t.val - 1 < 12 by omega)]
        rw [this]
      rw [hb]
    · have hf : (cfg0.win 7).flush t = false := by rw [flush_7 t]; exact decide_eq_false (by omega)
      rw [(dats m 0 c).leavesExact_idle 7 t hi hf]
      iintro H; iexists d; iexact H

/-- The two scratch arrays, at some contents, beside the generator's register. -/
theorem scratch_eq (c : Dev nD) :
    (Pipeline.ΦA spec0 c : sProp 𝕄)
      = iprop(iprop((∃ d, owns (c : Thread nD τ) (Memref.whole cc0_scratch0 : Memref sig .tc .vmem S4096x128 .f32) fullShare d) ∗ (∃ d, owns (c : Thread nD τ) (Memref.whole cc0_scratch1 : Memref sig .tc .vmem S4096x256 .f32) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2400000 in
/-- The body at any point leaves every buffer as the launch asks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, scratch_eq]
  rw [show (dats m 0 c).leavesExact 0 t = owns (c : Thread nD τ) (win0_0.stage (cfg0.slots t 0)) fullShare ((dats m 0 c).after 0 t) from by
      unfold Dat.leavesExact; rw [show cfg0.idle 0 (cfg0.grid.coords t) = false from rfl], after_0]
  rw [show (dats m 0 c).leavesExact 1 t = owns (c : Thread nD τ) (win0_1.stage (cfg0.slots t 1)) fullShare ((dats m 0 c).after 1 t) from by
      unfold Dat.leavesExact; rw [show cfg0.idle 1 (cfg0.grid.coords t) = false from rfl], after_1]
  rw [show (dats m 0 c).leavesExact 2 t = owns (c : Thread nD τ) (win0_2.stage (cfg0.slots t 2)) fullShare ((dats m 0 c).after 2 t) from by
      unfold Dat.leavesExact; rw [show cfg0.idle 2 (cfg0.grid.coords t) = false from rfl], after_2]
  rw [show (dats m 0 c).leavesExact 3 t = owns (c : Thread nD τ) (win0_3.stage (cfg0.slots t 3)) fullShare ((dats m 0 c).after 3 t) from by
      unfold Dat.leavesExact; rw [show cfg0.idle 3 (cfg0.grid.coords t) = false from rfl], after_3]
  rw [show (dats m 0 c).leavesExact 4 t = owns (c : Thread nD τ) (win0_4.stage (cfg0.slots t 4)) fullShare ((dats m 0 c).after 4 t) from by
      unfold Dat.leavesExact; rw [show cfg0.idle 4 (cfg0.grid.coords t) = false from rfl], after_4]
  rw [show (dats m 0 c).leavesExact 5 t = owns (c : Thread nD τ) (win0_5.stage (cfg0.slots t 5)) fullShare ((dats m 0 c).after 5 t) from by
      unfold Dat.leavesExact; rw [show cfg0.idle 5 (cfg0.grid.coords t) = false from rfl], after_5]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hb := body_wp (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (Memref.whole cc0_scratch0) (Memref.isWhole_whole _) (Memref.whole cc0_scratch1) (Memref.isWhole_whole _)
    (iblk m c 0 t) (iblk m c 1 t) (iblk m c 2 t) (iblk m c 3 t) (iblk m c 4 t) ((dats m 0 c).before 6 t d6) ((dats m 0 c).before 7 t d7) (s0, s1)
    (iprop((∃ r, prngReg c r) ∗ (dats m 0 c).owesAt () t.castSucc)) Set.univ
  iapply (hb.trans ((wp frame (wpE (defs₀ (F := F)) Variants.none (c : Thread nD τ) none) Set.univ _).mono fun _ => ?hpost))
  case hpost =>
    show iprop(held c _ _ _ _ _ _ _ _ _ ∗ _) ⊢ (_ : sProp 𝕄)
    unfold held
    iintro ⟨⟨H0, H1, H2, HS0, HS1⟩, H5, ⟨H3, H4, H6, H7⟩, Hg, Ho⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply leaves_6 m c t d6; iexact H6
    iapply leaves_7 m c t d7; iexact H7
  unfold held
  isplitl [H3 H4 H6 H7]
  · isplitl [H3]; · iexact H3
    isplitl [H4]; · iexact H4
    isplitl [H6]; · iexact H6
    iexact H7
  isplitl [H0 H1 H2 HS0 HS1]
  · isplitl [H0]; · iexact H0
    isplitl [H1]; · iexact H1
    isplitl [H2]; · iexact H2
    isplitl [HS0]; · iexact HS0
    iexact HS1
  isplitl [H5]; · iexists _; iexact H5
  isplitl [Hg]; · iexact Hg
  iexact Ho

theorem defs_row (t : Fin cfg0.N) :
    defs₀ (F := F) .tc cfg0.body (cfg0.bodyArgs t (cfg0.slots t)) = bodyAt0 t := by
  unfold defs₀; rw [Defs.onTc_tc]

/-- The body's triple, as the launch asks for it. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- Every fair execution ends, with the windows' arrays as the proof data say, every other buffer as the region found it, and
    every semaphore at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The program leaves its arguments as it found them. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run m ρ)

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiescent m ρ))

end Cert.Attn
end
-- ==== Proof.AttnRead.lean ====
module

public import proofs.«01_k».proof.Proof.AttnSteps
public import Idealize.ShloMosaic.Lib.Pointwise
public import Idealize.ShloMosaic.Lib.WordCmp

/-! The attention kernel's updates read at an index, on the extended reals: a row of maxima becomes its maximum with the
block's scores, and a row of accumulators is rescaled and gains the block's weighted values. -/

@[expose] public section

set_option maxRecDepth 16384

noncomputable section

namespace Cert.Attn

open Cert.KernelIdeal Cert.KernelIdeal.Gen
open Idealize.ShloMosaic

/-- The lane a column of weights or of accumulators takes its row maximum from. -/
def lane {n : ℕ} (c : Fin n) : Fin 128 := ⟨c.val % 128, Nat.mod_lt _ (by decide)⟩

/-- The literal for minus infinity. -/
theorem ofBits_bot : Ideal.ofBits FTy.f32 4286578688#32 = ⊥ := by simp [Ideal.ofBits, Ideal.ieee]

/-- A running maximum from minus infinity is the supremum. -/
theorem fold_max_bot {n : ℕ} (f : Fin n → EReal) : Finset.fold max (Ideal.ofBits FTy.f32 4286578688#32) f Finset.univ = Finset.univ.sup f := by
  rw [ofBits_bot]; rfl

/-- The causal mask on index words. -/
theorem mask_select (a b : ℕ) (ha : a < 4096) (hb : b < 4096) (x y : EReal) :
    Scalar.select (IntOp.cmpi CmpIPredicate.sle (BitVec.ofNat 32 a) (BitVec.ofNat 32 b)) x y = if a ≤ b then x else y := by
  rw [WordCmp.cmpi_sle_ofNat (by norm_num; omega) (by norm_num; omega)]
  by_cases h : a ≤ b <;> simp [Scalar.select, h]

/-- The same weight at two spellings of its column and of its lane. -/
theorem weight_congr {n : ℕ} {X : Fin n → EReal} {Y : Fin 128 → EReal} {c c' : Fin n} {l l' : Fin 128} (h : c.val = c'.val) (h' : l.val = l'.val) :
    (FloatOps.exp2 (F := Ideal) (φ := .f32) (X c - Y l) : EReal) = Ideal.exp2 (X c' - Y l') := by
  rw [Fin.ext h, Fin.ext h']; rfl

/-- The scores of an off-diagonal block. -/
theorem scoreFull_apply (k : Vec Ideal S1x1x1024x256 .bf16) (q : Vec Ideal S1x1x1024x256 .bf16) (r : Fin 1024) (c : Fin 1024) :
    k0_pay37 (k0_pay35 k) q (ix2 r c) = ∑ d : Fin 256, q (ix4 0 0 r d) * k (ix4 0 0 c d) := by
  pointwise [k0_pay37, k0_pay35]

/-- The row maxima an off-diagonal block leaves. -/
theorem maxFull_apply (k : Vec Ideal S1x1x1024x256 .bf16) (q : Vec Ideal S1x1x1024x256 .bf16) (m : Vec Ideal S1024x128 .f32) (r : Fin 1024) (l : Fin 128) :
    maxFull k q m (ix2 r l) = max (m (ix2 r l)) (Finset.univ.sup fun c => k0_pay37 (k0_pay35 k) q (ix2 r c)) := by
  rw [← fold_max_bot]
  pointwise [maxFull, k0_pay40, k0_pay38]

/-- The row maximum before it is stored. -/
theorem storedFull_apply (k : Vec Ideal S1x1x1024x256 .bf16) (q : Vec Ideal S1x1x1024x256 .bf16) (m : Vec Ideal S1024x128 .f32) (r : Fin 1024) (l : Fin 128) :
    k0_pay38 (k0_pay35 k) q m (ix2 r l) = maxFull k q m (ix2 r l) := by
  pointwise [maxFull, k0_pay40]

/-- The last lines of an update by an off-diagonal block, for any weights and any rescaling. -/
theorem lastFull_apply (al a : FVec Ideal S1024x256 .f32) (p : FVec Ideal S1024x1024 .bf16) (v : FVec Ideal S1024x256 .bf16) (r : Fin 1024) (d : Fin 256) :
    shapeCast S1024x256 (addf (mulf al a) (matmul dot_S1024x1024_S1024x256_S1024x256_1_0_0_1_n_n none p v (constant S1024x256 .f32 0x00000000#32)))
      shapeCasts_S1024x256_S1024x256 (ix2 r d) = al (ix2 r d) * a (ix2 r d) + ∑ c : Fin 1024, p (ix2 r c) * v (ix2 c d) := by
  pointwise

/-- The accumulators an off-diagonal block leaves. -/
theorem accFull_apply (k v : Vec Ideal S1x1x1024x256 .bf16) (q : Vec Ideal S1x1x1024x256 .bf16) (m : Vec Ideal S1024x128 .f32) (a : Vec Ideal S1024x256 .f32) (r : Fin 1024) (d : Fin 256) :
    accFull k v q m a (ix2 r d) = Ideal.exp2 (m (ix2 r (lane d)) - maxFull k q m (ix2 r (lane d))) * a (ix2 r d)
      + ∑ c : Fin 1024, Ideal.exp2 (k0_pay37 (k0_pay35 k) q (ix2 r c) - maxFull k q m (ix2 r (lane c))) * v (ix4 0 0 c d) := by
  unfold accFull k0_pay39
  refine (lastFull_apply _ _ _ _ r d).trans ?_
  simp only [← storedFull_apply]
  refine congrArg₂ (· + ·) (congrArg (· * a (ix2 r d)) ?_) (Finset.sum_congr rfl fun c _ => congrArg₂ (· * ·) ?_ ?_)
  · pointwise
    split_ifs
    all_goals
      refine weight_congr (X := fun l => m (ix2 r l)) (Y := fun l => k0_pay38 (k0_pay35 k) q m (ix2 r l)) ?_ ?_ <;> try simp only [lane] <;> omega
  · pointwise
    split_ifs
    all_goals
      refine weight_congr (X := fun c => k0_pay37 (k0_pay35 k) q (ix2 r c)) (Y := fun l => k0_pay38 (k0_pay35 k) q m (ix2 r l)) ?_ ?_ <;> try simp only [lane] <;> omega
  · pointwise [k0_pay36]

/-- The scores of the upper chain of a diagonal block. -/
theorem scoreDiagA_apply (k : Vec Ideal S1x1x512x256 .bf16) (q : Vec Ideal S1x1x512x256 .bf16) (r : Fin 512) (c : Fin 512) :
    k0_pay21 k q (ix2 r c) = if c.val ≤ r.val then ∑ d : Fin 256, q (ix4 0 0 r d) * k (ix4 0 0 c d) else ⊥ := by
  pointwise [k0_pay21]
  rw [ofBits_bot, show IntOp.addi (BitVec.ofNat 32 r.val) 0#32 = BitVec.ofNat 32 r.val by simp [IntOp.addi]]
  exact mask_select _ _ (by omega) (by omega) _ _

/-- The row maxima the upper chain of a diagonal block leaves. -/
theorem maxDiagA_apply (k : Vec Ideal S1x1x512x256 .bf16) (q : Vec Ideal S1x1x512x256 .bf16) (m : Vec Ideal S512x128 .f32) (r : Fin 512) (l : Fin 128) :
    maxDiagA k q m (ix2 r l) = max (m (ix2 r l)) (Finset.univ.sup fun c => k0_pay21 k q (ix2 r c)) := by
  rw [← fold_max_bot]
  pointwise [maxDiagA, k0_pay26, k0_pay22]

/-- The row maximum before it is stored. -/
theorem storedDiagA_apply (k : Vec Ideal S1x1x512x256 .bf16) (q : Vec Ideal S1x1x512x256 .bf16) (m : Vec Ideal S512x128 .f32) (r : Fin 512) (l : Fin 128) :
    k0_pay22 k q m (ix2 r l) = maxDiagA k q m (ix2 r l) := by
  pointwise [maxDiagA, k0_pay26]

/-- The last lines of an update by the upper chain of a diagonal block, for any weights and any rescaling. -/
theorem lastDiagA_apply (al a : FVec Ideal S512x256 .f32) (p : FVec Ideal S512x512 .bf16) (v : FVec Ideal S512x256 .bf16) (r : Fin 512) (d : Fin 256) :
    shapeCast S512x256 (addf (mulf al a) (matmul dot_S512x512_S512x256_S512x256_1_0_0_1_n_n none p v (constant S512x256 .f32 0x00000000#32)))
      shapeCasts_S512x256_S512x256 (ix2 r d) = al (ix2 r d) * a (ix2 r d) + ∑ c : Fin 512, p (ix2 r c) * v (ix2 c d) := by
  pointwise

/-- The accumulators the upper chain of a diagonal block leaves. -/
theorem accDiagA_apply (k v : Vec Ideal S1x1x512x256 .bf16) (q : Vec Ideal S1x1x512x256 .bf16) (m : Vec Ideal S512x128 .f32) (a : Vec Ideal S512x256 .f32) (r : Fin 512) (d : Fin 256) :
    accDiagA k v q m a (ix2 r d) = Ideal.exp2 (m (ix2 r (lane d)) - maxDiagA k q m (ix2 r (lane d))) * a (ix2 r d)
      + ∑ c : Fin 512, Ideal.exp2 (k0_pay21 k q (ix2 r c) - maxDiagA k q m (ix2 r (lane c))) * v (ix4 0 0 c d) := by
  unfold accDiagA k0_pay25 k0_pay24 k0_pay23
  refine (lastDiagA_apply _ _ _ _ r d).trans ?_
  simp only [← storedDiagA_apply]
  refine congrArg₂ (· + ·) (congrArg (· * a (ix2 r d)) ?_) (Finset.sum_congr rfl fun c _ => congrArg₂ (· * ·) ?_ ?_)
  · pointwise
    split_ifs
    all_goals
      refine weight_congr (X := fun l => m (ix2 r l)) (Y := fun l => k0_pay22 k q m (ix2 r l)) ?_ ?_ <;> try simp only [lane] <;> omega
  · pointwise
    split_ifs
    all_goals
      refine weight_congr (X := fun c => k0_pay21 k q (ix2 r c)) (Y := fun l => k0_pay22 k q m (ix2 r l)) ?_ ?_ <;> try simp only [lane] <;> omega
  · pointwise [k0_pay20]

/-- The scores of the lower chain of a diagonal block. -/
theorem scoreDiagB_apply (k : Vec Ideal S1x1x1024x256 .bf16) (q : Vec Ideal S1x1x512x256 .bf16) (r : Fin 512) (c : Fin 1024) :
    k0_pay28 k q (ix2 r c) = if c.val ≤ r.val + 512 then ∑ d : Fin 256, q (ix4 0 0 r d) * k (ix4 0 0 c d) else ⊥ := by
  pointwise [k0_pay28]
  rw [ofBits_bot, show IntOp.addi (BitVec.ofNat 32 r.val) 512#32 = BitVec.ofNat 32 (r.val + 512) by simp [IntOp.addi, BitVec.ofNat_add]]
  exact mask_select _ _ (by omega) (by omega) _ _

/-- The row maxima the lower chain of a diagonal block leaves. -/
theorem maxDiagB_apply (k : Vec Ideal S1x1x1024x256 .bf16) (q : Vec Ideal S1x1x512x256 .bf16) (m : Vec Ideal S512x128 .f32) (r : Fin 512) (l : Fin 128) :
    maxDiagB k q m (ix2 r l) = max (m (ix2 r l)) (Finset.univ.sup fun c => k0_pay28 k q (ix2 r c)) := by
  rw [← fold_max_bot]
  pointwise [maxDiagB, k0_pay34, k0_pay29]

/-- The row maximum before it is stored. -/
theorem storedDiagB_apply (k : Vec Ideal S1x1x1024x256 .bf16) (q : Vec Ideal S1x1x512x256 .bf16) (m : Vec Ideal S512x128 .f32) (r : Fin 512) (l : Fin 128) :
    k0_pay29 k q m (ix2 r l) = maxDiagB k q m (ix2 r l) := by
  pointwise [maxDiagB, k0_pay34]

/-- The last lines of an update by the lower chain of a diagonal block, for any weights and any rescaling. -/
theorem lastDiagB_apply (al a : FVec Ideal S512x256 .f32) (p : FVec Ideal S512x1024 .bf16) (v : FVec Ideal S1024x256 .bf16) (r : Fin 512) (d : Fin 256) :
    shapeCast S512x256 (addf (mulf al a) (matmul dot_S512x1024_S1024x256_S512x256_1_0_0_1_n_n none p v (constant S512x256 .f32 0x00000000#32)))
      shapeCasts_S512x256_S512x256 (ix2 r d) = al (ix2 r d) * a (ix2 r d) + ∑ c : Fin 1024, p (ix2 r c) * v (ix2 c d) := by
  pointwise

/-- The accumulators the lower chain of a diagonal block leaves. -/
theorem accDiagB_apply (k v : Vec Ideal S1x1x1024x256 .bf16) (q : Vec Ideal S1x1x512x256 .bf16) (m : Vec Ideal S512x128 .f32) (a : Vec Ideal S512x256 .f32) (r : Fin 512) (d : Fin 256) :
    accDiagB k v q m a (ix2 r d) = Ideal.exp2 (m (ix2 r (lane d)) - maxDiagB k q m (ix2 r (lane d))) * a (ix2 r d)
      + ∑ c : Fin 1024, Ideal.exp2 (k0_pay28 k q (ix2 r c) - maxDiagB k q m (ix2 r (lane c))) * v (ix4 0 0 c d) := by
  unfold accDiagB k0_pay33
  refine (lastDiagB_apply _ _ _ _ r d).trans ?_
  simp only [← storedDiagB_apply]
  refine congrArg₂ (· + ·) (congrArg (· * a (ix2 r d)) ?_) (Finset.sum_congr rfl fun c _ => congrArg₂ (· * ·) ?_ ?_)
  · pointwise [k0_pay30]
    split_ifs
    all_goals
      refine weight_congr (X := fun l => m (ix2 r l)) (Y := fun l => k0_pay29 k q m (ix2 r l)) ?_ ?_ <;> try simp only [lane] <;> omega
  · pointwise [k0_pay31, k0_pay32]
    split_ifs
    all_goals
      refine weight_congr (X := fun c => k0_pay28 k q (ix2 r c)) (Y := fun l => k0_pay29 k q m (ix2 r l)) ?_ ?_ <;> try simp only [lane] <;> omega
  · pointwise [k0_pay27]

end Cert.Attn
end
-- ==== Proof.AttnMath.lean ====
module

public import Idealize.ShloMosaic.PureOps.Ideal

/-! The mathematics of one row of attention on the extended reals. `online` is one update of the online softmax: the
running maximum and the accumulated weighted values of the first `n` keys become those of the first `n + k`.
`quotient_eq` says that the quotient of the two accumulated sums is the softmax average, whichever base the weights are
taken in. -/

@[expose] public section

noncomputable section

namespace Cert.Attn

open Idealize.ShloMosaic
open scoped BigOperators

/-- A power of two of anything but plus infinity is a nonnegative finite number. -/
theorem exp2_nonneg_ne_top (x : EReal) (hx : x ≠ ⊤) : 0 ≤ Ideal.exp2 x ∧ Ideal.exp2 x ≠ ⊤ := by
  induction x with
  | bot => simp
  | coe r => rw [Ideal.exp2_coe]; exact ⟨by exact_mod_cast (Real.rpow_nonneg (by norm_num) r), EReal.coe_ne_top _⟩
  | top => exact absurd rfl hx

/-- A nonnegative finite factor distributes over a finite sum of extended reals. -/
theorem mul_sum_of_nonneg {ι : Type} (s : Finset ι) (f : ι → EReal) (c : EReal) (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- A supremum of scores none of which is plus infinity is not plus infinity. -/
theorem sup_ne_top (s : Finset ℕ) (S : ℕ → EReal) (hS : ∀ j, S j ≠ ⊤) : s.sup S ≠ ⊤ := by
  refine (Finset.sup_lt_iff (by exact bot_lt_top)).2 (fun j _ => lt_top_iff_ne_top.2 (hS j)) |>.ne

/-- Rescaling a weight from one maximum to a larger one. -/
theorem exp2_rescale (s M M' : EReal) (h : s ≤ M) (h' : M ≤ M') (ht : M' ≠ ⊤) :
    Ideal.exp2 (M - M') * Ideal.exp2 (s - M) = Ideal.exp2 (s - M') := by
  induction s with
  | bot => simp
  | top => exact absurd (top_le_iff.1 (h.trans h')) ht
  | coe s =>
    induction M with
    | bot => exact absurd (le_bot_iff.1 h) (EReal.coe_ne_bot s)
    | top => exact absurd (top_le_iff.1 h') ht
    | coe M =>
      induction M' with
      | bot => exact absurd (le_bot_iff.1 h') (EReal.coe_ne_bot M)
      | top => exact absurd rfl ht
      | coe M' =>
        rw [← EReal.coe_sub, ← EReal.coe_sub, ← EReal.coe_sub, Ideal.exp2_coe, Ideal.exp2_coe, Ideal.exp2_coe, ← EReal.coe_mul]
        refine congrArg _ ((Real.rpow_add (by norm_num : (0 : ℝ) < 2) _ _).symm.trans ?_)
        rw [show M - M' + (s - M) = s - M' by ring]; rfl

/-- The supremum over the first `n + k` keys. -/
theorem sup_range_add (S : ℕ → EReal) (n k : ℕ) :
    (Finset.range (n + k)).sup S = max ((Finset.range n).sup S) (Finset.univ.sup fun c : Fin k => S (n + c.val)) := by
  refine le_antisymm (Finset.sup_le fun j hj => ?_) (max_le (Finset.sup_mono (Finset.range_mono (Nat.le_add_right n k))) (Finset.sup_le fun c _ => ?_))
  · rw [Finset.mem_range] at hj
    by_cases h : j < n
    · exact le_max_of_le_left (Finset.le_sup (f := S) (Finset.mem_range.2 h))
    · refine le_max_of_le_right ?_
      have := Finset.le_sup (f := fun c : Fin k => S (n + c.val)) (Finset.mem_univ (⟨j - n, by omega⟩ : Fin k))
      simpa [Nat.add_sub_cancel' (Nat.le_of_not_lt h)] using this
  · exact Finset.le_sup (f := S) (Finset.mem_range.2 (by omega))

/-- One update of the online softmax: from the sum over the first `n` keys at their maximum to the sum over the first
    `n + k` at theirs. -/
theorem online (S V : ℕ → EReal) (hS : ∀ j, S j ≠ ⊤) (n k : ℕ) :
    Ideal.exp2 ((Finset.range n).sup S - (Finset.range (n + k)).sup S) * (∑ j ∈ Finset.range n, Ideal.exp2 (S j - (Finset.range n).sup S) * V j)
      + ∑ c : Fin k, Ideal.exp2 (S (n + c.val) - (Finset.range (n + k)).sup S) * V (n + c.val)
    = ∑ j ∈ Finset.range (n + k), Ideal.exp2 (S j - (Finset.range (n + k)).sup S) * V j := by
  have hle : (Finset.range n).sup S ≤ (Finset.range (n + k)).sup S := Finset.sup_mono (Finset.range_mono (Nat.le_add_right n k))
  have hM := sup_ne_top (Finset.range (n + k)) S hS
  have hα : (Finset.range n).sup S - (Finset.range (n + k)).sup S ≠ ⊤ := by
    generalize (Finset.range n).sup S = M at *
    generalize (Finset.range (n + k)).sup S = M' at *
    induction M with
    | bot => simp
    | top => exact absurd (top_le_iff.1 hle) hM
    | coe M =>
      induction M' with
      | bot => exact absurd (le_bot_iff.1 hle) (EReal.coe_ne_bot M)
      | top => exact absurd rfl hM
      | coe M' => rw [← EReal.coe_sub]; exact EReal.coe_ne_top _
  obtain ⟨h0, ht⟩ := exp2_nonneg_ne_top _ hα
  rw [mul_sum_of_nonneg _ _ _ h0 ht, Finset.sum_range_add, Finset.sum_range (f := fun x => Ideal.exp2 (S (n + x) - _) * V (n + x))]
  refine congrArg (· + _) (Finset.sum_congr rfl fun j hj => ?_)
  rw [← mul_assoc, exp2_rescale _ _ _ (Finset.le_sup hj) hle hM]

/-- Keys behind a row weigh nothing, so the sum may run over as many of them as one likes. -/
theorem sum_masked (S V : ℕ → EReal) (M : EReal) (n N : ℕ) (h : n ≤ N) (hm : ∀ j, n ≤ j → S j = ⊥) :
    ∑ j ∈ Finset.range n, Ideal.exp2 (S j - M) * V j = ∑ j ∈ Finset.range N, Ideal.exp2 (S j - M) * V j := by
  refine Finset.sum_subset (Finset.range_mono h) fun j _ hj => ?_
  rw [hm j (by simpa using hj)]; simp
theorem sup_masked (S : ℕ → EReal) (n N : ℕ) (h : n ≤ N) (hm : ∀ j, n ≤ j → S j = ⊥) :
    (Finset.range n).sup S = (Finset.range N).sup S := by
  refine le_antisymm (Finset.sup_mono (Finset.range_mono h)) (Finset.sup_le fun j hj => ?_)
  by_cases h' : j < n
  · exact Finset.le_sup (f := S) (Finset.mem_range.2 h')
  · rw [hm j (by omega)]; exact bot_le

/-- Scores in base `e` are those in base two times `log 2`. -/
theorem exp_eq_exp2 (x M : EReal) (hx : x ≠ ⊤) (hM : M ≠ ⊤) (hb : M ≠ ⊥) :
    Ideal.exp (x * (Real.log 2 : ℝ) - M * (Real.log 2 : ℝ)) = Ideal.exp2 (x - M) := by
  induction M with
  | bot => exact absurd rfl hb
  | top => exact absurd rfl hM
  | coe M =>
    induction x with
    | bot => rw [EReal.bot_mul_coe_of_pos (Real.log_pos (by norm_num))]; simp
    | top => exact absurd rfl hx
    | coe x =>
      rw [← EReal.coe_mul, ← EReal.coe_mul, ← EReal.coe_sub, ← EReal.coe_sub, Ideal.exp2_coe, Ideal.exp_coe, ← sub_mul]
      refine congrArg _ (Eq.trans ?_ (Real.rpow_def_of_pos (by norm_num : (0 : ℝ) < 2) _).symm)
      rw [mul_comm]

/-- The largest score in base `e` is the largest in base two times `log 2`. -/
theorem sup_scale (s : Finset ℕ) (S : ℕ → EReal) :
    (s.sup fun j => S j * (Real.log 2 : ℝ)) = s.sup S * (Real.log 2 : ℝ) := by
  have hl : (0 : ℝ) < Real.log 2 := Real.log_pos (by norm_num)
  refine (Finset.comp_sup_eq_sup_comp_of_is_total (fun x : EReal => x * (Real.log 2 : ℝ)) ?_ ?_).symm
  · intro a b h; exact mul_le_mul_of_nonneg_right h (by exact_mod_cast hl.le)
  · exact EReal.bot_mul_coe_of_pos hl

/-- The quotient of the accumulated values by the accumulated weights is the softmax average of the values: `S` are the
    scores in base two, masked by minus infinity, with at least one finite; the values are any extended reals. -/
theorem quotient_eq (S V : ℕ → EReal) (hS : ∀ j, S j ≠ ⊤) (N i : ℕ) (hi : i < N) (hf : S i ≠ ⊥) :
    Ideal.div (∑ j ∈ Finset.range N, Ideal.exp2 (S j - (Finset.range N).sup S) * V j)
        (∑ j ∈ Finset.range N, Ideal.exp2 (S j - (Finset.range N).sup S))
      = ∑ j ∈ Finset.range N, Ideal.div (Ideal.exp (S j * (Real.log 2 : ℝ) - (Finset.range N).sup fun j => S j * (Real.log 2 : ℝ)))
          (∑ j ∈ Finset.range N, Ideal.exp (S j * (Real.log 2 : ℝ) - (Finset.range N).sup fun j => S j * (Real.log 2 : ℝ))) * V j := by
  have hM := sup_ne_top (Finset.range N) S hS
  have hle : S i ≤ (Finset.range N).sup S := Finset.le_sup (Finset.mem_range.2 hi)
  have hb : (Finset.range N).sup S ≠ ⊥ := fun h => hf (le_bot_iff.1 (h ▸ hle))
  rw [sup_scale]
  simp only [fun j => exp_eq_exp2 (S j) _ (hS j) hM hb]
  generalize hMM : (Finset.range N).sup S = M at *
  have hne : ∀ j, S j - M ≠ ⊤ := fun j => by
    induction M with
    | bot => exact absurd rfl hb
    | top => exact absurd rfl hM
    | coe M =>
      have := hS j
      induction h : S j with
      | bot => simp
      | top => exact absurd h this
      | coe x => rw [← EReal.coe_sub]; exact EReal.coe_ne_top _
  have hreal : ∀ j, ∃ w : ℝ, 0 ≤ w ∧ Ideal.exp2 (S j - M) = (w : EReal) := fun j => by
    obtain ⟨h0, ht⟩ := exp2_nonneg_ne_top _ (hne j)
    refine ⟨(Ideal.exp2 (S j - M)).toReal, EReal.toReal_nonneg h0, (EReal.coe_toReal ht (fun h => ?_)).symm⟩
    rw [h] at h0; exact absurd h0 (by simp)
  choose w hw0 hw using hreal
  have hpos : 0 < w i := by
    have h : ((w i : ℝ) : EReal) = Ideal.exp2 (S i - M) := (hw i).symm
    have hSi : ∃ x : ℝ, S i = x := ⟨(S i).toReal, (EReal.coe_toReal (hS i) hf).symm⟩
    have hMr : ∃ x : ℝ, M = x := ⟨M.toReal, (EReal.coe_toReal hM hb).symm⟩
    obtain ⟨x, hx⟩ := hSi; obtain ⟨y, hy⟩ := hMr
    rw [hx, hy, ← EReal.coe_sub, Ideal.exp2_coe] at h
    rw [EReal.coe_eq_coe_iff.1 h]; exact Real.rpow_pos_of_pos (by norm_num) _
  have hl : 0 < ∑ j ∈ Finset.range N, w j :=
    lt_of_lt_of_le hpos (Finset.single_le_sum (f := w) (fun j _ => hw0 j) (Finset.mem_range.2 hi))
  have hsum : ∑ j ∈ Finset.range N, Ideal.exp2 (S j - M) = ((∑ j ∈ Finset.range N, w j : ℝ) : EReal) := by
    rw [Finset.sum_congr rfl fun j _ => hw j]
    exact (map_sum (⟨⟨Real.toEReal, EReal.coe_zero⟩, EReal.coe_add⟩ : ℝ →+ EReal) w _).symm
  have hz : ((∑ j ∈ Finset.range N, w j : ℝ) : EReal) ≠ 0 := by
    exact_mod_cast hl.ne'
  rw [hsum]
  have hdiv : ∀ x : EReal, Ideal.div x ((∑ j ∈ Finset.range N, w j : ℝ) : EReal) = ((∑ j ∈ Finset.range N, w j)⁻¹ : ℝ) * x := fun x => by
    unfold Ideal.div; rw [if_neg hz, mul_comm, ← EReal.coe_inv]
  simp only [hdiv]
  rw [mul_sum_of_nonneg _ _ _ (by exact_mod_cast (inv_pos.2 hl).le) (EReal.coe_ne_top _)]
  exact Finset.sum_congr rfl fun j _ => (mul_assoc _ _ _).symm

end Cert.Attn
end
-- ==== Proof.AttnInv.lean ====
module

public import proofs.«01_k».proof.Proof.AttnRun
public import proofs.«01_k».proof.Proof.AttnRead
public import proofs.«01_k».proof.Proof.AttnMath

/-! The invariant of the fourteen updates. `RowInv` says that a row of the scratch arrays holds the largest score of the
row among the first `n` keys (those behind the row masked), and the values of these keys weighted by the powers of two of
their scores less that largest. Each update takes its rows from the first `n` keys to the first `n + k`, and leaves the
other rows alone; after all fourteen every row has seen every key up to itself. -/

@[expose] public section

set_option maxRecDepth 16384

noncomputable section

namespace Cert.Attn

open Cert.KernelIdeal Cert.KernelIdeal.Gen
open Idealize.ShloMosaic
open scoped BigOperators

/-- The score of key `j` for row `r`, minus infinity for a key behind the row. -/
def score (x0 x1 : Vec Ideal S1x1x4096x256 .bf16) (r : Fin 4096) (j : ℕ) : EReal :=
  if h : j < 4096 then (if j ≤ r.val then ∑ d : Fin 256, x0 (ix4 0 0 r d) * x1 (ix4 0 0 ⟨j, h⟩ d) else ⊥) else ⊥

/-- Column `d` of the value of key `j`. -/
def value (x2 : Vec Ideal S1x1x4096x256 .bf16) (d : Fin 256) (j : ℕ) : EReal :=
  if h : j < 4096 then x2 (ix4 0 0 ⟨j, h⟩ d) else 0

/-- Row `r` of the scratch arrays holds the maximum and the weighted values of the first `n` keys. -/
def RowInv (x0 x1 x2 : Vec Ideal S1x1x4096x256 .bf16) (s : St Ideal) (r : Fin 4096) (n : ℕ) : Prop :=
  (∀ l : Fin 128, s.1 (ix2 r l) = (Finset.range n).sup (score x0 x1 r)) ∧
  ∀ d : Fin 256, s.2 (ix2 r d) = ∑ j ∈ Finset.range n, Ideal.exp2 (score x0 x1 r j - (Finset.range n).sup (score x0 x1 r)) * value x2 d j

variable (x0 x1 x2 : Vec Ideal S1x1x4096x256 .bf16)

/-- The scratch arrays as initialised have seen no key. -/
theorem rowInv_start (r : Fin 4096) : RowInv x0 x1 x2 start r 0 := by
  refine ⟨fun l => ?_, fun d => ?_⟩
  · show k0_pay14 (F := Ideal) (ix2 r l) = _
    rw [Finset.range_zero, Finset.sup_empty]
    pointwise [k0_pay14]
    exact ofBits_bot
  · show k0_pay15 (F := Ideal) (ix2 r d) = _
    rw [Finset.range_zero, Finset.sum_empty]
    pointwise [k0_pay15]

/-- One update of a row. -/
theorem rowInv_step (r : Fin 4096) (hS : ∀ j, score x0 x1 r j ≠ ⊤) (s s' : St Ideal) (n k : ℕ) (h : RowInv x0 x1 x2 s r n)
    (T : Fin k → EReal) (hT : ∀ c, T c = score x0 x1 r (n + c.val))
    (hm : ∀ l : Fin 128, s'.1 (ix2 r l) = max (s.1 (ix2 r l)) (Finset.univ.sup T))
    (ha : ∀ d : Fin 256, s'.2 (ix2 r d) = Ideal.exp2 (s.1 (ix2 r (lane d)) - s'.1 (ix2 r (lane d))) * s.2 (ix2 r d)
      + ∑ c : Fin k, Ideal.exp2 (T c - s'.1 (ix2 r (lane c))) * value x2 d (n + c.val)) : RowInv x0 x1 x2 s' r (n + k) := by
  have hT' : T = fun c => score x0 x1 r (n + c.val) := funext hT
  have hm' : ∀ l : Fin 128, s'.1 (ix2 r l) = (Finset.range (n + k)).sup (score x0 x1 r) := fun l => by
    rw [hm l, h.1 l, sup_range_add, hT']
  refine ⟨hm', fun d => ?_⟩
  rw [ha d, h.1, h.2]
  simp only [hm', hT]
  exact online (score x0 x1 r) (value x2 d) hS n k

/-- A window of 512 rows of a block, at row `o`. -/
theorem window4_512 (x : Vec Ideal S1x1x4096x256 .bf16) (o : ℕ) (h : ∀ a, (![0, 0, o, 0] : Fin 4 → ℕ) a + S1x1x512x256.size a ≤ S1x1x4096x256.size a)
    (c : Fin 512) (d : Fin 256) (hc : o + c.val < 4096) :
    VecWindow.window x ![0, 0, o, 0] S1x1x512x256.size h (ix4 0 0 c d) = x (ix4 0 0 ⟨o + c.val, hc⟩ d) := by
  refine congrArg x (funext fun a => Fin.ext ?_)
  fin_cases a
  · rfl
  · rfl
  · show o + 1 * c.val = o + c.val; omega
  · show 0 + 1 * d.val = d.val; omega

theorem window2_512_128 (x : Vec Ideal S4096x128 .f32) (o : ℕ) (h : ∀ a, (![o, 0] : Fin 2 → ℕ) a + S512x128.size a ≤ S4096x128.size a)
    (c : Fin 512) (d : Fin 128) (r : Fin 4096) (hr : r.val = o + c.val) :
    VecWindow.window x ![o, 0] S512x128.size h (ix2 c d) = x (ix2 r d) := by
  refine congrArg x (funext fun a => Fin.ext ?_)
  fin_cases a
  · show o + 1 * c.val = r.val; omega
  · show 0 + 1 * d.val = d.val; omega
theorem put_in_512_128 (x : Vec Ideal S4096x128 .f32) (o : ℕ) (w : Vec Ideal S512x128 .f32)
    (c : Fin 512) (d : Fin 128) (r : Fin 4096) (hr : r.val = o + c.val) :
    VecWindow.put x ![o, 0] S512x128.size w (ix2 r d) = w (ix2 c d) := by
  have hm : ∀ a : Fin 2, (![o, 0] : Fin 2 → ℕ) a ≤ ((ix2 r d : S4096x128.Idx) a).val ∧ ((ix2 r d : S4096x128.Idx) a).val < (![o, 0] : Fin 2 → ℕ) a + S512x128.size a := by
    intro a; fin_cases a
    · show o ≤ r.val ∧ r.val < o + 512; omega
    · show 0 ≤ d.val ∧ d.val < 0 + 128; omega
  unfold VecWindow.put
  rw [dif_pos hm]
  refine congrArg w (funext fun a => Fin.ext ?_)
  fin_cases a
  · show r.val - o = c.val; omega
  · show d.val - 0 = d.val; omega
theorem put_out_512_128 (x : Vec Ideal S4096x128 .f32) (o : ℕ) (w : Vec Ideal S512x128 .f32)
    (d : Fin 128) (r : Fin 4096) (hr : r.val < o ∨ o + 512 ≤ r.val) :
    VecWindow.put x ![o, 0] S512x128.size w (ix2 r d) = x (ix2 r d) := by
  unfold VecWindow.put
  rw [dif_neg]
  intro hm
  have h0 : o ≤ r.val ∧ r.val < o + 512 := hm 0
  omega

theorem window2_512_256 (x : Vec Ideal S4096x256 .f32) (o : ℕ) (h : ∀ a, (![o, 0] : Fin 2 → ℕ) a + S512x256.size a ≤ S4096x256.size a)
    (c : Fin 512) (d : Fin 256) (r : Fin 4096) (hr : r.val = o + c.val) :
    VecWindow.window x ![o, 0] S512x256.size h (ix2 c d) = x (ix2 r d) := by
  refine congrArg x (funext fun a => Fin.ext ?_)
  fin_cases a
  · show o + 1 * c.val = r.val; omega
  · show 0 + 1 * d.val = d.val; omega
theorem put_in_512_256 (x : Vec Ideal S4096x256 .f32) (o : ℕ) (w : Vec Ideal S512x256 .f32)
    (c : Fin 512) (d : Fin 256) (r : Fin 4096) (hr : r.val = o + c.val) :
    VecWindow.put x ![o, 0] S512x256.size w (ix2 r d) = w (ix2 c d) := by
  have hm : ∀ a : Fin 2, (![o, 0] : Fin 2 → ℕ) a ≤ ((ix2 r d : S4096x256.Idx) a).val ∧ ((ix2 r d : S4096x256.Idx) a).val < (![o, 0] : Fin 2 → ℕ) a + S512x256.size a := by
    intro a; fin_cases a
    · show o ≤ r.val ∧ r.val < o + 512; omega
    · show 0 ≤ d.val ∧ d.val < 0 + 256; omega
  unfold VecWindow.put
  rw [dif_pos hm]
  refine congrArg w (funext fun a => Fin.ext ?_)
  fin_cases a
  · show r.val - o = c.val; omega
  · show d.val - 0 = d.val; omega
theorem put_out_512_256 (x : Vec Ideal S4096x256 .f32) (o : ℕ) (w : Vec Ideal S512x256 .f32)
    (d : Fin 256) (r : Fin 4096) (hr : r.val < o ∨ o + 512 ≤ r.val) :
    VecWindow.put x ![o, 0] S512x256.size w (ix2 r d) = x (ix2 r d) := by
  unfold VecWindow.put
  rw [dif_neg]
  intro hm
  have h0 : o ≤ r.val ∧ r.val < o + 512 := hm 0
  omega

/-- A window of 1024 rows of a block, at row `o`. -/
theorem window4_1024 (x : Vec Ideal S1x1x4096x256 .bf16) (o : ℕ) (h : ∀ a, (![0, 0, o, 0] : Fin 4 → ℕ) a + S1x1x1024x256.size a ≤ S1x1x4096x256.size a)
    (c : Fin 1024) (d : Fin 256) (hc : o + c.val < 4096) :
    VecWindow.window x ![0, 0, o, 0] S1x1x1024x256.size h (ix4 0 0 c d) = x (ix4 0 0 ⟨o + c.val, hc⟩ d) := by
  refine congrArg x (funext fun a => Fin.ext ?_)
  fin_cases a
  · rfl
  · rfl
  · show o + 1 * c.val = o + c.val; omega
  · show 0 + 1 * d.val = d.val; omega

theorem window2_1024_128 (x : Vec Ideal S4096x128 .f32) (o : ℕ) (h : ∀ a, (![o, 0] : Fin 2 → ℕ) a + S1024x128.size a ≤ S4096x128.size a)
    (c : Fin 1024) (d : Fin 128) (r : Fin 4096) (hr : r.val = o + c.val) :
    VecWindow.window x ![o, 0] S1024x128.size h (ix2 c d) = x (ix2 r d) := by
  refine congrArg x (funext fun a => Fin.ext ?_)
  fin_cases a
  · show o + 1 * c.val = r.val; omega
  · show 0 + 1 * d.val = d.val; omega
theorem put_in_1024_128 (x : Vec Ideal S4096x128 .f32) (o : ℕ) (w : Vec Ideal S1024x128 .f32)
    (c : Fin 1024) (d : Fin 128) (r : Fin 4096) (hr : r.val = o + c.val) :
    VecWindow.put x ![o, 0] S1024x128.size w (ix2 r d) = w (ix2 c d) := by
  have hm : ∀ a : Fin 2, (![o, 0] : Fin 2 → ℕ) a ≤ ((ix2 r d : S4096x128.Idx) a).val ∧ ((ix2 r d : S4096x128.Idx) a).val < (![o, 0] : Fin 2 → ℕ) a + S1024x128.size a := by
    intro a; fin_cases a
    · show o ≤ r.val ∧ r.val < o + 1024; omega
    · show 0 ≤ d.val ∧ d.val < 0 + 128; omega
  unfold VecWindow.put
  rw [dif_pos hm]
  refine congrArg w (funext fun a => Fin.ext ?_)
  fin_cases a
  · show r.val - o = c.val; omega
  · show d.val - 0 = d.val; omega
theorem put_out_1024_128 (x : Vec Ideal S4096x128 .f32) (o : ℕ) (w : Vec Ideal S1024x128 .f32)
    (d : Fin 128) (r : Fin 4096) (hr : r.val < o ∨ o + 1024 ≤ r.val) :
    VecWindow.put x ![o, 0] S1024x128.size w (ix2 r d) = x (ix2 r d) := by
  unfold VecWindow.put
  rw [dif_neg]
  intro hm
  have h0 : o ≤ r.val ∧ r.val < o + 1024 := hm 0
  omega

theorem window2_1024_256 (x : Vec Ideal S4096x256 .f32) (o : ℕ) (h : ∀ a, (![o, 0] : Fin 2 → ℕ) a + S1024x256.size a ≤ S4096x256.size a)
    (c : Fin 1024) (d : Fin 256) (r : Fin 4096) (hr : r.val = o + c.val) :
    VecWindow.window x ![o, 0] S1024x256.size h (ix2 c d) = x (ix2 r d) := by
  refine congrArg x (funext fun a => Fin.ext ?_)
  fin_cases a
  · show o + 1 * c.val = r.val; omega
  · show 0 + 1 * d.val = d.val; omega
theorem put_in_1024_256 (x : Vec Ideal S4096x256 .f32) (o : ℕ) (w : Vec Ideal S1024x256 .f32)
    (c : Fin 1024) (d : Fin 256) (r : Fin 4096) (hr : r.val = o + c.val) :
    VecWindow.put x ![o, 0] S1024x256.size w (ix2 r d) = w (ix2 c d) := by
  have hm : ∀ a : Fin 2, (![o, 0] : Fin 2 → ℕ) a ≤ ((ix2 r d : S4096x256.Idx) a).val ∧ ((ix2 r d : S4096x256.Idx) a).val < (![o, 0] : Fin 2 → ℕ) a + S1024x256.size a := by
    intro a; fin_cases a
    · show o ≤ r.val ∧ r.val < o + 1024; omega
    · show 0 ≤ d.val ∧ d.val < 0 + 256; omega
  unfold VecWindow.put
  rw [dif_pos hm]
  refine congrArg w (funext fun a => Fin.ext ?_)
  fin_cases a
  · show r.val - o = c.val; omega
  · show d.val - 0 = d.val; omega
theorem put_out_1024_256 (x : Vec Ideal S4096x256 .f32) (o : ℕ) (w : Vec Ideal S1024x256 .f32)
    (d : Fin 256) (r : Fin 4096) (hr : r.val < o ∨ o + 1024 ≤ r.val) :
    VecWindow.put x ![o, 0] S1024x256.size w (ix2 r d) = x (ix2 r d) := by
  unfold VecWindow.put
  rw [dif_neg]
  intro hm
  have h0 : o ≤ r.val ∧ r.val < o + 1024 := hm 0
  omega

/-- An update by an off-diagonal block: its rows go on by 1024 keys, -/
theorem toFull_in (hS : ∀ r j, score x0 x1 r j ≠ ⊤) (kb qb : ℕ) (hqk : kb + 1024 ≤ qb) (hk hq hm ha) (s : St Ideal) (r : Fin 4096) (h1 : qb ≤ r.val) (h2 : r.val < qb + 1024)
    (h : RowInv x0 x1 x2 s r kb) : RowInv x0 x1 x2 (toFull x0 x1 x2 ![0, 0, kb, 0] hk ![0, 0, qb, 0] hq ![qb, 0] hm ha s) r (kb + 1024) := by
  have hkb : kb + 1024 ≤ 4096 := hk 2
  obtain ⟨c, hc⟩ : ∃ c : Fin 1024, r.val = qb + c.val := ⟨⟨r.val - qb, by omega⟩, by show r.val = qb + (r.val - qb); omega⟩
  have e1 : ∀ l : Fin 128, (toFull x0 x1 x2 ![0, 0, kb, 0] hk ![0, 0, qb, 0] hq ![qb, 0] hm ha s).1 (ix2 r l)
      = maxFull (VecWindow.window x1 ![0, 0, kb, 0] S1x1x1024x256.size hk) (VecWindow.window x0 ![0, 0, qb, 0] S1x1x1024x256.size hq)
          (VecWindow.window s.1 ![qb, 0] S1024x128.size hm) (ix2 c l) := fun l => put_in_1024_128 _ _ _ c l r hc
  refine rowInv_step x0 x1 x2 r (hS r) s _ kb 1024 h
    (fun j => k0_pay37 (k0_pay35 (VecWindow.window x1 ![0, 0, kb, 0] S1x1x1024x256.size hk)) (VecWindow.window x0 ![0, 0, qb, 0] S1x1x1024x256.size hq) (ix2 c j)) (fun j => ?_) (fun l => ?_) (fun d => ?_)
  · rw [scoreFull_apply]
    have hj : kb + j.val < 4096 := by omega
    unfold Cert.Attn.score
    rw [dif_pos hj]
    simp only [window4_1024 x0 qb hq c _ (by omega), window4_1024 x1 kb hk j _ hj]
    simp only [show (⟨qb + c.val, by omega⟩ : Fin 4096) = r from Fin.ext hc.symm]
    rw [if_pos (by omega)]
  · rw [e1, maxFull_apply, window2_1024_128 s.1 qb hm c l r hc]
  · rw [show (toFull x0 x1 x2 ![0, 0, kb, 0] hk ![0, 0, qb, 0] hq ![qb, 0] hm ha s).2 (ix2 r d) = _ from put_in_1024_256 _ _ _ c d r hc,
      accFull_apply]
    simp only [e1, window2_1024_128 s.1 qb hm c _ r hc, window2_1024_256 s.2 qb ha c _ r hc]
    refine congrArg₂ (· + ·) rfl (Finset.sum_congr rfl fun j _ => congrArg₂ (· * ·) rfl ?_)
    have hj : kb + j.val < 4096 := by omega
    rw [window4_1024 x2 kb hk j d hj]
    unfold value; rw [dif_pos hj]
/-- and the other rows stay. -/
theorem toFull_out (kb qb : ℕ) (hk hq hm ha) (s : St Ideal) (r : Fin 4096) (n : ℕ) (h' : r.val < qb ∨ qb + 1024 ≤ r.val)
    (h : RowInv x0 x1 x2 s r n) : RowInv x0 x1 x2 (toFull x0 x1 x2 ![0, 0, kb, 0] hk ![0, 0, qb, 0] hq ![qb, 0] hm ha s) r n :=
  ⟨fun l => (put_out_1024_128 _ _ _ l r h').trans (h.1 l), fun d => (put_out_1024_256 _ _ _ d r h').trans (h.2 d)⟩

/-- An update by the upper chain of a diagonal block: its rows go on by 512 keys, -/
theorem toDiagA_in (hS : ∀ r j, score x0 x1 r j ≠ ⊤) (kb qb : ℕ) (hqk : qb = kb) (hk hq hm ha) (s : St Ideal) (r : Fin 4096) (h1 : qb ≤ r.val) (h2 : r.val < qb + 512)
    (h : RowInv x0 x1 x2 s r kb) : RowInv x0 x1 x2 (toDiagA x0 x1 x2 ![0, 0, kb, 0] hk ![0, 0, qb, 0] hq ![qb, 0] hm ha s) r (kb + 512) := by
  have hkb : kb + 512 ≤ 4096 := hk 2
  obtain ⟨c, hc⟩ : ∃ c : Fin 512, r.val = qb + c.val := ⟨⟨r.val - qb, by omega⟩, by show r.val = qb + (r.val - qb); omega⟩
  have e1 : ∀ l : Fin 128, (toDiagA x0 x1 x2 ![0, 0, kb, 0] hk ![0, 0, qb, 0] hq ![qb, 0] hm ha s).1 (ix2 r l)
      = maxDiagA (VecWindow.window x1 ![0, 0, kb, 0] S1x1x512x256.size hk) (VecWindow.window x0 ![0, 0, qb, 0] S1x1x512x256.size hq)
          (VecWindow.window s.1 ![qb, 0] S512x128.size hm) (ix2 c l) := fun l => put_in_512_128 _ _ _ c l r hc
  refine rowInv_step x0 x1 x2 r (hS r) s _ kb 512 h
    (fun j => k0_pay21 (VecWindow.window x1 ![0, 0, kb, 0] S1x1x512x256.size hk) (VecWindow.window x0 ![0, 0, qb, 0] S1x1x512x256.size hq) (ix2 c j)) (fun j => ?_) (fun l => ?_) (fun d => ?_)
  · rw [scoreDiagA_apply]
    have hj : kb + j.val < 4096 := by omega
    unfold Cert.Attn.score
    rw [dif_pos hj]
    simp only [window4_512 x0 qb hq c _ (by omega), window4_512 x1 kb hk j _ hj]
    simp only [show (⟨qb + c.val, by omega⟩ : Fin 4096) = r from Fin.ext hc.symm]
    exact if_congr (by omega) rfl rfl
  · rw [e1, maxDiagA_apply, window2_512_128 s.1 qb hm c l r hc]
  · rw [show (toDiagA x0 x1 x2 ![0, 0, kb, 0] hk ![0, 0, qb, 0] hq ![qb, 0] hm ha s).2 (ix2 r d) = _ from put_in_512_256 _ _ _ c d r hc,
      accDiagA_apply]
    simp only [e1, window2_512_128 s.1 qb hm c _ r hc, window2_512_256 s.2 qb ha c _ r hc]
    refine congrArg₂ (· + ·) rfl (Finset.sum_congr rfl fun j _ => congrArg₂ (· * ·) rfl ?_)
    have hj : kb + j.val < 4096 := by omega
    rw [window4_512 x2 kb hk j d hj]
    unfold value; rw [dif_pos hj]
/-- and the other rows stay. -/
theorem toDiagA_out (kb qb : ℕ) (hk hq hm ha) (s : St Ideal) (r : Fin 4096) (n : ℕ) (h' : r.val < qb ∨ qb + 512 ≤ r.val)
    (h : RowInv x0 x1 x2 s r n) : RowInv x0 x1 x2 (toDiagA x0 x1 x2 ![0, 0, kb, 0] hk ![0, 0, qb, 0] hq ![qb, 0] hm ha s) r n :=
  ⟨fun l => (put_out_512_128 _ _ _ l r h').trans (h.1 l), fun d => (put_out_512_256 _ _ _ d r h').trans (h.2 d)⟩

/-- An update by the lower chain of a diagonal block: its rows go on by 1024 keys, -/
theorem toDiagB_in (hS : ∀ r j, score x0 x1 r j ≠ ⊤) (kb qb : ℕ) (hqk : qb = kb + 512) (hk hq hm ha) (s : St Ideal) (r : Fin 4096) (h1 : qb ≤ r.val) (h2 : r.val < qb + 512)
    (h : RowInv x0 x1 x2 s r kb) : RowInv x0 x1 x2 (toDiagB x0 x1 x2 ![0, 0, kb, 0] hk ![0, 0, qb, 0] hq ![qb, 0] hm ha s) r (kb + 1024) := by
  have hkb : kb + 1024 ≤ 4096 := hk 2
  obtain ⟨c, hc⟩ : ∃ c : Fin 512, r.val = qb + c.val := ⟨⟨r.val - qb, by omega⟩, by show r.val = qb + (r.val - qb); omega⟩
  have e1 : ∀ l : Fin 128, (toDiagB x0 x1 x2 ![0, 0, kb, 0] hk ![0, 0, qb, 0] hq ![qb, 0] hm ha s).1 (ix2 r l)
      = maxDiagB (VecWindow.window x1 ![0, 0, kb, 0] S1x1x1024x256.size hk) (VecWindow.window x0 ![0, 0, qb, 0] S1x1x512x256.size hq)
          (VecWindow.window s.1 ![qb, 0] S512x128.size hm) (ix2 c l) := fun l => put_in_512_128 _ _ _ c l r hc
  refine rowInv_step x0 x1 x2 r (hS r) s _ kb 1024 h
    (fun j => k0_pay28 (VecWindow.window x1 ![0, 0, kb, 0] S1x1x1024x256.size hk) (VecWindow.window x0 ![0, 0, qb, 0] S1x1x512x256.size hq) (ix2 c j)) (fun j => ?_) (fun l => ?_) (fun d => ?_)
  · rw [scoreDiagB_apply]
    have hj : kb + j.val < 4096 := by omega
    unfold Cert.Attn.score
    rw [dif_pos hj]
    simp only [window4_512 x0 qb hq c _ (by omega), window4_1024 x1 kb hk j _ hj]
    simp only [show (⟨qb + c.val, by omega⟩ : Fin 4096) = r from Fin.ext hc.symm]
    exact if_congr (by omega) rfl rfl
  · rw [e1, maxDiagB_apply, window2_512_128 s.1 qb hm c l r hc]
  · rw [show (toDiagB x0 x1 x2 ![0, 0, kb, 0] hk ![0, 0, qb, 0] hq ![qb, 0] hm ha s).2 (ix2 r d) = _ from put_in_512_256 _ _ _ c d r hc,
      accDiagB_apply]
    simp only [e1, window2_512_128 s.1 qb hm c _ r hc, window2_512_256 s.2 qb ha c _ r hc]
    refine congrArg₂ (· + ·) rfl (Finset.sum_congr rfl fun j _ => congrArg₂ (· * ·) rfl ?_)
    have hj : kb + j.val < 4096 := by omega
    rw [window4_1024 x2 kb hk j d hj]
    unfold value; rw [dif_pos hj]
/-- and the other rows stay. -/
theorem toDiagB_out (kb qb : ℕ) (hk hq hm ha) (s : St Ideal) (r : Fin 4096) (n : ℕ) (h' : r.val < qb ∨ qb + 512 ≤ r.val)
    (h : RowInv x0 x1 x2 s r n) : RowInv x0 x1 x2 (toDiagB x0 x1 x2 ![0, 0, kb, 0] hk ![0, 0, qb, 0] hq ![qb, 0] hm ha s) r n :=
  ⟨fun l => (put_out_512_128 _ _ _ l r h').trans (h.1 l), fun d => (put_out_512_256 _ _ _ d r h').trans (h.2 d)⟩

/-- How many keys each half block of 512 rows has seen. -/
def Inv (s : St Ideal) (n : Fin 8 → ℕ) : Prop := ∀ r : Fin 4096, RowInv x0 x1 x2 s r (n ⟨r.val / 512, by omega⟩)

/-- An update by an off-diagonal block, of all rows. -/
theorem inv_full (hS : ∀ r j, score x0 x1 r j ≠ ⊤) {ok : Fin 4 → ℕ} (kb qb : ℕ) (hok : ok = ![0, 0, kb, 0]) (hqk : kb + 1024 ≤ qb) (hk hq hm ha) (s : St Ideal) (n n' : Fin 8 → ℕ)
    (hn : ∀ g : Fin 8, if qb ≤ 512 * g.val ∧ 512 * g.val < qb + 1024 then n g = kb ∧ n' g = kb + 1024 else n' g = n g) (hb : qb % 512 = 0)
    (h : Inv x0 x1 x2 s n) : Inv x0 x1 x2 (toFull x0 x1 x2 ok hk ![0, 0, qb, 0] hq ![qb, 0] hm ha s) n' := fun r => by
  subst hok
  have hg := hn ⟨r.val / 512, by omega⟩
  have hr := h r
  split_ifs at hg with hc <;> simp only at hc
  · rw [hg.1] at hr; rw [hg.2]
    exact toFull_in x0 x1 x2 hS kb qb hqk hk hq hm ha s r (by omega) (by omega) hr
  · rw [hg]
    exact toFull_out x0 x1 x2 kb qb hk hq hm ha s r _ (by omega) hr

/-- An update by a chain of a diagonal block, of all rows. -/
theorem inv_diagA (hS : ∀ r j, score x0 x1 r j ≠ ⊤) {ok : Fin 4 → ℕ} (kb qb : ℕ) (hok : ok = ![0, 0, kb, 0]) (hqk : qb = kb) (hk hq hm ha) (s : St Ideal) (n n' : Fin 8 → ℕ)
    (hn : ∀ g : Fin 8, if 512 * g.val = qb then n g = kb ∧ n' g = kb + 512 else n' g = n g) (hb : qb % 512 = 0)
    (h : Inv x0 x1 x2 s n) : Inv x0 x1 x2 (toDiagA x0 x1 x2 ok hk ![0, 0, qb, 0] hq ![qb, 0] hm ha s) n' := fun r => by
  subst hok
  have hg := hn ⟨r.val / 512, by omega⟩
  have hr := h r
  split_ifs at hg with hc <;> simp only at hc
  · rw [hg.1] at hr; rw [hg.2]
    exact toDiagA_in x0 x1 x2 hS kb qb hqk hk hq hm ha s r (by omega) (by omega) hr
  · rw [hg]
    exact toDiagA_out x0 x1 x2 kb qb hk hq hm ha s r _ (by omega) hr

/-- An update by a chain of a diagonal block, of all rows. -/
theorem inv_diagB (hS : ∀ r j, score x0 x1 r j ≠ ⊤) {ok : Fin 4 → ℕ} (kb qb : ℕ) (hok : ok = ![0, 0, kb, 0]) (hqk : qb = kb + 512) (hk hq hm ha) (s : St Ideal) (n n' : Fin 8 → ℕ)
    (hn : ∀ g : Fin 8, if 512 * g.val = qb then n g = kb ∧ n' g = kb + 1024 else n' g = n g) (hb : qb % 512 = 0)
    (h : Inv x0 x1 x2 s n) : Inv x0 x1 x2 (toDiagB x0 x1 x2 ok hk ![0, 0, qb, 0] hq ![qb, 0] hm ha s) n' := fun r => by
  subst hok
  have hg := hn ⟨r.val / 512, by omega⟩
  have hr := h r
  split_ifs at hg with hc <;> simp only at hc
  · rw [hg.1] at hr; rw [hg.2]
    exact toDiagB_in x0 x1 x2 hS kb qb hqk hk hq hm ha s r (by omega) (by omega) hr
  · rw [hg]
    exact toDiagB_out x0 x1 x2 kb qb hk hq hm ha s r _ (by omega) hr

/-- There is one query block per head, so the offsets of keys and values are the constants. -/
theorem off3_eq (i : grid0.Coords) : k0_off3 i 0#32 = ![0, 0, 0, 0] ∧ k0_off3 i 1024#32 = ![0, 0, 1024, 0]
    ∧ k0_off3 i 2048#32 = ![0, 0, 2048, 0] ∧ k0_off3 i 3072#32 = ![0, 0, 3072, 0] := by
  have h : (i 2).val = 0 := by have := (i 2).isLt; simp at this; omega
  unfold k0_off3; simp only [h]; decide
theorem off4_eq (i : grid0.Coords) : k0_off4 i 0#32 = ![0, 0, 0, 0] ∧ k0_off4 i 1024#32 = ![0, 0, 1024, 0]
    ∧ k0_off4 i 2048#32 = ![0, 0, 2048, 0] ∧ k0_off4 i 3072#32 = ![0, 0, 3072, 0] := by
  have h : (i 2).val = 0 := by have := (i 2).isLt; simp at this; omega
  unfold k0_off4; simp only [h]; decide

/-- After the fourteen updates every half block has seen the keys up to its end. -/
theorem final_inv (hS : ∀ r j, score x0 x1 r j ≠ ⊤) (i : grid0.Coords) :
    Inv x0 x1 x2 (final i x0 x1 x2) ![512, 1024, 1536, 2048, 2560, 3072, 3584, 4096] := by
  obtain ⟨e30, e31, e32, e33⟩ := off3_eq i
  obtain ⟨e40, e41, e42, e43⟩ := off4_eq i
  have h0 : Inv x0 x1 x2 start ![0, 0, 0, 0, 0, 0, 0, 0] := fun r => by
    have hz : (![0, 0, 0, 0, 0, 0, 0, 0] : Fin 8 → ℕ) ⟨r.val / 512, by omega⟩ = 0 :=
      (by decide : ∀ g : Fin 8, (![0, 0, 0, 0, 0, 0, 0, 0] : Fin 8 → ℕ) g = 0) _
    rw [hz]; exact rowInv_start x0 x1 x2 r
  unfold final
  refine inv_diagB x0 x1 x2 hS 3072 3584 e43 (by decide) _ _ _ _ _ ![512, 1024, 1536, 2048, 2560, 3072, 3584, 3072] _ (by decide) (by decide) ?_
  refine inv_diagA x0 x1 x2 hS 3072 3072 e33 (by decide) _ _ _ _ _ ![512, 1024, 1536, 2048, 2560, 3072, 3072, 3072] _ (by decide) (by decide) ?_
  refine inv_full x0 x1 x2 hS 2048 3072 e42 (by decide) _ _ _ _ _ ![512, 1024, 1536, 2048, 2560, 3072, 2048, 2048] _ (by decide) (by decide) ?_
  refine inv_full x0 x1 x2 hS 1024 3072 e41 (by decide) _ _ _ _ _ ![512, 1024, 1536, 2048, 2560, 3072, 1024, 1024] _ (by decide) (by decide) ?_
  refine inv_full x0 x1 x2 hS 0 3072 e40 (by decide) _ _ _ _ _ ![512, 1024, 1536, 2048, 2560, 3072, 0, 0] _ (by decide) (by decide) ?_
  refine inv_diagB x0 x1 x2 hS 2048 2560 e42 (by decide) _ _ _ _ _ ![512, 1024, 1536, 2048, 2560, 2048, 0, 0] _ (by decide) (by decide) ?_
  refine inv_diagA x0 x1 x2 hS 2048 2048 e32 (by decide) _ _ _ _ _ ![512, 1024, 1536, 2048, 2048, 2048, 0, 0] _ (by decide) (by decide) ?_
  refine inv_full x0 x1 x2 hS 1024 2048 e41 (by decide) _ _ _ _ _ ![512, 1024, 1536, 2048, 1024, 1024, 0, 0] _ (by decide) (by decide) ?_
  refine inv_full x0 x1 x2 hS 0 2048 e40 (by decide) _ _ _ _ _ ![512, 1024, 1536, 2048, 0, 0, 0, 0] _ (by decide) (by decide) ?_
  refine inv_diagB x0 x1 x2 hS 1024 1536 e41 (by decide) _ _ _ _ _ ![512, 1024, 1536, 1024, 0, 0, 0, 0] _ (by decide) (by decide) ?_
  refine inv_diagA x0 x1 x2 hS 1024 1024 e31 (by decide) _ _ _ _ _ ![512, 1024, 1024, 1024, 0, 0, 0, 0] _ (by decide) (by decide) ?_
  refine inv_full x0 x1 x2 hS 0 1024 e40 (by decide) _ _ _ _ _ ![512, 1024, 0, 0, 0, 0, 0, 0] _ (by decide) (by decide) ?_
  refine inv_diagB x0 x1 x2 hS 0 512 e40 (by decide) _ _ _ _ _ ![512, 0, 0, 0, 0, 0, 0, 0] _ (by decide) (by decide) ?_
  refine inv_diagA x0 x1 x2 hS 0 0 e30 (by decide) _ _ _ _ _ ![0, 0, 0, 0, 0, 0, 0, 0] _ (by decide) (by decide) ?_
  exact h0

/-- The body's output at a row: the quotient of the weighted values by the weights, over all the keys. -/
theorem quotient_final (hS : ∀ r j, score x0 x1 r j ≠ ⊤) (i : grid0.Coords) (r : Fin 4096) (d : Fin 128) :
    quotient (final i x0 x1 x2).2 (ix2 r d)
      = Ideal.div (∑ j ∈ Finset.range 4096, Ideal.exp2 (score x0 x1 r j - (Finset.range 4096).sup (score x0 x1 r)) * value x2 ⟨d.val, by omega⟩ j)
          (∑ j ∈ Finset.range 4096, Ideal.exp2 (score x0 x1 r j - (Finset.range 4096).sup (score x0 x1 r)) * value x2 ⟨128 + d.val, by omega⟩ j) := by
  obtain ⟨n, hn, hle, hinv⟩ : ∃ n, r.val < n ∧ n ≤ 4096 ∧ RowInv x0 x1 x2 (final i x0 x1 x2) r n := by
    refine ⟨_, ?_, ?_, final_inv x0 x1 x2 hS i r⟩
    · have := (by decide : ∀ g : Fin 8, (![512, 1024, 1536, 2048, 2560, 3072, 3584, 4096] : Fin 8 → ℕ) g = 512 * g.val + 512) ⟨r.val / 512, by omega⟩
      rw [this]; show r.val < 512 * (r.val / 512) + 512; omega
    · exact (by decide : ∀ g : Fin 8, (![512, 1024, 1536, 2048, 2560, 3072, 3584, 4096] : Fin 8 → ℕ) g ≤ 4096) _
  have hmask : ∀ j, n ≤ j → score x0 x1 r j = ⊥ := fun j hj => by
    unfold score; split_ifs with h1 h2
    · omega
    · rfl
    · rfl
  have hq : quotient (final i x0 x1 x2).2 (ix2 r d)
      = Ideal.div ((final i x0 x1 x2).2 (ix2 r (⟨d.val, by omega⟩ : Fin 256))) ((final i x0 x1 x2).2 (ix2 r (⟨128 + d.val, by omega⟩ : Fin 256))) := by
    unfold quotient
    have e0 : VecWindow.window (final i x0 x1 x2).2 ![0, 0] S4096x128.size inb_S4096x256_S4096x128_0_0 (ix2 r d) = (final i x0 x1 x2).2 (ix2 r (⟨d.val, by omega⟩ : Fin 256)) := by
      refine congrArg (final i x0 x1 x2).2 (funext fun a => Fin.ext ?_)
      fin_cases a
      · show 0 + 1 * r.val = r.val; omega
      · show 0 + 1 * d.val = d.val; omega
    have e1 : VecWindow.window (final i x0 x1 x2).2 ![0, 128] S4096x128.size inb_S4096x256_S4096x128_0_128 (ix2 r d) = (final i x0 x1 x2).2 (ix2 r (⟨128 + d.val, by omega⟩ : Fin 256)) := by
      refine congrArg (final i x0 x1 x2).2 (funext fun a => Fin.ext ?_)
      fin_cases a
      · show 0 + 1 * r.val = r.val; omega
      · show 128 + 1 * d.val = 128 + d.val; omega
    rw [← e0, ← e1]
    rfl
  rw [hq, hinv.2, hinv.2, sup_masked _ n 4096 hle hmask, sum_masked _ _ _ n 4096 hle hmask, sum_masked _ _ _ n 4096 hle hmask]

end Cert.Attn
end
-- ==== Proof.AttnHost.lean ====
module

public import proofs.«01_k».proof.Proof.AttnLaunch
public import Idealize.ShloMosaic.Lib.Pointwise
public import Idealize.ShloMosaic.Lib.Claim
public import Idealize.ShloMosaic.Lib.StableHlo.RunRead

/-! The operands of the attention call at an index: the queries (scaled) and the keys, each a part without position, a part
with position and a filling of zeros, and the values beside a filling of ones. -/

@[expose] public section

set_option maxRecDepth 16384

noncomputable section

namespace Cert.Attn

open Cert.KernelIdeal Cert.KernelIdeal.Gen
open Idealize.ShloMosaic
open scoped BigOperators

/-- Three parts of a head side by side, heads outside rows. -/
def pack3 (u : FVec Ideal S2x4096x8x128 .f32) (v w : FVec Ideal S2x4096x8x64 .f32) (s : FVec Ideal S2x4096x8x256 .f32) : FVec Ideal S2x8x4096x256 .bf16 :=
  truncf .bf16 (transpose S2x8x4096x256 [0, 2, 1, 3] (mulf (concatenate S2x4096x8x256 3 [⟨S2x4096x8x128, u⟩, ⟨S2x4096x8x64, v⟩, ⟨S2x4096x8x64, w⟩]
    concatenates_S2x4096x8x128_S2x4096x8x64_S2x4096x8x64_S2x4096x8x256_d3) s) transposes_S2x4096x8x256_S2x8x4096x256_0_2_1_3) bitsLt_bf16_f32

/-- The same, unscaled. -/
def pack3' (u : FVec Ideal S2x4096x8x128 .f32) (v w : FVec Ideal S2x4096x8x64 .f32) : FVec Ideal S2x8x4096x256 .bf16 :=
  truncf .bf16 (transpose S2x8x4096x256 [0, 2, 1, 3] (concatenate S2x4096x8x256 3 [⟨S2x4096x8x128, u⟩, ⟨S2x4096x8x64, v⟩, ⟨S2x4096x8x64, w⟩]
    concatenates_S2x4096x8x128_S2x4096x8x64_S2x4096x8x64_S2x4096x8x256_d3) transposes_S2x4096x8x256_S2x8x4096x256_0_2_1_3) bitsLt_bf16_f32

/-- Two parts of a head side by side, heads outside rows. -/
def pack2 (u v : FVec Ideal S2x4096x8x128 .f32) : FVec Ideal S2x8x4096x256 .bf16 :=
  truncf .bf16 (transpose S2x8x4096x256 [0, 2, 1, 3] (concatenate S2x4096x8x256 3 [⟨S2x4096x8x128, u⟩, ⟨S2x4096x8x128, v⟩]
    concatenates_S2x4096x8x128_S2x4096x8x128_S2x4096x8x256_d3) transposes_S2x4096x8x256_S2x8x4096x256_0_2_1_3) bitsLt_bf16_f32

theorem pack3_apply (u : FVec Ideal S2x4096x8x128 .f32) (v w : FVec Ideal S2x4096x8x64 .f32) (s : FVec Ideal S2x4096x8x256 .f32)
    (b : Fin 2) (h : Fin 8) (r : Fin 4096) (d : Fin 256) :
    pack3 u v w s (ix4 b h r d) = pack3' u v w (ix4 b h r d) * s (ix4 b r h d) := by
  pointwise [pack3, pack3']

theorem pack3'_lo (u : FVec Ideal S2x4096x8x128 .f32) (v w : FVec Ideal S2x4096x8x64 .f32) (b : Fin 2) (h : Fin 8) (r : Fin 4096) (d : Fin 128) :
    pack3' u v w (ix4 b h r (⟨d, by omega⟩ : Fin 256)) = u (ix4 b r h d) := by
  pointwise [pack3']

theorem pack3'_mid (u : FVec Ideal S2x4096x8x128 .f32) (v w : FVec Ideal S2x4096x8x64 .f32) (b : Fin 2) (h : Fin 8) (r : Fin 4096) (d : Fin 64) :
    pack3' u v w (ix4 b h r (⟨128 + d, by omega⟩ : Fin 256)) = v (ix4 b r h d) := by
  pointwise [pack3']

theorem pack3'_hi (u : FVec Ideal S2x4096x8x128 .f32) (v w : FVec Ideal S2x4096x8x64 .f32) (b : Fin 2) (h : Fin 8) (r : Fin 4096) (d : Fin 64) :
    pack3' u v w (ix4 b h r (⟨192 + d, by omega⟩ : Fin 256)) = w (ix4 b r h d) := by
  pointwise [pack3']
  rw [dif_neg (by omega), dif_neg (by omega)]
  exact congrArg w (congrArg (ix4 b r h) (Fin.ext (by show 192 + d.val - 128 - 64 = d.val; omega)))

theorem pack2_lo (u v : FVec Ideal S2x4096x8x128 .f32) (b : Fin 2) (h : Fin 8) (r : Fin 4096) (d : Fin 128) :
    pack2 u v (ix4 b h r (⟨d, by omega⟩ : Fin 256)) = u (ix4 b r h d) := by
  pointwise [pack2]

theorem pack2_hi (u v : FVec Ideal S2x4096x8x128 .f32) (b : Fin 2) (h : Fin 8) (r : Fin 4096) (d : Fin 128) :
    pack2 u v (ix4 b h r (⟨128 + d, by omega⟩ : Fin 256)) = v (ix4 b r h d) := by
  pointwise [pack2]

variable (m : (ℓ : Loc nD τ sig) → Buf (Elt Ideal) ℓ) (c : Dev nD)

/-- The filling of zeros. -/
def zeros : FVec Ideal S2x4096x8x64 .f32 := broadcastInDim S2x4096x8x64 ![] bcast_S_S2x4096x8x64 (constant S_ .f32 0x00000000#32)
/-- The filling of ones. -/
def ones : FVec Ideal S2x4096x8x128 .f32 := broadcastInDim S2x4096x8x128 ![] bcast_S_S2x4096x8x128 (constant S_ .f32 0x3F800000#32)
/-- The scale. -/
def scales : FVec Ideal S2x4096x8x256 .f32 :=
  broadcastInDim S2x4096x8x256 ![] bcast_S_S2x4096x8x256
    (Host.divf (constant S_ .f32 0x3F800000#32) (mulf (Host.sqrt (constant S_ .f32 0x43400000#32)) (Host.log (constant S_ .f32 0x40000000#32))))
/-- A key part that all heads share, once per head. -/
def spread (x : FVec Ideal S2x4096x64 .f32) : FVec Ideal S2x4096x8x64 .f32 :=
  broadcastInDim S2x4096x8x64 ![0, 1, 2, 3] bcast_S2x4096x1x64_S2x4096x8x64_0_1_2_3 (broadcastInDim S2x4096x1x64 ![0, 1, 3] bcast_S2x4096x64_S2x4096x1x64_0_1_3 x)

theorem query_eq : V m c main_v12 = pack3 (m (c.tc.loc main_arg0)) (m (c.tc.loc main_arg1)) zeros scales := by
  unfold V
  have h0 : StableHlo.upto (hostOps0 (F := Ideal)) (fun b => m (c, b)) 13 (Proc.tc.devRef main_arg0) = m (c.tc.loc main_arg0) := by after_reads_simp
  have h1 : StableHlo.upto (hostOps0 (F := Ideal)) (fun b => m (c, b)) 13 (Proc.tc.devRef main_arg1) = m (c.tc.loc main_arg1) := by after_reads_simp
  have h2 : StableHlo.upto (hostOps0 (F := Ideal)) (fun b => m (c, b)) 13 (Proc.tc.devRef main_v6) = zeros := by after_reads_simp; rfl
  rw [← h0, ← h1, ← h2]
  after_reads_simp
  rfl

theorem key_eq : V m c main_v15 = pack3' (m (c.tc.loc main_arg2)) (spread (m (c.tc.loc main_arg3))) zeros := by
  unfold V
  have h0 : StableHlo.upto (hostOps0 (F := Ideal)) (fun b => m (c, b)) 18 (Proc.tc.devRef main_arg2) = m (c.tc.loc main_arg2) := by after_reads_simp
  have h1 : StableHlo.upto (hostOps0 (F := Ideal)) (fun b => m (c, b)) 18 (Proc.tc.devRef main_v5) = spread (m (c.tc.loc main_arg3)) := by after_reads_simp; rfl
  have h2 : StableHlo.upto (hostOps0 (F := Ideal)) (fun b => m (c, b)) 18 (Proc.tc.devRef main_v6) = zeros := by after_reads_simp; rfl
  rw [← h0, ← h1, ← h2]
  after_reads_simp
  rfl

theorem value_eq : V m c main_v18 = pack2 (m (c.tc.loc main_arg4)) ones := by
  unfold V
  have h0 : StableHlo.upto (hostOps0 (F := Ideal)) (fun b => m (c, b)) 21 (Proc.tc.devRef main_arg4) = m (c.tc.loc main_arg4) := by after_reads_simp
  have h1 : StableHlo.upto (hostOps0 (F := Ideal)) (fun b => m (c, b)) 21 (Proc.tc.devRef main_v7) = ones := by after_reads_simp; rfl
  rw [← h0, ← h1]
  after_reads_simp
  rfl

theorem zeros_apply (b : Fin 2) (r : Fin 4096) (h : Fin 8) (d : Fin 64) : zeros (ix4 b r h d) = 0 := by
  pointwise [zeros]

theorem ones_apply (b : Fin 2) (r : Fin 4096) (h : Fin 8) (d : Fin 128) : ones (ix4 b r h d) = 1 := by
  pointwise [ones]

theorem spread_apply (x : FVec Ideal S2x4096x64 .f32) (b : Fin 2) (r : Fin 4096) (h : Fin 8) (d : Fin 64) : spread x (ix4 b r h d) = x (ix3 b r d) := by
  pointwise [spread]

theorem scales_apply (b : Fin 2) (r : Fin 4096) (h : Fin 8) (d : Fin 256) : scales (ix4 b r h d) = ((1 / (Real.sqrt 192 * Real.log 2) : ℝ) : EReal) := by
  have h1 : Ideal.ofBits FTy.f32 0x40000000#32 = ((2 : ℝ) : EReal) := by simp [Ideal.ofBits, Ideal.ieee, -EReal.coe_mul]; norm_num
  have h2 : Ideal.ofBits FTy.f32 0x43400000#32 = ((192 : ℝ) : EReal) := by simp [Ideal.ofBits, Ideal.ieee, -EReal.coe_mul]; norm_num
  pointwise [scales]
  rw [h1, h2, Ideal.sqrt_coe, if_neg (by norm_num)]
  rw [show Ideal.log ((2 : ℝ) : EReal) = ((Real.log 2 : ℝ) : EReal) by rw [Ideal.log_coe, if_neg (by norm_num)], ← EReal.coe_mul,
    Ideal.div_coe (mul_ne_zero (by positivity) (Real.log_pos (by norm_num)).ne'), one_mul]

end Cert.Attn

end
-- ==== Proof.AttnRef.lean ====
module

public import proofs.«01_k».proof.Proof.Gen.ReferenceIdeal.Read
public import proofs.«01_k».proof.Proof.AttnMath
public import Idealize.ShloMosaic.Lib.Pointwise
public import Idealize.ShloMosaic.Lib.WordCmp

/-! The reference at an index: its masked score of a query and a key, and its result as the average of the values under
the softmax of the scores. -/

@[expose] public section

set_option maxRecDepth 16384

noncomputable section

namespace Cert.AttnRef

open Cert.ReferenceIdeal Cert.ReferenceIdeal.Read Cert.ReferenceIdeal.Gen
open Idealize.ShloMosaic
open scoped BigOperators

variable (x0 : FVec Ideal S2x4096x8x128 .f32) (x1 : FVec Ideal S2x4096x8x64 .f32) (x2 : FVec Ideal S2x4096x8x128 .f32)
  (x3 : FVec Ideal S2x4096x64 .f32) (x4 : FVec Ideal S2x4096x8x128 .f32)

/-- The inner product of a query and a key, each of a part without position and a part with position. -/
def inner (b : Fin 2) (h : Fin 8) (r j : Fin 4096) : EReal :=
  (∑ k : Fin 128, x0 (ix4 b r h k) * x2 (ix4 b j h k)) + ∑ k : Fin 64, x3 (ix3 b j k) * x1 (ix4 b r h k)

/-- The reference's score of key `j` for query `r`, minus infinity for a key behind the query. -/
def score (b : Fin 2) (h : Fin 8) (r : Fin 4096) (j : ℕ) : EReal :=
  if hj : j < 4096 then (if j ≤ r.val then inner x0 x1 x2 x3 b h r ⟨j, hj⟩ * ((1 / Real.sqrt 192 : ℝ) : EReal) else ⊥) else ⊥

/-- Column `d` of the value of key `j`. -/
def value (b : Fin 2) (h : Fin 8) (d : Fin 128) (j : ℕ) : EReal :=
  if hj : j < 4096 then x4 (ix4 b ⟨j, hj⟩ h d) else 0

/-- The scale of the scores. -/
theorem scale_apply (i : S_.Idx) : val_main_v1 (F := Ideal) i = ((1 / Real.sqrt 192 : ℝ) : EReal) := by
  have h2 : Ideal.ofBits FTy.f32 0x43400000#32 = ((192 : ℝ) : EReal) := by simp [Ideal.ofBits, Ideal.ieee, -EReal.coe_mul]; norm_num
  pointwise [val_main_v1, val_main_v0, val_main_cst, val_main_cst_0]
  rw [h2, Ideal.sqrt_coe, if_neg (by norm_num), Ideal.div_coe (by positivity), one_mul]

/-- The mask on index words. -/
theorem mask_select (a b : ℕ) (ha : a < 4096) (hb : b < 4096) (x y : EReal) :
    Scalar.select (IntOp.cmpi CmpIPredicate.sle (BitVec.ofNat 32 a) (BitVec.ofNat 32 b)) x y = if a ≤ b then x else y := by
  rw [WordCmp.cmpi_sle_ofNat (by norm_num; omega) (by norm_num; omega)]
  by_cases h : a ≤ b <;> simp [Scalar.select, h]

theorem score_apply (b : Fin 2) (h : Fin 8) (r j : Fin 4096) :
    val_main_v14 (F := Ideal) x0 x1 x2 x3 (ix4 b h r j) = score x0 x1 x2 x3 b h r j := by
  rw [val_main_v14_apply, val_main_call0_v1_apply, val_main_v13_apply, val_main_v11_apply, val_main_v12_apply, val_main_v9_apply, val_main_v10_apply,
    val_main_v2_apply, val_main_v2_apply, val_main_v8_apply, val_main_v6_apply, val_main_v7_apply, scale_apply, val_main_v3_apply, val_main_v5_apply, val_main_v4_apply]
  refine (mask_select j.val r.val j.isLt r.isLt _ _).trans ?_
  rw [score, dif_pos j.isLt]
  refine if_congr Iff.rfl ?_ ?_
  · refine congrArg (· * ((1 / Real.sqrt 192 : ℝ) : EReal)) ?_
    refine congrArg₂ (· + ·) (Finset.sum_congr rfl fun k _ => congrArg₂ (· * ·) (congrArg x0 ?_) (congrArg x2 ?_))
      (Finset.sum_congr rfl fun k _ => congrArg₂ (· * ·) (congrArg x3 ?_) (congrArg x1 ?_)) <;>
      (funext a; fin_cases a <;> rfl)
  · rw [val_main_call0_v2_apply, val_main_call0_v0_apply, val_main_cst_1_apply]
    simp [Ideal.ofBits, Ideal.ieee]

theorem fold_max_bot {n : ℕ} (f : Fin n → EReal) : Finset.fold max (Ideal.ofBits FTy.f32 4286578688#32) f Finset.univ = Finset.univ.sup f := by
  rw [show Ideal.ofBits FTy.f32 4286578688#32 = ⊥ by simp [Ideal.ofBits, Ideal.ieee]]; rfl

theorem sup_range (f : ℕ → EReal) : (Finset.univ : Finset (Fin 4096)).sup (fun j => f j) = (Finset.range 4096).sup f := by
  refine le_antisymm (Finset.sup_le fun j _ => Finset.le_sup (f := f) (Finset.mem_range.2 j.isLt)) (Finset.sup_le fun j hj => ?_)
  exact Finset.le_sup (f := fun j : Fin 4096 => f j) (Finset.mem_univ ⟨j, Finset.mem_range.1 hj⟩)

theorem fold_apply (y : FVec Ideal S2x8x4096x4096 .f32) (b : Fin 2) (h : Fin 8) (r : Fin 4096) :
    Host.reduce FloatOps.maximumf y (val_main_cst_2 (F := Ideal)) reducesTo_S2x8x4096x4096_S2x8x4096_d3 h_S_ (ix3 b h r)
      = Finset.univ.sup fun j : Fin 4096 => y (ix4 b h r j) := by
  rw [← fold_max_bot]
  pointwise [val_main_cst_2]

theorem max_apply (b : Fin 2) (h : Fin 8) (r j : Fin 4096) :
    val_main_v19 (F := Ideal) x0 x1 x2 x3 (ix4 b h r j) = (Finset.range 4096).sup (score x0 x1 x2 x3 b h r) := by
  rw [val_main_v19_apply, val_main_v18_apply, val_main_v17_apply]
  have e : idx_main_v18 (idx_main_v19 (ix4 b h r j)) = ix3 b h r := by funext a; fin_cases a <;> rfl
  rw [e, val_main_v15, fold_apply, ← sup_range]
  rw [show val_main_v16 (F := Ideal) (ix3 b h r) = ⊥ by rw [val_main_v16_apply]; simp [val_main_cst_3_apply, Ideal.ofBits, Ideal.ieee]]
  refine (max_eq_right bot_le).trans ?_
  exact Finset.sup_congr rfl fun j _ => score_apply x0 x1 x2 x3 b h r j

theorem exp_apply (b : Fin 2) (h : Fin 8) (r j : Fin 4096) :
    val_main_v21 (F := Ideal) x0 x1 x2 x3 (ix4 b h r j)
      = Ideal.exp (score x0 x1 x2 x3 b h r j - (Finset.range 4096).sup (score x0 x1 x2 x3 b h r)) := by
  rw [val_main_v21_apply, val_main_v20_apply, score_apply, max_apply]; rfl

theorem sum_apply (b : Fin 2) (h : Fin 8) (r j : Fin 4096) :
    val_main_v24 (F := Ideal) x0 x1 x2 x3 (ix4 b h r j)
      = ∑ j ∈ Finset.range 4096, Ideal.exp (score x0 x1 x2 x3 b h r j - (Finset.range 4096).sup (score x0 x1 x2 x3 b h r)) := by
  rw [val_main_v24_apply, val_main_v23_apply, val_main_v22_apply, Finset.sum_range]
  rw [show (val_main_cst_4 (F := Ideal)) (Shape.Idx.first h_S_) = 0 by rw [val_main_cst_4_apply]; simp [Ideal.ofBits, Ideal.ieee], zero_add]
  refine Finset.sum_congr rfl fun k _ => ?_
  rw [← exp_apply]
  exact congrArg _ (by funext a; fin_cases a <;> rfl)

/-- The reference's attention output at a row and a column. -/
theorem result_apply (b : Fin 2) (h : Fin 8) (r : Fin 4096) (d : Fin 128) (i : S8192x1024.Idx) (h0 : (i 0).val = b.val * 4096 + r.val) (h1 : (i 1).val = h.val * 128 + d.val) :
    val_main_v29 (F := Ideal) x0 x1 x2 x3 x4 i
      = ∑ j ∈ Finset.range 4096, Ideal.div (Ideal.exp (score x0 x1 x2 x3 b h r j - (Finset.range 4096).sup (score x0 x1 x2 x3 b h r)))
          (∑ j ∈ Finset.range 4096, Ideal.exp (score x0 x1 x2 x3 b h r j - (Finset.range 4096).sup (score x0 x1 x2 x3 b h r))) * value x4 b h d j := by
  rw [val_main_v29_apply, val_main_v28_apply, val_main_v27_apply, val_main_v26_apply, Finset.sum_range]
  refine Finset.sum_congr rfl fun k _ => ?_
  have hb := b.isLt; have hh := h.isLt; have hr := r.isLt; have hd := d.isLt
  have e : ridx_main_v26 (idx_main_v27 (idx_main_v28 i)) k = ix4 b h r k := by
    funext a; fin_cases a <;> refine Fin.ext ?_
    · show ((i 0).val * 1024 + (i 1).val) / 4194304 = b.val; omega
    · show ((i 0).val * 1024 + (i 1).val) / 128 % 8 = h.val; omega
    · show ((i 0).val * 1024 + (i 1).val) / 1024 % 4096 = r.val; omega
    · rfl
  have e' : lidx_main_v26 (idx_main_v27 (idx_main_v28 i)) k = ix4 b k h d := by
    funext a; fin_cases a <;> refine Fin.ext ?_
    · show ((i 0).val * 1024 + (i 1).val) / 4194304 = b.val; omega
    · rfl
    · show ((i 0).val * 1024 + (i 1).val) / 128 % 8 = h.val; omega
    · show ((i 0).val * 1024 + (i 1).val) % 128 = d.val; omega
  rw [e, e', val_main_v25_apply, exp_apply, sum_apply, mul_comm, value, dif_pos k.isLt]
  rfl

end Cert.AttnRef

end
-- ==== Proof.AttnBlock.lean ====
module

public import proofs.«01_k».proof.Proof.AttnInv
public import proofs.«01_k».proof.Proof.AttnHost
public import proofs.«01_k».proof.Proof.AttnRef

/-! What the attention call computes from one head's packed operands is what the reference computes from the queries, keys
and values of that head. -/

@[expose] public section

set_option maxRecDepth 16384

noncomputable section

namespace Cert.Attn

open Cert.KernelIdeal Cert.KernelIdeal.Gen
open Idealize.ShloMosaic
open scoped BigOperators

/-- A sum of real numbers, taken on the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over a head's packed width, part by part. -/
theorem sum_parts (f : Fin 256 → EReal) :
    ∑ d, f d = ((∑ d : Fin 128, f ⟨d, by omega⟩) + ∑ d : Fin 64, f ⟨128 + d, by omega⟩) + ∑ d : Fin 64, f ⟨192 + d, by omega⟩ := by
  rw [show ∑ d, f d = ∑ d : Fin (128 + 64 + 64), f d from rfl, Fin.sum_univ_add, Fin.sum_univ_add]
  rfl

variable (qn : FVec Ideal S2x4096x8x128 .f32) (qp : FVec Ideal S2x4096x8x64 .f32) (kn : FVec Ideal S2x4096x8x128 .f32)
  (kp : FVec Ideal S2x4096x64 .f32) (v : FVec Ideal S2x4096x8x128 .f32)

/-- For finite queries and keys the inner product is a real number. -/
theorem inner_real (hqn : ∀ i, ∃ x : ℝ, qn i = x) (hqp : ∀ i, ∃ x : ℝ, qp i = x) (hkn : ∀ i, ∃ x : ℝ, kn i = x) (hkp : ∀ i, ∃ x : ℝ, kp i = x)
    (b : Fin 2) (h : Fin 8) (r j : Fin 4096) :
    ∃ x : ℝ, AttnRef.inner qn qp kn kp b h r j = x ∧
      ∑ d : Fin 256, pack3 qn qp zeros scales (ix4 b h r d) * pack3' kn (spread kp) zeros (ix4 b h j d) = ((x * (1 / (Real.sqrt 192 * Real.log 2)) : ℝ) : EReal) := by
  choose qn' hqn using hqn
  choose qp' hqp using hqp
  choose kn' hkn using hkn
  choose kp' hkp using hkp
  refine ⟨(∑ k : Fin 128, qn' (ix4 b r h k) * kn' (ix4 b j h k)) + ∑ k : Fin 64, kp' (ix3 b j k) * qp' (ix4 b r h k), ?_, ?_⟩
  · rw [AttnRef.inner, EReal.coe_add, ← sum_coe, ← sum_coe]
    refine congrArg₂ (· + ·) (Finset.sum_congr rfl fun k _ => ?_) (Finset.sum_congr rfl fun k _ => ?_)
    · rw [hqn, hkn, EReal.coe_mul]
    · rw [hkp, hqp, EReal.coe_mul]
  · rw [sum_parts, add_mul, Finset.sum_mul, Finset.sum_mul, EReal.coe_add, ← sum_coe, ← sum_coe]
    refine Eq.trans (congrArg₂ (· + ·) (congrArg₂ (· + ·) (Finset.sum_congr rfl fun k _ => ?_) (Finset.sum_congr rfl fun k _ => ?_))
      (Finset.sum_eq_zero fun k _ => ?_)) (add_zero _)
    · rw [pack3_apply, pack3'_lo, pack3'_lo, scales_apply, hqn, hkn, ← EReal.coe_mul, ← EReal.coe_mul]
      exact congrArg _ (by ring)
    · rw [pack3_apply, pack3'_mid, pack3'_mid, scales_apply, spread_apply, hqp, hkp, ← EReal.coe_mul, ← EReal.coe_mul]
      exact congrArg _ (by ring)
    · rw [pack3'_hi, zeros_apply, mul_zero]

/-- The attention of one head, from its packed operands, is the reference's. -/
theorem attention_eq (hqn : ∀ i, ∃ x : ℝ, qn i = x) (hqp : ∀ i, ∃ x : ℝ, qp i = x) (hkn : ∀ i, ∃ x : ℝ, kn i = x) (hkp : ∀ i, ∃ x : ℝ, kp i = x)
    (b : Fin 2) (h : Fin 8) (x0 x1 x2 : Vec Ideal S1x1x4096x256 .bf16)
    (e0 : ∀ r d, x0 (ix4 0 0 r d) = pack3 qn qp zeros scales (ix4 b h r d))
    (e1 : ∀ r d, x1 (ix4 0 0 r d) = pack3' kn (spread kp) zeros (ix4 b h r d))
    (e2 : ∀ r d, x2 (ix4 0 0 r d) = pack2 v ones (ix4 b h r d))
    (i : grid0.Coords) (r : Fin 4096) (d : Fin 128) :
    quotient (final i x0 x1 x2).2 (ix2 r d)
      = ∑ j ∈ Finset.range 4096, Ideal.div (Ideal.exp (AttnRef.score qn qp kn kp b h r j - (Finset.range 4096).sup (AttnRef.score qn qp kn kp b h r)))
          (∑ j ∈ Finset.range 4096, Ideal.exp (AttnRef.score qn qp kn kp b h r j - (Finset.range 4096).sup (AttnRef.score qn qp kn kp b h r)))
          * AttnRef.value v b h d j := by
  have hs : ∀ (r : Fin 4096) (j : ℕ) (hj : j < 4096), j ≤ r.val → ∃ x : ℝ, AttnRef.inner qn qp kn kp b h r ⟨j, hj⟩ = x ∧
      score x0 x1 r j = ((x * (1 / (Real.sqrt 192 * Real.log 2)) : ℝ) : EReal) := fun r j hj hr => by
    obtain ⟨x, hx, hy⟩ := inner_real qn qp kn kp hqn hqp hkn hkp b h r ⟨j, hj⟩
    refine ⟨x, hx, ?_⟩
    rw [score, dif_pos hj, if_pos hr, ← hy]
    exact Finset.sum_congr rfl fun d _ => by rw [e0, e1]
  have hl : Real.log 2 ≠ 0 := (Real.log_pos (by norm_num)).ne'
  have hb : ∀ (r : Fin 4096) (j : ℕ), ¬ (j < 4096 ∧ j ≤ r.val) → score x0 x1 r j = ⊥ := fun r j hj => by
    rw [score]; split_ifs with h1 h2
    · exact absurd ⟨h1, h2⟩ hj
    · rfl
    · rfl
  have hne : ∀ r j, score x0 x1 r j ≠ ⊤ := fun r j => by
    by_cases hj : j < 4096 ∧ j ≤ r.val
    · obtain ⟨x, -, hx⟩ := hs r j hj.1 hj.2
      rw [hx]; exact EReal.coe_ne_top _
    · rw [hb r j hj]; exact bot_ne_top
  have hR : ∀ j, score x0 x1 r j * ((Real.log 2 : ℝ) : EReal) = AttnRef.score qn qp kn kp b h r j := fun j => by
    by_cases hj : j < 4096 ∧ j ≤ r.val
    · obtain ⟨x, hx, hy⟩ := hs r j hj.1 hj.2
      rw [hy, AttnRef.score, dif_pos hj.1, if_pos hj.2, hx, ← EReal.coe_mul, ← EReal.coe_mul]
      exact congrArg _ (by field_simp)
    · rw [hb r j hj, EReal.bot_mul_coe_of_pos (Real.log_pos (by norm_num)), AttnRef.score]
      split_ifs with h1 h2
      · exact absurd ⟨h1, h2⟩ hj
      · rfl
      · rfl
  have hv : ∀ j ∈ Finset.range 4096, value x2 ⟨d, by omega⟩ j = AttnRef.value v b h d j := fun j hj => by
    rw [value, AttnRef.value, dif_pos (Finset.mem_range.1 hj), dif_pos (Finset.mem_range.1 hj), e2, pack2_lo]
  have h1 : ∀ j ∈ Finset.range 4096, value x2 ⟨128 + d, by omega⟩ j = 1 := fun j hj => by
    rw [value, dif_pos (Finset.mem_range.1 hj), e2, pack2_hi, ones_apply]
  obtain ⟨x, -, hx⟩ := hs r r.val r.isLt le_rfl
  have hq := quotient_eq (score x0 x1 r) (AttnRef.value v b h d) (hne r) 4096 r.val r.isLt (by rw [hx]; exact EReal.coe_ne_bot _)
  simp only [hR] at hq
  rw [quotient_final x0 x1 x2 hne i r d, ← hq]
  refine congrArg₂ Ideal.div (Finset.sum_congr rfl fun j hj => by rw [hv j hj]) (Finset.sum_congr rfl fun j hj => by rw [h1 j hj, mul_one])

end Cert.Attn

end
-- ==== Proof.AttnValue.lean ====
module

public import proofs.«01_k».proof.Proof.AttnBlock
public import Idealize.ShloMosaic.Lib.Pipeline.ValueKit

/-! The arrays the attention call leaves, as functions of its arguments. -/

@[expose] public section

set_option maxRecDepth 16384

noncomputable section

namespace Cert.Attn

open Cert.KernelIdeal Cert.KernelIdeal.Gen
open Idealize.ShloMosaic Idealize.ShloMosaic.TcCoe Idealize.ShloMosaic.Tactic
open Idealize.ShloMosaic.Pipeline (Dat Cfg Window)
open scoped BigOperators

variable (m : (ℓ : Loc nD τ sig) → Buf (Elt Ideal) ℓ) (c : Dev nD)

theorem idx_0 (t : Fin cfg0.N) : win0_0.index t = ![t.val / 8, t.val % 8, 0, 0] :=
  (by decide +kernel : ∀ t : Fin grid0.N, win0_0.index t = ![t.val / 8, t.val % 8, 0, 0]) t
theorem idx_1 (t : Fin cfg0.N) : win0_1.index t = ![t.val / 8, t.val % 8, 0, 0] :=
  (by decide +kernel : ∀ t : Fin grid0.N, win0_1.index t = ![t.val / 8, t.val % 8, 0, 0]) t
theorem idx_2 (t : Fin cfg0.N) : win0_2.index t = ![t.val / 8, t.val % 8, 0, 0] :=
  (by decide +kernel : ∀ t : Fin grid0.N, win0_2.index t = ![t.val / 8, t.val % 8, 0, 0]) t
theorem idx_3 (t : Fin cfg0.N) : win0_3.index (store6 t) = win0_6.index t :=
  (by decide +kernel : ∀ t : Fin grid0.N, win0_3.index (store6 t) = win0_6.index t) t
theorem idx_4 (t : Fin cfg0.N) : win0_4.index (store7 t) = win0_7.index t :=
  (by decide +kernel : ∀ t : Fin grid0.N, win0_4.index (store7 t) = win0_7.index t) t
theorem idx_5 (t : Fin cfg0.N) : win0_5.index t = ![t.val / 8, t.val % 8] :=
  (by decide +kernel : ∀ t : Fin grid0.N, win0_5.index t = ![t.val / 8, t.val % 8]) t

/-- The batch entry of a point. -/
abbrev pb (t : Fin cfg0.N) : Fin 2 := ⟨t.val / 8, by have := t.isLt; have h : cfg0.N = 16 := rfl; omega⟩
/-- The head of a point. -/
abbrev ph (t : Fin cfg0.N) : Fin 8 := ⟨t.val % 8, by omega⟩

theorem block_0 (t : Fin cfg0.N) (r : Fin 4096) (d : Fin 256) : iblk m c 0 t (ix4 0 0 r d) = V m c main_v12 (ix4 (pb t) (ph t) r d) := by
  blk_ext [iblk, idx_0 t]

theorem block_1 (t : Fin cfg0.N) (r : Fin 4096) (d : Fin 256) : iblk m c 1 t (ix4 0 0 r d) = V m c main_v15 (ix4 (pb t) (ph t) r d) := by
  blk_ext [iblk, idx_1 t]

theorem block_2 (t : Fin cfg0.N) (r : Fin 4096) (d : Fin 256) : iblk m c 2 t (ix4 0 0 r d) = V m c main_v18 (ix4 (pb t) (ph t) r d) := by
  blk_ext [iblk, idx_2 t]

/-- The first rider's array ends as its weights. -/
theorem arr_6 (x : FVec Ideal S1024x2048 .f32) (hx : m (c.tc.loc main_arg5) = x) : (dats m 0 c).arrAt 6 cfg0.N = (truncf .bf16 x bitsLt_bf16_f32 : FVec Ideal S1024x2048 .bf16) := by
  refine (dats m 0 c).arrAt_eq_of_covers 6 _ (by decide +kernel) fun t hf y => ?_
  blk_simp
  rw [after_6]
  rw [← hx, ← V_main_arg5 m c]
  show iblk m c 3 (store6 t) y = V m c main_arg5 _
  blk_ext [iblk, idx_3 t]

/-- The second rider's array ends as its weights. -/
theorem arr_7 (x : FVec Ideal S2048x2048 .f32) (hx : m (c.tc.loc main_arg6) = x) : (dats m 0 c).arrAt 7 cfg0.N = (truncf .bf16 x bitsLt_bf16_f32 : FVec Ideal S2048x2048 .bf16) := by
  refine (dats m 0 c).arrAt_eq_of_covers 7 _ (by decide +kernel) fun t hf y => ?_
  blk_simp
  rw [after_7]
  rw [← hx, ← V_main_arg6 m c]
  show iblk m c 4 (store7 t) y = V m c main_arg6 _
  blk_ext [iblk, idx_4 t]

/-- The attention's array ends as the reference's. -/
theorem arr_5 (qn : FVec Ideal S2x4096x8x128 .f32) (qp : FVec Ideal S2x4096x8x64 .f32) (kn : FVec Ideal S2x4096x8x128 .f32)
    (kp : FVec Ideal S2x4096x64 .f32) (v : FVec Ideal S2x4096x8x128 .f32)
    (e0 : m (c.tc.loc main_arg0) = qn) (e1 : m (c.tc.loc main_arg1) = qp) (e2 : m (c.tc.loc main_arg2) = kn) (e3 : m (c.tc.loc main_arg3) = kp) (e4 : m (c.tc.loc main_arg4) = v)
    (hqn : ∀ i, ∃ x : ℝ, qn i = x) (hqp : ∀ i, ∃ x : ℝ, qp i = x) (hkn : ∀ i, ∃ x : ℝ, kn i = x) (hkp : ∀ i, ∃ x : ℝ, kp i = x) :
    (dats m 0 c).arrAt 5 cfg0.N = Cert.ReferenceIdeal.Read.val_main_v29 (F := Ideal) qn qp kn kp v := by
  refine (dats m 0 c).arrAt_eq_of_covers 5 _ (by decide +kernel) fun t hf y => ?_
  blk_simp
  rw [after_5, AttnRef.result_apply qn qp kn kp v (pb t) (ph t) ⟨(y 0).val, (y 0).isLt⟩ ⟨(y 1).val, (y 1).isLt⟩ _
    (by blk_simp [idx_5 t]) (by blk_simp [idx_5 t])]
  rw [attnOut, ← attention_eq qn qp kn kp v hqn hqp hkn hkp (pb t) (ph t) (iblk m c 0 t) (iblk m c 1 t) (iblk m c 2 t)
    (fun r d => by rw [block_0, query_eq, e0, e1]) (fun r d => by rw [block_1, key_eq, e2, e3]) (fun r d => by rw [block_2, value_eq, e4]) (grid0.coords t)]
  exact congrArg _ (funext fun a => by fin_cases a <;> rfl)

end Cert.Attn

end
-- ==== Proof.lean ====
/- The claim, from the runs: the frames of the kernel and of the reference, and the equality of their results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Calls
public import proofs.«01_k».proof.Proof.Gen.Up
public import proofs.«01_k».proof.Proof.Gen.Up.Skeleton
public import proofs.«01_k».proof.Proof.Gen.Up.Points
public import proofs.«01_k».proof.Proof.Gen.Up.Frame
public import proofs.«01_k».proof.Proof.Gen.Up.Launch
public import proofs.«01_k».proof.Proof.Gen.Up.Value
public import proofs.«01_k».proof.Proof.Gen.UpIdeal
public import proofs.«01_k».proof.Proof.Gen.UpIdeal.Skeleton
public import proofs.«01_k».proof.Proof.Gen.UpIdeal.Points
public import proofs.«01_k».proof.Proof.Gen.UpIdeal.Frame
public import proofs.«01_k».proof.Proof.Gen.UpIdeal.Launch
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.In
public import proofs.«01_k».proof.Proof.Gen.In.Skeleton
public import proofs.«01_k».proof.Proof.Gen.In.Points
public import proofs.«01_k».proof.Proof.Gen.In.Frame
public import proofs.«01_k».proof.Proof.Gen.In.Launch
public import proofs.«01_k».proof.Proof.Gen.InIdeal
public import proofs.«01_k».proof.Proof.Gen.InIdeal.Skeleton
public import proofs.«01_k».proof.Proof.Gen.InIdeal.Points
public import proofs.«01_k».proof.Proof.Gen.InIdeal.Frame
public import proofs.«01_k».proof.Proof.Gen.InIdeal.Launch
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Down
public import proofs.«01_k».proof.Proof.Gen.Down.Skeleton
public import proofs.«01_k».proof.Proof.Gen.Down.Points
public import proofs.«01_k».proof.Proof.Gen.Down.Frame
public import proofs.«01_k».proof.Proof.Gen.Down.Launch
public import proofs.«01_k».proof.Proof.Gen.Down.Value
public import proofs.«01_k».proof.Proof.Gen.DownIdeal
public import proofs.«01_k».proof.Proof.Gen.DownIdeal.Skeleton
public import proofs.«01_k».proof.Proof.Gen.DownIdeal.Points
public import proofs.«01_k».proof.Proof.Gen.DownIdeal.Frame
public import proofs.«01_k».proof.Proof.Gen.DownIdeal.Launch
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Mix
public import proofs.«01_k».proof.Proof.Gen.Mix.Skeleton
public import proofs.«01_k».proof.Proof.Gen.Mix.Points
public import proofs.«01_k».proof.Proof.Gen.Mix.Frame
public import proofs.«01_k».proof.Proof.Gen.Mix.Launch
public import proofs.«01_k».proof.Proof.Gen.Mix.Value
public import proofs.«01_k».proof.Proof.Gen.MixIdeal
public import proofs.«01_k».proof.Proof.Gen.MixIdeal.Skeleton
public import proofs.«01_k».proof.Proof.Gen.MixIdeal.Points
public import proofs.«01_k».proof.Proof.Gen.MixIdeal.Frame
public import proofs.«01_k».proof.Proof.Gen.MixIdeal.Launch
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.AttnLaunch
public import proofs.«01_k».proof.Proof.BitsLaunch
public import proofs.«01_k».proof.Proof.AttnValue
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs to its end, leaves every argument as it was and no counter raised. -/
theorem reference_frame : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run m ρ)

/-- The side conditions of the precondition's operations. -/
theorem pre_facts : Cert.Pre_finite_scores.Facts where
  bcast_S_S2x4096x8x128 := by decide
  bcast_S_S2x4096x8x64 := by decide
  bcast_S_S2x4096x64 := by decide

/-- An extended real that the precondition's test passes is a real number. -/
theorem real_of_test (x : EReal) (h : BitVec.ofBool (decide (FloatOps.absf (F := Ideal) (φ := .f32) x < Ideal.ofBits FTy.f32 0x7F800000#32)) = 1#1) : ∃ y : ℝ, x = y := by
  rw [show FloatOps.absf (F := Ideal) (φ := .f32) x = max x (-x) from rfl] at h
  induction x with
  | bot => simp [Ideal.ofBits, Ideal.ieee] at h
  | coe y => exact ⟨y, rfl⟩
  | top => simp [Ideal.ofBits, Ideal.ieee] at h

instance : Cert.Pre_finite_scores.Facts := pre_facts

section

variable (a : FVec Ideal Cert.KernelIdeal.S2x4096x8x128 .f32) (b : FVec Ideal Cert.KernelIdeal.S2x4096x8x64 .f32)
  (c : FVec Ideal Cert.KernelIdeal.S2x4096x8x128 .f32) (d : FVec Ideal Cert.KernelIdeal.S2x4096x64 .f32)
  (e : FVec Ideal Cert.KernelIdeal.S2x4096x8x128 .f32) (f : FVec Ideal Cert.KernelIdeal.S1024x2048 .f32) (g : FVec Ideal Cert.KernelIdeal.S2048x2048 .f32)

/-- Under the precondition the queries' part without position is finite. -/
theorem finite_0 (h : (Cert.Pre_finite_scores.fn (F := Ideal) a b c d e f g).1 = fun _ => 1#1) (i) : ∃ x : ℝ, a i = x := by
  have := congrFun h i
  pointwise [Cert.Pre_finite_scores.fn] at this
  exact real_of_test _ this

/-- Under the precondition the queries' part with position is finite. -/
theorem finite_1 (h : (Cert.Pre_finite_scores.fn (F := Ideal) a b c d e f g).2.1 = fun _ => 1#1) (i) : ∃ x : ℝ, b i = x := by
  have := congrFun h i
  pointwise [Cert.Pre_finite_scores.fn] at this
  exact real_of_test _ this

/-- Under the precondition the keys' part without position is finite. -/
theorem finite_2 (h : (Cert.Pre_finite_scores.fn (F := Ideal) a b c d e f g).2.2.1 = fun _ => 1#1) (i) : ∃ x : ℝ, c i = x := by
  have := congrFun h i
  pointwise [Cert.Pre_finite_scores.fn] at this
  exact real_of_test _ this

/-- Under the precondition the keys' part with position is finite. -/
theorem finite_3 (h : (Cert.Pre_finite_scores.fn (F := Ideal) a b c d e f g).2.2.2 = fun _ => 1#1) (i) : ∃ x : ℝ, d i = x := by
  have := congrFun h i
  pointwise [Cert.Pre_finite_scores.fn] at this
  exact real_of_test _ this

end

/-- The reference's attention is the array the kernel's attention call leaves. -/
theorem attention (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_finite_scores m)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v29 m' c = (Cert.Attn.dats m 0 c).arrAt 5 Cert.KernelIdeal.cfg0.N := by
  obtain ⟨h0, h1, h2, h3⟩ := hpre c
  have f0 := finite_0 _ _ _ _ _ _ _ h0
  have f1 := finite_1 _ _ _ _ _ _ _ h1
  have f2 := finite_2 _ _ _ _ _ _ _ h2
  have f3 := finite_3 _ _ _ _ _ _ _ h3
  have e := Cert.Attn.arr_5 m c _ _ _ _ _ rfl rfl rfl rfl rfl f0 f1 f2 f3
  rw [e, Cert.ReferenceIdeal.Read.val_main_v29_eq, a0, a1, a2, a3, a4]

/-- Under finite queries and keys the kernel and the reference end with the same results. -/
theorem algebraic : Cert.algebraic_KernelIdeal_ReferenceIdeal_pre_finite_scores := by
  pair_intro
  · run_from Cert.Attn.run m g
  · run_from Cert.ReferenceIdeal.Value.run m' g'
    · obtain ⟨a0, a1, a2, a3, a4, -, -⟩ := hagree c
      exact attention m m' c hpre a0 a1 a2 a3 a4
    · exact (Cert.Attn.arr_6 m c _ rfl).symm
    · exact (Cert.Attn.arr_7 m c _ rfl).symm

/-- The frames of the calls, at both readings, and of their references; nothing was rewritten between the two readings; under
finite queries and keys the attention's results are its reference's, and the other calls' results are their references'. -/
theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  Cert.Mix.Gen.facts, Cert.MixIdeal.Gen.facts, Cert.MixReferenceIdeal.Gen.facts,
  Cert.Up.Gen.facts, Cert.UpIdeal.Gen.facts, Cert.UpReferenceIdeal.Gen.facts,
  Cert.In.Gen.facts, Cert.InIdeal.Gen.facts, Cert.InReferenceIdeal.Gen.facts, pre_facts,
  fun m ρ _ => Cert.AttnBits.frame m ρ, fun m ρ _ => Cert.Attn.frame m ρ, fun m ρ _ => Cert.Attn.frame m ρ,
  reference_frame, fun m ρ _ => reference_frame m ρ trivial,
  fun m ρ _ => Cert.Down.Gen.frame m ρ, fun m ρ _ => Cert.DownIdeal.Gen.frame m ρ, Cert.Calls.down_reference_frame,
  fun m ρ _ => Cert.Mix.Gen.frame m ρ, fun m ρ _ => Cert.MixIdeal.Gen.frame m ρ, Cert.Calls.mix_reference_frame,
  fun m ρ _ => Cert.Up.Gen.frame m ρ, fun m ρ _ => Cert.UpIdeal.Gen.frame m ρ, Cert.Calls.up_reference_frame,
  fun m ρ _ => Cert.In.Gen.frame m ρ (Cert.InOk.machine_ok m), fun m ρ _ => Cert.InIdeal.Gen.frame m ρ (Cert.InOk.ideal_ok m), Cert.Calls.in_reference_frame,
  trivial, algebraic, trivial, Cert.Calls.down_algebraic, trivial, Cert.Calls.mix_algebraic, trivial, Cert.Calls.up_algebraic,
  trivial, Cert.Calls.in_algebraic⟩

end Cert.Proof

end
